-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_GradKernel (m : (ℓ : Loc Cert.GradKernel.nD Cert.GradKernel.τ Cert.GradKernel.sig) → Buf (Elt Bits) ℓ) : Prop :=
  True

def Pre_GradKernelIdeal (m : (ℓ : Loc Cert.GradKernelIdeal.nD Cert.GradKernelIdeal.τ Cert.GradKernelIdeal.sig) → Buf (Elt Ideal) ℓ) : Prop :=
  True

def Pre_GradReferenceIdeal (m : (ℓ : Loc Cert.GradReferenceIdeal.nD Cert.GradReferenceIdeal.τ Cert.GradReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_finite_ffn [hPre_finite_ffn : Cert.Pre_finite_ffn.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn [hPre_finite_ffn : Cert.Pre_finite_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))) = (fun _ => 1#1)

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormKernelIdeal_finite_norm [hPre_finite_norm : Cert.Pre_finite_norm.Facts] (m : (ℓ : Loc Cert.NormKernelIdeal.nD Cert.NormKernelIdeal.τ Cert.NormKernelIdeal.sig) → Buf (Elt Ideal) ℓ) : Prop :=
  ∀ c : Dev Cert.NormKernelIdeal.nD,
    (Cert.Pre_finite_norm.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5)) (m ((c.tc : Thread Cert.NormKernelIdeal.nD Cert.NormKernelIdeal.τ).loc Cert.NormKernelIdeal.main_arg6))) = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_finite_norm [hPre_finite_norm : Cert.Pre_finite_norm.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_finite_norm.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5)) (m ((c.tc : Thread Cert.NormReferenceIdeal.nD Cert.NormReferenceIdeal.τ).loc Cert.NormReferenceIdeal.main_arg6))) = (fun _ => 1#1)

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_GradKernel [hGradKernel : Cert.GradKernel.Facts] : Prop :=
  ∀ (m : (ℓ : Loc Cert.GradKernel.nD Cert.GradKernel.τ Cert.GradKernel.sig) → Buf (Elt Bits) ℓ) (g : Dev Cert.GradKernel.nD → PrngReg), Pre_GradKernel m →
    θ_run (Cert.GradKernel.defs (F := Bits)) (onTc (τ := Cert.GradKernel.τ) (Cert.GradKernel.main (F := Bits))) ⟨m, fun _ => 0, g⟩ (fun r => (∀ c : Dev Cert.GradKernel.nD,
      r.2.mem ((c.tc : Thread Cert.GradKernel.nD Cert.GradKernel.τ).loc Cert.GradKernel.main_arg0) = m ((c.tc : Thread Cert.GradKernel.nD Cert.GradKernel.τ).loc Cert.GradKernel.main_arg0)
      ∧ r.2.mem ((c.tc : Thread Cert.GradKernel.nD Cert.GradKernel.τ).loc Cert.GradKernel.main_arg1) = m ((c.tc : Thread Cert.GradKernel.nD Cert.GradKernel.τ).loc Cert.GradKernel.main_arg1))
      ∧ r.2.sem = fun _ => 0)

def quiescent_GradKernelIdeal [hGradKernelIdeal : Cert.GradKernelIdeal.Facts] : Prop :=
  ∀ (m : (ℓ : Loc Cert.GradKernelIdeal.nD Cert.GradKernelIdeal.τ Cert.GradKernelIdeal.sig) → Buf (Elt Ideal) ℓ) (g : Dev Cert.GradKernelIdeal.nD → PrngReg), Pre_GradKernelIdeal m →
    θ_run (Cert.GradKernelIdeal.defs (F := Ideal)) (onTc (τ := Cert.GradKernelIdeal.τ) (Cert.GradKernelIdeal.main (F := Ideal))) ⟨m, fun _ => 0, g⟩ (fun r => (∀ c : Dev Cert.GradKernelIdeal.nD,
      r.2.mem ((c.tc : Thread Cert.GradKernelIdeal.nD Cert.GradKernelIdeal.τ).loc Cert.GradKernelIdeal.main_arg0) = m ((c.tc : Thread Cert.GradKernelIdeal.nD Cert.GradKernelIdeal.τ).loc Cert.GradKernelIdeal.main_arg0)
      ∧ r.2.mem ((c.tc : Thread Cert.GradKernelIdeal.nD Cert.GradKernelIdeal.τ).loc Cert.GradKernelIdeal.main_arg1) = m ((c.tc : Thread Cert.GradKernelIdeal.nD Cert.GradKernelIdeal.τ).loc Cert.GradKernelIdeal.main_arg1))
      ∧ r.2.sem = fun _ => 0)

def quiescent_GradReferenceIdeal [hGradReferenceIdeal : Cert.GradReferenceIdeal.Facts] : Prop :=
  ∀ (m : (ℓ : Loc Cert.GradReferenceIdeal.nD Cert.GradReferenceIdeal.τ Cert.GradReferenceIdeal.sig) → Buf (Elt Ideal) ℓ) (g : Dev Cert.GradReferenceIdeal.nD → PrngReg), Pre_GradReferenceIdeal m →
    θ_run (Cert.GradReferenceIdeal.defs (F := Ideal)) (onTc (τ := Cert.GradReferenceIdeal.τ) (Cert.GradReferenceIdeal.main (F := Ideal))) ⟨m, fun _ => 0, g⟩ (fun r => (∀ c : Dev Cert.GradReferenceIdeal.nD,
      r.2.mem ((c.tc : Thread Cert.GradReferenceIdeal.nD Cert.GradReferenceIdeal.τ).loc Cert.GradReferenceIdeal.main_arg0) = m ((c.tc : Thread Cert.GradReferenceIdeal.nD Cert.GradReferenceIdeal.τ).loc Cert.GradReferenceIdeal.main_arg0)
      ∧ r.2.mem ((c.tc : Thread Cert.GradReferenceIdeal.nD Cert.GradReferenceIdeal.τ).loc Cert.GradReferenceIdeal.main_arg1) = m ((c.tc : Thread Cert.GradReferenceIdeal.nD Cert.GradReferenceIdeal.τ).loc Cert.GradReferenceIdeal.main_arg1))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnKernelIdeal_pre_finite_ffn [hFfnKernelIdeal : Cert.FfnKernelIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_finite_ffn m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_finite_ffn [hFfnReferenceIdeal : Cert.FfnReferenceIdeal.Facts] [hPre_finite_ffn : Cert.Pre_finite_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3)
      ∧ r.2.mem ((c.tc : Thread Cert.NormKernel.nD Cert.NormKernel.τ).loc Cert.NormKernel.main_arg4) = m ((c.tc : Thread Cert.NormKernel.nD Cert.NormKernel.τ).loc Cert.NormKernel.main_arg4)
      ∧ r.2.mem ((c.tc : Thread Cert.NormKernel.nD Cert.NormKernel.τ).loc Cert.NormKernel.main_arg5) = m ((c.tc : Thread Cert.NormKernel.nD Cert.NormKernel.τ).loc Cert.NormKernel.main_arg5)
      ∧ r.2.mem ((c.tc : Thread Cert.NormKernel.nD Cert.NormKernel.τ).loc Cert.NormKernel.main_arg6) = m ((c.tc : Thread Cert.NormKernel.nD Cert.NormKernel.τ).loc Cert.NormKernel.main_arg6))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
      ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5)
      ∧ r.2.mem ((c.tc : Thread Cert.NormKernelIdeal.nD Cert.NormKernelIdeal.τ).loc Cert.NormKernelIdeal.main_arg6) = m ((c.tc : Thread Cert.NormKernelIdeal.nD Cert.NormKernelIdeal.τ).loc Cert.NormKernelIdeal.main_arg6))
      ∧ r.2.sem = fun _ => 0)

def quiescent_NormKernelIdeal_pre_finite_norm [hNormKernelIdeal : Cert.NormKernelIdeal.Facts] [hPre_finite_norm : Cert.Pre_finite_norm.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal_finite_norm m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
      ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5)
      ∧ r.2.mem ((c.tc : Thread Cert.NormKernelIdeal.nD Cert.NormKernelIdeal.τ).loc Cert.NormKernelIdeal.main_arg6) = m ((c.tc : Thread Cert.NormKernelIdeal.nD Cert.NormKernelIdeal.τ).loc Cert.NormKernelIdeal.main_arg6))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5)
      ∧ r.2.mem ((c.tc : Thread Cert.NormReferenceIdeal.nD Cert.NormReferenceIdeal.τ).loc Cert.NormReferenceIdeal.main_arg6) = m ((c.tc : Thread Cert.NormReferenceIdeal.nD Cert.NormReferenceIdeal.τ).loc Cert.NormReferenceIdeal.main_arg6))
      ∧ r.2.sem = fun _ => 0)

def quiescent_NormReferenceIdeal_pre_finite_norm [hNormReferenceIdeal : Cert.NormReferenceIdeal.Facts] [hPre_finite_norm : Cert.Pre_finite_norm.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_finite_norm m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5)
      ∧ r.2.mem ((c.tc : Thread Cert.NormReferenceIdeal.nD Cert.NormReferenceIdeal.τ).loc Cert.NormReferenceIdeal.main_arg6) = m ((c.tc : Thread Cert.NormReferenceIdeal.nD Cert.NormReferenceIdeal.τ).loc Cert.NormReferenceIdeal.main_arg6))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_v70) = v4 c
          ∧ r.2.mem ((c.tc : Thread Cert.ReferenceIdeal.nD Cert.ReferenceIdeal.τ).loc Cert.ReferenceIdeal.main_v76) = v5 c
          ∧ r.2.mem ((c.tc : Thread Cert.ReferenceIdeal.nD Cert.ReferenceIdeal.τ).loc Cert.ReferenceIdeal.main_v82) = v6 c
          ∧ r.2.mem ((c.tc : Thread Cert.ReferenceIdeal.nD Cert.ReferenceIdeal.τ).loc Cert.ReferenceIdeal.main_v87) = v7 c
          ∧ r.2.mem ((c.tc : Thread Cert.ReferenceIdeal.nD Cert.ReferenceIdeal.τ).loc Cert.ReferenceIdeal.main_v89) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_GradKernel_GradKernelIdeal : Prop :=
  True

def algebraic_GradKernelIdeal_GradReferenceIdeal [hGradKernelIdeal : Cert.GradKernelIdeal.Facts] [hGradReferenceIdeal : Cert.GradReferenceIdeal.Facts] : Prop :=
  ∀ (m : (ℓ : Loc Cert.GradKernelIdeal.nD Cert.GradKernelIdeal.τ Cert.GradKernelIdeal.sig) → Buf (Elt Ideal) ℓ) (g : Dev Cert.GradKernelIdeal.nD → PrngReg)
    (m' : (ℓ : Loc Cert.GradReferenceIdeal.nD Cert.GradReferenceIdeal.τ Cert.GradReferenceIdeal.sig) → Buf (Elt Ideal) ℓ) (g' : Dev Cert.GradReferenceIdeal.nD → PrngReg), Pre_GradKernelIdeal m →
    (∀ c : Dev Cert.GradKernelIdeal.nD,
      m' ((c.tc : Thread Cert.GradReferenceIdeal.nD Cert.GradReferenceIdeal.τ).loc Cert.GradReferenceIdeal.main_arg0) = m ((c.tc : Thread Cert.GradKernelIdeal.nD Cert.GradKernelIdeal.τ).loc Cert.GradKernelIdeal.main_arg0)
      ∧ m' ((c.tc : Thread Cert.GradReferenceIdeal.nD Cert.GradReferenceIdeal.τ).loc Cert.GradReferenceIdeal.main_arg1) = m ((c.tc : Thread Cert.GradKernelIdeal.nD Cert.GradKernelIdeal.τ).loc Cert.GradKernelIdeal.main_arg1)) →
    ∃ (v0 : (c : Dev Cert.GradKernelIdeal.nD) → Buf (Elt Ideal) ((c.tc : Thread Cert.GradKernelIdeal.nD Cert.GradKernelIdeal.τ).loc Cert.GradKernelIdeal.main_v0_0)) (v1 : (c : Dev Cert.GradKernelIdeal.nD) → Buf (Elt Ideal) ((c.tc : Thread Cert.GradKernelIdeal.nD Cert.GradKernelIdeal.τ).loc Cert.GradKernelIdeal.main_v0_1)),
      θ_run (Cert.GradKernelIdeal.defs (F := Ideal)) (onTc (τ := Cert.GradKernelIdeal.τ) (Cert.GradKernelIdeal.main (F := Ideal))) ⟨m, fun _ => 0, g⟩ (fun r => ∀ c : Dev Cert.GradKernelIdeal.nD,
          r.2.mem ((c.tc : Thread Cert.GradKernelIdeal.nD Cert.GradKernelIdeal.τ).loc Cert.GradKernelIdeal.main_v0_0) = v0 c
          ∧ r.2.mem ((c.tc : Thread Cert.GradKernelIdeal.nD Cert.GradKernelIdeal.τ).loc Cert.GradKernelIdeal.main_v0_1) = v1 c
          ∧ r.2.mem ((c.tc : Thread Cert.GradKernelIdeal.nD Cert.GradKernelIdeal.τ).loc Cert.GradKernelIdeal.main_arg0) = m ((c.tc : Thread Cert.GradKernelIdeal.nD Cert.GradKernelIdeal.τ).loc Cert.GradKernelIdeal.main_arg0)
          ∧ r.2.mem ((c.tc : Thread Cert.GradKernelIdeal.nD Cert.GradKernelIdeal.τ).loc Cert.GradKernelIdeal.main_arg1) = m ((c.tc : Thread Cert.GradKernelIdeal.nD Cert.GradKernelIdeal.τ).loc Cert.GradKernelIdeal.main_arg1))
      ∧ θ_run (Cert.GradReferenceIdeal.defs (F := Ideal)) (onTc (τ := Cert.GradReferenceIdeal.τ) (Cert.GradReferenceIdeal.main (F := Ideal))) ⟨m', fun _ => 0, g'⟩ (fun r => ∀ c : Dev Cert.GradReferenceIdeal.nD,
          r.2.mem ((c.tc : Thread Cert.GradReferenceIdeal.nD Cert.GradReferenceIdeal.τ).loc Cert.GradReferenceIdeal.main_v5) = v0 c
          ∧ r.2.mem ((c.tc : Thread Cert.GradReferenceIdeal.nD Cert.GradReferenceIdeal.τ).loc Cert.GradReferenceIdeal.main_v6) = v1 c
          ∧ r.2.mem ((c.tc : Thread Cert.GradReferenceIdeal.nD Cert.GradReferenceIdeal.τ).loc Cert.GradReferenceIdeal.main_arg0) = m' ((c.tc : Thread Cert.GradReferenceIdeal.nD Cert.GradReferenceIdeal.τ).loc Cert.GradReferenceIdeal.main_arg0)
          ∧ r.2.mem ((c.tc : Thread Cert.GradReferenceIdeal.nD Cert.GradReferenceIdeal.τ).loc Cert.GradReferenceIdeal.main_arg1) = m' ((c.tc : Thread Cert.GradReferenceIdeal.nD Cert.GradReferenceIdeal.τ).loc Cert.GradReferenceIdeal.main_arg1))

def preserves_FfnKernel_FfnKernelIdeal : Prop :=
  True

def algebraic_FfnKernelIdeal_FfnReferenceIdeal_pre_finite_ffn [hFfnKernelIdeal : Cert.FfnKernelIdeal.Facts] [hFfnReferenceIdeal : Cert.FfnReferenceIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_finite_ffn m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v0_2)) (v1 : (c : Dev Cert.FfnKernelIdeal.nD) → Buf (Elt Ideal) ((c.tc : Thread Cert.FfnKernelIdeal.nD Cert.FfnKernelIdeal.τ).loc Cert.FfnKernelIdeal.main_v1_0)) (v2 : (c : Dev Cert.FfnKernelIdeal.nD) → Buf (Elt Ideal) ((c.tc : Thread Cert.FfnKernelIdeal.nD Cert.FfnKernelIdeal.τ).loc Cert.FfnKernelIdeal.main_v1_1)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v0_2) = v0 c
          ∧ r.2.mem ((c.tc : Thread Cert.FfnKernelIdeal.nD Cert.FfnKernelIdeal.τ).loc Cert.FfnKernelIdeal.main_v1_0) = v1 c
          ∧ r.2.mem ((c.tc : Thread Cert.FfnKernelIdeal.nD Cert.FfnKernelIdeal.τ).loc Cert.FfnKernelIdeal.main_v1_1) = v2 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v18) = v0 c
          ∧ r.2.mem ((c.tc : Thread Cert.FfnReferenceIdeal.nD Cert.FfnReferenceIdeal.τ).loc Cert.FfnReferenceIdeal.main_v19) = v1 c
          ∧ r.2.mem ((c.tc : Thread Cert.FfnReferenceIdeal.nD Cert.FfnReferenceIdeal.τ).loc Cert.FfnReferenceIdeal.main_v20) = v2 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_NormKernel_NormKernelIdeal : Prop :=
  True

def algebraic_NormKernelIdeal_NormReferenceIdeal_pre_finite_norm [hNormKernelIdeal : Cert.NormKernelIdeal.Facts] [hNormReferenceIdeal : Cert.NormReferenceIdeal.Facts] [hPre_finite_norm : Cert.Pre_finite_norm.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal_finite_norm m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)
      ∧ m' ((c.tc : Thread Cert.NormReferenceIdeal.nD Cert.NormReferenceIdeal.τ).loc Cert.NormReferenceIdeal.main_arg4) = m ((c.tc : Thread Cert.NormKernelIdeal.nD Cert.NormKernelIdeal.τ).loc Cert.NormKernelIdeal.main_arg4)
      ∧ m' ((c.tc : Thread Cert.NormReferenceIdeal.nD Cert.NormReferenceIdeal.τ).loc Cert.NormReferenceIdeal.main_arg5) = m ((c.tc : Thread Cert.NormKernelIdeal.nD Cert.NormKernelIdeal.τ).loc Cert.NormKernelIdeal.main_arg5)
      ∧ m' ((c.tc : Thread Cert.NormReferenceIdeal.nD Cert.NormReferenceIdeal.τ).loc Cert.NormReferenceIdeal.main_arg6) = m ((c.tc : Thread Cert.NormKernelIdeal.nD Cert.NormKernelIdeal.τ).loc Cert.NormKernelIdeal.main_arg6)) →
    ∃ (v0 : (c : Dev Cert.NormKernelIdeal.nD) → Buf (Elt Ideal) ((c.tc : Thread Cert.NormKernelIdeal.nD Cert.NormKernelIdeal.τ).loc Cert.NormKernelIdeal.main_v0_0)) (v1 : (c : Dev Cert.NormKernelIdeal.nD) → Buf (Elt Ideal) ((c.tc : Thread Cert.NormKernelIdeal.nD Cert.NormKernelIdeal.τ).loc Cert.NormKernelIdeal.main_v0_1)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v0_0) = v0 c
          ∧ r.2.mem ((c.tc : Thread Cert.NormKernelIdeal.nD Cert.NormKernelIdeal.τ).loc Cert.NormKernelIdeal.main_v0_1) = v1 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
          ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
          ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5)
          ∧ r.2.mem ((c.tc : Thread Cert.NormKernelIdeal.nD Cert.NormKernelIdeal.τ).loc Cert.NormKernelIdeal.main_arg6) = m ((c.tc : Thread Cert.NormKernelIdeal.nD Cert.NormKernelIdeal.τ).loc Cert.NormKernelIdeal.main_arg6))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v70) = v0 c
          ∧ r.2.mem ((c.tc : Thread Cert.NormReferenceIdeal.nD Cert.NormReferenceIdeal.τ).loc Cert.NormReferenceIdeal.main_v76) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4)
          ∧ r.2.mem ((c.tc : Thread Cert.NormReferenceIdeal.nD Cert.NormReferenceIdeal.τ).loc Cert.NormReferenceIdeal.main_arg5) = m' ((c.tc : Thread Cert.NormReferenceIdeal.nD Cert.NormReferenceIdeal.τ).loc Cert.NormReferenceIdeal.main_arg5)
          ∧ r.2.mem ((c.tc : Thread Cert.NormReferenceIdeal.nD Cert.NormReferenceIdeal.τ).loc Cert.NormReferenceIdeal.main_arg6) = m' ((c.tc : Thread Cert.NormReferenceIdeal.nD Cert.NormReferenceIdeal.τ).loc Cert.NormReferenceIdeal.main_arg6))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)) →
    ∃ (v0 : (c : Dev Cert.OutKernelIdeal.nD) → Buf (Elt Ideal) ((c.tc : Thread Cert.OutKernelIdeal.nD Cert.OutKernelIdeal.τ).loc Cert.OutKernelIdeal.main_v0_0)) (v1 : (c : Dev Cert.OutKernelIdeal.nD) → Buf (Elt Ideal) ((c.tc : Thread Cert.OutKernelIdeal.nD Cert.OutKernelIdeal.τ).loc Cert.OutKernelIdeal.main_v0_1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v0_0) = v0 c
          ∧ r.2.mem ((c.tc : Thread Cert.OutKernelIdeal.nD Cert.OutKernelIdeal.τ).loc Cert.OutKernelIdeal.main_v0_1) = v1 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v5) = v0 c
          ∧ r.2.mem ((c.tc : Thread Cert.OutReferenceIdeal.nD Cert.OutReferenceIdeal.τ).loc Cert.OutReferenceIdeal.main_v6) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)) →
    ∃ (v0 : (c : Dev Cert.InKernelIdeal.nD) → Buf (Elt Ideal) ((c.tc : Thread Cert.InKernelIdeal.nD Cert.InKernelIdeal.τ).loc Cert.InKernelIdeal.main_v0_0)) (v1 : (c : Dev Cert.InKernelIdeal.nD) → Buf (Elt Ideal) ((c.tc : Thread Cert.InKernelIdeal.nD Cert.InKernelIdeal.τ).loc Cert.InKernelIdeal.main_v0_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v0_0) = v0 c
          ∧ r.2.mem ((c.tc : Thread Cert.InKernelIdeal.nD Cert.InKernelIdeal.τ).loc Cert.InKernelIdeal.main_v0_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v6) = v0 c
          ∧ r.2.mem ((c.tc : Thread Cert.InReferenceIdeal.nD Cert.InReferenceIdeal.τ).loc Cert.InReferenceIdeal.main_v8) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2))

def Claim : Prop :=
  ∃ (hKernel : Cert.Kernel.Facts) (hKernelIdeal : Cert.KernelIdeal.Facts) (hReferenceIdeal : Cert.ReferenceIdeal.Facts) (hGradKernel : Cert.GradKernel.Facts) (hGradKernelIdeal : Cert.GradKernelIdeal.Facts) (hGradReferenceIdeal : Cert.GradReferenceIdeal.Facts) (hFfnKernel : Cert.FfnKernel.Facts) (hFfnKernelIdeal : Cert.FfnKernelIdeal.Facts) (hFfnReferenceIdeal : Cert.FfnReferenceIdeal.Facts) (hNormKernel : Cert.NormKernel.Facts) (hNormKernelIdeal : Cert.NormKernelIdeal.Facts) (hNormReferenceIdeal : Cert.NormReferenceIdeal.Facts) (hOutKernel : Cert.OutKernel.Facts) (hOutKernelIdeal : Cert.OutKernelIdeal.Facts) (hOutReferenceIdeal : Cert.OutReferenceIdeal.Facts) (hInKernel : Cert.InKernel.Facts) (hInKernelIdeal : Cert.InKernelIdeal.Facts) (hInReferenceIdeal : Cert.InReferenceIdeal.Facts) (hPre_finite : Cert.Pre_finite.Facts) (hPre_finite_ffn : Cert.Pre_finite_ffn.Facts) (hPre_finite_norm : Cert.Pre_finite_norm.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GradKernel (hGradKernel := hGradKernel)
    ∧ quiescent_GradKernelIdeal (hGradKernelIdeal := hGradKernelIdeal)
    ∧ quiescent_GradReferenceIdeal (hGradReferenceIdeal := hGradReferenceIdeal)
    ∧ quiescent_FfnKernel (hFfnKernel := hFfnKernel)
    ∧ quiescent_FfnKernelIdeal (hFfnKernelIdeal := hFfnKernelIdeal)
    ∧ quiescent_FfnKernelIdeal_pre_finite_ffn (hFfnKernelIdeal := hFfnKernelIdeal) (hPre_finite_ffn := hPre_finite_ffn)
    ∧ quiescent_FfnReferenceIdeal (hFfnReferenceIdeal := hFfnReferenceIdeal)
    ∧ quiescent_FfnReferenceIdeal_pre_finite_ffn (hFfnReferenceIdeal := hFfnReferenceIdeal) (hPre_finite_ffn := hPre_finite_ffn)
    ∧ quiescent_NormKernel (hNormKernel := hNormKernel)
    ∧ quiescent_NormKernelIdeal (hNormKernelIdeal := hNormKernelIdeal)
    ∧ quiescent_NormKernelIdeal_pre_finite_norm (hNormKernelIdeal := hNormKernelIdeal) (hPre_finite_norm := hPre_finite_norm)
    ∧ quiescent_NormReferenceIdeal (hNormReferenceIdeal := hNormReferenceIdeal)
    ∧ quiescent_NormReferenceIdeal_pre_finite_norm (hNormReferenceIdeal := hNormReferenceIdeal) (hPre_finite_norm := hPre_finite_norm)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GradKernel_GradKernelIdeal
    ∧ algebraic_GradKernelIdeal_GradReferenceIdeal (hGradKernelIdeal := hGradKernelIdeal) (hGradReferenceIdeal := hGradReferenceIdeal)
    ∧ preserves_FfnKernel_FfnKernelIdeal
    ∧ algebraic_FfnKernelIdeal_FfnReferenceIdeal_pre_finite_ffn (hFfnKernelIdeal := hFfnKernelIdeal) (hFfnReferenceIdeal := hFfnReferenceIdeal) (hPre_finite_ffn := hPre_finite_ffn)
    ∧ preserves_NormKernel_NormKernelIdeal
    ∧ algebraic_NormKernelIdeal_NormReferenceIdeal_pre_finite_norm (hNormKernelIdeal := hNormKernelIdeal) (hNormReferenceIdeal := hNormReferenceIdeal) (hPre_finite_norm := hPre_finite_norm)
    ∧ preserves_OutKernel_OutKernelIdeal
    ∧ algebraic_OutKernelIdeal_OutReferenceIdeal (hOutKernelIdeal := hOutKernelIdeal) (hOutReferenceIdeal := hOutReferenceIdeal)
    ∧ preserves_InKernel_InKernelIdeal
    ∧ algebraic_InKernelIdeal_InReferenceIdeal (hInKernelIdeal := hInKernelIdeal) (hInReferenceIdeal := hInReferenceIdeal)
-- ==== Pre_finite.lean ====
abbrev S16384x256 : Shape := ⟨2, ![16384, 256]⟩
abbrev S16384x512 : Shape := ⟨2, ![16384, 512]⟩
abbrev S256x128x256 : Shape := ⟨3, ![256, 128, 256]⟩
abbrev S2x128x256 : Shape := ⟨3, ![2, 128, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bitsLt_bf16_f32 : FTy.bits .bf16 < FTy.bits .f32
  bcast_S_S256x128x256 : S_.BroadcastsInDim S256x128x256 (![] : Fin 0 → Fin S256x128x256.rank)
  reducesTo_S256x128x256_S_d0_1_2 : S256x128x256.ReducesTo [0, 1, 2] S_
  bcast_S_S2x128x256 : S_.BroadcastsInDim S2x128x256 (![] : Fin 0 → Fin S2x128x256.rank)
  reducesTo_S2x128x256_S_d0_1_2 : S2x128x256.ReducesTo [0, 1, 2] S_

variable [Facts]

def fn_part2 {F : FTy → Type} [FloatOps F] (main_arg7 : FVec F S2x128x256 .f32) (main_v29 : IVec S_ 1) (main_v33 : IVec S_ 1) : IVec S_ 1 :=
  let main_v34 : IVec S_ 1 := andi main_v29 main_v33
  let main_v35 : FVec F S2x128x256 .f32 := Host.absf main_arg7
  let main_cst_12 : FVec F S_ .f32 := constant S_ .f32 0x7F800000#32
  let main_v36 : FVec F S2x128x256 .f32 := broadcastInDim S2x128x256 ![] bcast_S_S2x128x256 main_cst_12
  let main_v37 : IVec S2x128x256 1 := cmpf .olt main_v35 main_v36
  let main_c_13 : IVec S_ 1 := constantI S_ 1 1#1
  let main_v38 : IVec S_ 1 := (fun x v => Host.reduce IntOp.andi x v reducesTo_S2x128x256_S_d0_1_2 h_S_) main_v37 main_c_13
  let main_v39 : IVec S_ 1 := andi main_v34 main_v38
  main_v39

def fn_part1 {F : FTy → Type} [FloatOps F] (main_arg4 : FVec F S16384x512 .bf16) (main_arg5 : FVec F S256x128x256 .f32) (main_arg6 : FVec F S256x128x256 .f32) (main_arg7 : FVec F S2x128x256 .f32) (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  let main_v19 : FVec F S16384x512 .f32 := (extf .f32 · bitsLt_bf16_f32) main_arg4
  let main_v20 : FVec F S16384x512 .f32 := Host.absf main_v19
  let main_cst_6 : FVec F S_ .f32 := constant S_ .f32 0x7F800000#32
  let main_v21 : FVec F S16384x512 .f32 := broadcastInDim S16384x512 ![] bcast_S_S16384x512 main_cst_6
  let main_v22 : IVec S16384x512 1 := cmpf .olt main_v20 main_v21
  let main_c_7 : IVec S_ 1 := constantI S_ 1 1#1
  let main_v23 : IVec S_ 1 := (fun x v => Host.reduce IntOp.andi x v reducesTo_S16384x512_S_d0_1 h_S_) main_v22 main_c_7
  let main_v24 : IVec S_ 1 := andi main_v18 main_v23
  let main_v25 : FVec F S256x128x256 .f32 := Host.absf main_arg5
  let main_cst_8 : FVec F S_ .f32 := constant S_ .f32 0x7F800000#32
  let main_v26 : FVec F S256x128x256 .f32 := broadcastInDim S256x128x256 ![] bcast_S_S256x128x256 main_cst_8
  let main_v27 : IVec S256x128x256 1 := cmpf .olt main_v25 main_v26
  let main_c_9 : IVec S_ 1 := constantI S_ 1 1#1
  let main_v28 : IVec S_ 1 := (fun x v => Host.reduce IntOp.andi x v reducesTo_S256x128x256_S_d0_1_2 h_S_) main_v27 main_c_9
  let main_v29 : IVec S_ 1 := andi main_v24 main_v28
  let main_v30 : FVec F S256x128x256 .f32 := Host.absf main_arg6
  let main_cst_10 : FVec F S_ .f32 := constant S_ .f32 0x7F800000#32
  let main_v31 : FVec F S256x128x256 .f32 := broadcastInDim S256x128x256 ![] bcast_S_S256x128x256 main_cst_10
  let main_v32 : IVec S256x128x256 1 := cmpf .olt main_v30 main_v31
  let main_c_11 : IVec S_ 1 := constantI S_ 1 1#1
  let main_v33 : IVec S_ 1 := (fun x v => Host.reduce IntOp.andi x v reducesTo_S256x128x256_S_d0_1_2 h_S_) main_v32 main_c_11
  fn_part2 (F := F) main_arg7 main_v29 main_v33

def fn {F : FTy → Type} [FloatOps F] (main_arg0 : FVec F S16384x256 .f32) (main_arg1 : FVec F S16384x256 .f32) (main_arg2 : FVec F S16384x512 .f32) (main_arg3 : FVec F S16384x512 .f32) (main_arg4 : FVec F S16384x512 .bf16) (main_arg5 : FVec F S256x128x256 .f32) (main_arg6 : FVec F S256x128x256 .f32) (main_arg7 : FVec F S2x128x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_arg4 main_arg5 main_arg6 main_arg7 main_v13 main_v16
-- ==== Pre_finite_ffn.lean ====
abbrev S16384x1024 : Shape := ⟨2, ![16384, 1024]⟩
abbrev S2816x1024 : Shape := ⟨2, ![2816, 1024]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S16384x1024 .bf16) (main_v4 : IVec S_ 1) (main_v9 : IVec S_ 1) (main_v14 : IVec S_ 1) (main_v16 : FVec F S2816x1024 .f32) (main_cst_4 : FVec F S_ .f32) : IVec S_ 1 :=
  let main_v17 : FVec F S2816x1024 .f32 := broadcastInDim S2816x1024 ![] bcast_S_S2816x1024 main_cst_4
  let main_v18 : IVec S2816x1024 1 := cmpf .olt main_v16 main_v17
  let main_c_5 : IVec S_ 1 := constantI S_ 1 1#1
  let main_v19 : IVec S_ 1 := (fun x v => Host.reduce IntOp.andi x v reducesTo_S2816x1024_S_d0_1 h_S_) main_v18 main_c_5
  let main_v20 : FVec F S16384x1024 .f32 := (extf .f32 · bitsLt_bf16_f32) main_arg4
  let main_v21 : FVec F S16384x1024 .f32 := Host.absf main_v20
  let main_cst_6 : FVec F S_ .f32 := constant S_ .f32 0x7F800000#32
  let main_v22 : FVec F S16384x1024 .f32 := broadcastInDim S16384x1024 ![] bcast_S_S16384x1024 main_cst_6
  let main_v23 : IVec S16384x1024 1 := cmpf .olt main_v21 main_v22
  let main_c_7 : IVec S_ 1 := constantI S_ 1 1#1
  let main_v24 : IVec S_ 1 := (fun x v => Host.reduce IntOp.andi x v reducesTo_S16384x1024_S_d0_1 h_S_) main_v23 main_c_7
  let main_v25 : IVec S_ 1 := andi main_v4 main_v9
  let main_v26 : IVec S_ 1 := andi main_v25 main_v14
  let main_v27 : IVec S_ 1 := andi main_v26 main_v19
  let main_v28 : IVec S_ 1 := andi main_v27 main_v24
  main_v28

def fn {F : FTy → Type} [FloatOps F] (main_arg0 : FVec F S16384x1024 .bf16) (main_arg1 : FVec F S2816x1024 .bf16) (main_arg2 : FVec F S2816x1024 .bf16) (main_arg3 : FVec F S2816x1024 .bf16) (main_arg4 : FVec F S16384x1024 .bf16) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : FVec F S2816x1024 .f32 := (extf .f32 · bitsLt_bf16_f32) main_arg2
  let main_v11 : FVec F S2816x1024 .f32 := Host.absf main_v10
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  let main_c_3 : IVec S_ 1 := constantI S_ 1 1#1
  let main_v14 : IVec S_ 1 := (fun x v => Host.reduce IntOp.andi x v reducesTo_S2816x1024_S_d0_1 h_S_) main_v13 main_c_3
  let main_v15 : FVec F S2816x1024 .f32 := (extf .f32 · bitsLt_bf16_f32) main_arg3
  let main_v16 : FVec F S2816x1024 .f32 := Host.absf main_v15
  let main_cst_4 : FVec F S_ .f32 := constant S_ .f32 0x7F800000#32
  fn_part1 (F := F) main_arg4 main_v4 main_v9 main_v14 main_v16 main_cst_4
-- ==== Pre_finite_norm.lean ====
abbrev S16384x2816 : Shape := ⟨2, ![16384, 2816]⟩
abbrev S16384x1024 : Shape := ⟨2, ![16384, 1024]⟩
abbrev S8x1024 : Shape := ⟨2, ![8, 1024]⟩
abbrev S2816x1024 : Shape := ⟨2, ![2816, 1024]⟩
abbrev S_ : Shape := ⟨0, ![]⟩

class Facts : Prop where
  bitsLt_bf16_f32 : FTy.bits .bf16 < FTy.bits .f32
  bcast_S_S16384x2816 : S_.BroadcastsInDim S16384x2816 (![] : Fin 0 → Fin S16384x2816.rank)
  reducesTo_S16384x2816_S_d0_1 : S16384x2816.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S8x1024 : S_.BroadcastsInDim S8x1024 (![] : Fin 0 → Fin S8x1024.rank)
  reducesTo_S8x1024_S_d0_1 : S8x1024.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg5 : FVec F S2816x1024 .bf16) (main_arg6 : FVec F S2816x1024 .bf16) (main_v4 : IVec S_ 1) (main_v9 : IVec S_ 1) (main_v13 : IVec S_ 1) (main_v16 : IVec S8x1024 1) : IVec S_ 1 :=
  let main_c_5 : IVec S_ 1 := constantI S_ 1 1#1
  let main_v17 : IVec S_ 1 := (fun x v => Host.reduce IntOp.andi x v reducesTo_S8x1024_S_d0_1 h_S_) main_v16 main_c_5
  let main_v18 : FVec F S2816x1024 .f32 := (extf .f32 · bitsLt_bf16_f32) main_arg5
  let main_v19 : FVec F S2816x1024 .f32 := Host.absf main_v18
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : FVec F S2816x1024 .f32 := (extf .f32 · bitsLt_bf16_f32) main_arg6
  let main_v24 : FVec F S2816x1024 .f32 := Host.absf main_v23
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v4 main_v9
  let main_v29 : IVec S_ 1 := andi main_v28 main_v13
  let main_v30 : IVec S_ 1 := andi main_v29 main_v17
  let main_v31 : IVec S_ 1 := andi main_v30 main_v22
  let main_v32 : IVec S_ 1 := andi main_v31 main_v27
  main_v32

def fn {F : FTy → Type} [FloatOps F] (main_arg0 : FVec F S16384x2816 .bf16) (main_arg1 : FVec F S16384x2816 .bf16) (main_arg2 : FVec F S16384x1024 .f32) (main_arg3 : FVec F S16384x1024 .f32) (main_arg4 : FVec F S8x1024 .f32) (main_arg5 : FVec F S2816x1024 .bf16) (main_arg6 : FVec F S2816x1024 .bf16) : IVec S_ 1 :=
  let main_v0 : FVec F S16384x2816 .f32 := (extf .f32 · bitsLt_bf16_f32) main_arg0
  let main_v1 : FVec F S16384x2816 .f32 := Host.absf main_v0
  let main_cst : FVec F S_ .f32 := constant S_ .f32 0x7F800000#32
  let main_v2 : FVec F S16384x2816 .f32 := broadcastInDim S16384x2816 ![] bcast_S_S16384x2816 main_cst
  let main_v3 : IVec S16384x2816 1 := cmpf .olt main_v1 main_v2
  let main_c : IVec S_ 1 := constantI S_ 1 1#1
  let main_v4 : IVec S_ 1 := (fun x v => Host.reduce IntOp.andi x v reducesTo_S16384x2816_S_d0_1 h_S_) main_v3 main_c
  let main_v5 : FVec F S16384x2816 .f32 := (extf .f32 · bitsLt_bf16_f32) main_arg1
  let main_v6 : FVec F S16384x2816 .f32 := Host.absf main_v5
  let main_cst_0 : FVec F S_ .f32 := constant S_ .f32 0x7F800000#32
  let main_v7 : FVec F S16384x2816 .f32 := broadcastInDim S16384x2816 ![] bcast_S_S16384x2816 main_cst_0
  let main_v8 : IVec S16384x2816 1 := cmpf .olt main_v6 main_v7
  let main_c_1 : IVec S_ 1 := constantI S_ 1 1#1
  let main_v9 : IVec S_ 1 := (fun x v => Host.reduce IntOp.andi x v reducesTo_S16384x2816_S_d0_1 h_S_) main_v8 main_c_1
  let main_v10 : FVec F S16384x1024 .f32 := Host.absf main_arg2
  let main_cst_2 : FVec F S_ .f32 := constant S_ .f32 0x7F800000#32
  let main_v11 : FVec F S16384x1024 .f32 := broadcastInDim S16384x1024 ![] bcast_S_S16384x1024 main_cst_2
  let main_v12 : IVec S16384x1024 1 := cmpf .olt main_v10 main_v11
  let main_c_3 : IVec S_ 1 := constantI S_ 1 1#1
  let main_v13 : IVec S_ 1 := (fun x v => Host.reduce IntOp.andi x v reducesTo_S16384x1024_S_d0_1 h_S_) main_v12 main_c_3
  let main_v14 : FVec F S8x1024 .f32 := Host.absf main_arg4
  let main_cst_4 : FVec F S_ .f32 := constant S_ .f32 0x7F800000#32
  let main_v15 : FVec F S8x1024 .f32 := broadcastInDim S8x1024 ![] bcast_S_S8x1024 main_cst_4
  let main_v16 : IVec S8x1024 1 := cmpf .olt main_v14 main_v15
  fn_part1 (F := F) main_arg5 main_arg6 main_v4 main_v9 main_v13 main_v16
-- ==== Kernel.lean ====
abbrev S16384x256 : Shape := ⟨2, ![16384, 256]⟩
abbrev S16384x512 : Shape := ⟨2, ![16384, 512]⟩
abbrev S256x128x256 : Shape := ⟨3, ![256, 128, 256]⟩
abbrev S2x128x256 : Shape := ⟨3, ![2, 128, 256]⟩
abbrev S1024x256 : Shape := ⟨2, ![1024, 256]⟩
abbrev S1024x512 : Shape := ⟨2, ![1024, 512]⟩
abbrev S16x128x256 : Shape := ⟨3, ![16, 128, 256]⟩
abbrev S64x512 : Shape := ⟨2, ![64, 512]⟩
abbrev S64x256 : Shape := ⟨2, ![64, 256]⟩
abbrev S64x64 : Shape := ⟨2, ![64, 64]⟩
abbrev S256x64 : Shape := ⟨2, ![256, 64]⟩
abbrev S1x256 : Shape := ⟨2, ![1, 256]⟩
abbrev S64x768 : Shape := ⟨2, ![64, 768]⟩
abbrev S256 : Shape := ⟨1, ![256]⟩
abbrev S256x256 : Shape := ⟨2, ![256, 256]⟩
abbrev S1x128x256 : Shape := ⟨3, ![1, 128, 256]⟩
abbrev S128x256 : Shape := ⟨2, ![128, 256]⟩
abbrev S64x128 : Shape := ⟨2, ![64, 128]⟩
abbrev S256x128 : Shape := ⟨2, ![256, 128]⟩
abbrev S128x128 : Shape := ⟨2, ![128, 128]⟩
abbrev S1x128 : Shape := ⟨2, ![1, 128]⟩

abbrev nBuf : Space → Nat
  | .hbm => 17
  | .vmem => 43
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x512, .f32⟩
  | .hbm, ⟨3, _⟩ => ⟨S16384x512, .f32⟩
  | .hbm, ⟨4, _⟩ => ⟨S16384x512, .bf16⟩
  | .hbm, ⟨5, _⟩ => ⟨S256x128x256, .f32⟩
  | .hbm, ⟨6, _⟩ => ⟨S256x128x256, .f32⟩
  | .hbm, ⟨7, _⟩ => ⟨S2x128x256, .f32⟩
  | .hbm, ⟨8, _⟩ => ⟨S16384x256, .bf16⟩
  | .hbm, ⟨9, _⟩ => ⟨S16384x256, .bf16⟩
  | .hbm, ⟨10, _⟩ => ⟨S16384x512, .bf16⟩
  | .hbm, ⟨11, _⟩ => ⟨S16384x256, .f32⟩
  | .hbm, ⟨12, _⟩ => ⟨S16384x256, .bf16⟩
  | .hbm, ⟨13, _⟩ => ⟨S16384x256, .bf16⟩
  | .hbm, ⟨14, _⟩ => ⟨S16384x512, .bf16⟩
  | .hbm, ⟨15, _⟩ => ⟨S16384x256, .f32⟩
  | .hbm, ⟨16, _⟩ => ⟨S2x128x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x512, .f32⟩
  | .local _ .vmem, ⟨5, _⟩ => ⟨S1024x512, .f32⟩
  | .local _ .vmem, ⟨6, _⟩ => ⟨S1024x256, .f32⟩
  | .local _ .vmem, ⟨7, _⟩ => ⟨S1024x256, .f32⟩
  | .local _ .vmem, ⟨8, _⟩ => ⟨S1024x512, .bf16⟩
  | .local _ .vmem, ⟨9, _⟩ => ⟨S1024x512, .bf16⟩
  | .local _ .vmem, ⟨10, _⟩ => ⟨S16x128x256, .f32⟩
  | .local _ .vmem, ⟨11, _⟩ => ⟨S16x128x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x512, .f32⟩
  | .local _ .vmem, ⟨17, _⟩ => ⟨S1024x512, .f32⟩
  | .local _ .vmem, ⟨18, _⟩ => ⟨S1024x256, .f32⟩
  | .local _ .vmem, ⟨19, _⟩ => ⟨S1024x256, .f32⟩
  | .local _ .vmem, ⟨20, _⟩ => ⟨S1024x512, .bf16⟩
  | .local _ .vmem, ⟨21, _⟩ => ⟨S1024x512, .bf16⟩
  | .local _ .vmem, ⟨22, _⟩ => ⟨S16x128x256, .f32⟩
  | .local _ .vmem, ⟨23, _⟩ => ⟨S16x128x256, .f32⟩
  | .local _ .vmem, ⟨24, _⟩ => ⟨S2x128x256, .f32⟩
  | .local _ .vmem, ⟨25, _⟩ => ⟨S1024x256, .bf16⟩
  | .local _ .vmem, ⟨26, _⟩ => ⟨S1024x256, .bf16⟩
  | .local _ .vmem, ⟨27, _⟩ => ⟨S1024x256, .bf16⟩
  | .local _ .vmem, ⟨28, _⟩ => ⟨S1024x256, .bf16⟩
  | .local _ .vmem, ⟨29, _⟩ => ⟨S1024x512, .bf16⟩
  | .local _ .vmem, ⟨30, _⟩ => ⟨S1024x512, .bf16⟩
  | .local _ .vmem, ⟨31, _⟩ => ⟨S1024x256, .f32⟩
  | .local _ .vmem, ⟨32, _⟩ => ⟨S1024x256, .f32⟩
  | .local _ .vmem, ⟨33, _⟩ => ⟨S1024x256, .bf16⟩
  | .local _ .vmem, ⟨34, _⟩ => ⟨S1024x256, .bf16⟩
  | .local _ .vmem, ⟨35, _⟩ => ⟨S1024x256, .bf16⟩
  | .local _ .vmem, ⟨36, _⟩ => ⟨S1024x256, .bf16⟩
  | .local _ .vmem, ⟨37, _⟩ => ⟨S1024x512, .bf16⟩
  | .local _ .vmem, ⟨38, _⟩ => ⟨S1024x512, .bf16⟩
  | .local _ .vmem, ⟨39, _⟩ => ⟨S1024x256, .f32⟩
  | .local _ .vmem, ⟨40, _⟩ => ⟨S1024x256, .f32⟩
  | .local _ .vmem, ⟨41, _⟩ => ⟨S2x128x256, .f32⟩
  | .local _ .vmem, ⟨42, _⟩ => ⟨S2x128x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev main_v0_8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_stg21_0 : Ref sig .tc := ⟨.vmem, 41, rfl⟩
abbrev cc0_scratch0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40
abbrev cc0_sem21_0 : DmaSem sig := 41

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v15043 : BitVec 1 := Scalar.cmpi .eq arg0 c15_i32
  let v15044 : BitVec 32 := Scalar.extui v15043
  let c0_i32_4093 : BitVec 32 := 0#32
  let v15045 : BitVec 1 := Scalar.cmpi .ne v15044 c0_i32_4093
  v15045

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2x128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S2x128x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== ReferenceIdeal.lean ====
abbrev S16384x256 : Shape := ⟨2, ![16384, 256]⟩
abbrev S16384x512 : Shape := ⟨2, ![16384, 512]⟩
abbrev S256x128x256 : Shape := ⟨3, ![256, 128, 256]⟩
abbrev S2x128x256 : Shape := ⟨3, ![2, 128, 256]⟩
abbrev S1x256x128x256 : Shape := ⟨4, ![1, 256, 128, 256]⟩
abbrev S2x256x128x256 : Shape := ⟨4, ![2, 256, 128, 256]⟩
abbrev S2x256x128x4x64 : Shape := ⟨5, ![2, 256, 128, 4, 64]⟩
abbrev S256x2x4x64x128 : Shape := ⟨5, ![256, 2, 4, 64, 128]⟩
abbrev S1x16384x256 : Shape := ⟨3, ![1, 16384, 256]⟩
abbrev S2x16384x256 : Shape := ⟨3, ![2, 16384, 256]⟩
abbrev S2x256x64x4x64 : Shape := ⟨5, ![2, 256, 64, 4, 64]⟩
abbrev S256x2x4x64x64 : Shape := ⟨5, ![256, 2, 4, 64, 64]⟩
abbrev S1x16384x512 : Shape := ⟨3, ![1, 16384, 512]⟩
abbrev S2x16384x512 : Shape := ⟨3, ![2, 16384, 512]⟩
abbrev S2x256x64x4x128 : Shape := ⟨5, ![2, 256, 64, 4, 128]⟩
abbrev S2x128x4x64 : Shape := ⟨4, ![2, 128, 4, 64]⟩
abbrev S2x4x64x128 : Shape := ⟨4, ![2, 4, 64, 128]⟩
abbrev S_ : Shape := ⟨0, ![]⟩
abbrev S1x2x4x64x64 : Shape := ⟨5, ![1, 2, 4, 64, 64]⟩
abbrev S2x4x64x64 : Shape := ⟨4, ![2, 4, 64, 64]⟩
abbrev S1x2x4x64x128 : Shape := ⟨5, ![1, 2, 4, 64, 128]⟩
abbrev S2x4x1x64 : Shape := ⟨4, ![2, 4, 1, 64]⟩
abbrev S2x4x64 : Shape := ⟨3, ![2, 4, 64]⟩
abbrev S2x4x64x1 : Shape := ⟨4, ![2, 4, 64, 1]⟩
abbrev S64x64 : Shape := ⟨2, ![64, 64]⟩
abbrev S2x4x128x64 : Shape := ⟨4, ![2, 4, 128, 64]⟩

abbrev nBuf : Space → Nat
  | .hbm => 282
  | .vmem => 0
  | .smem => 0
  | _ => 0

abbrev hbmTy0_0 (i : Nat) : BufTy := match i % 128 with
  | 0 => ⟨S16384x256, .f32⟩
  | 1 => ⟨S16384x256, .f32⟩
  | 2 => ⟨S16384x512, .f32⟩
  | 3 => ⟨S16384x512, .f32⟩
  | 4 => ⟨S16384x512, .bf16⟩
  | 5 => ⟨S256x128x256, .f32⟩
  | 6 => ⟨S256x128x256, .f32⟩
  | 7 => ⟨S2x128x256, .f32⟩
  | 8 => ⟨S16384x512, .f32⟩
  | 9 => ⟨S256x128x256, .f32⟩
  | 10 => ⟨S1x256x128x256, .f32⟩
  | 11 => ⟨S1x256x128x256, .f32⟩
  | 12 => ⟨S2x256x128x256, .f32⟩
  | 13 => ⟨S2x256x128x4x64, .f32⟩
  | 14 => ⟨S256x2x4x64x128, .f32⟩
  | 15 => ⟨S16384x256, .f32⟩
  | 16 => ⟨S1x16384x256, .f32⟩
  | 17 => ⟨S1x16384x256, .f32⟩
  | 18 => ⟨S2x16384x256, .f32⟩
  | 19 => ⟨S2x256x64x4x64, .f32⟩
  | 20 => ⟨S256x2x4x64x64, .f32⟩
  | 21 => ⟨S16384x256, .f32⟩
  | 22 => ⟨S1x16384x256, .f32⟩
  | 23 => ⟨S1x16384x256, .f32⟩
  | 24 => ⟨S2x16384x256, .f32⟩
  | 25 => ⟨S2x256x64x4x64, .f32⟩
  | 26 => ⟨S256x2x4x64x64, .f32⟩
  | 27 => ⟨S16384x512, .f32⟩
  | 28 => ⟨S1x16384x512, .f32⟩
  | 29 => ⟨S1x16384x512, .f32⟩
  | 30 => ⟨S2x16384x512, .f32⟩
  | 31 => ⟨S2x256x64x4x128, .f32⟩
  | 32 => ⟨S256x2x4x64x128, .f32⟩
  | 33 => ⟨S16384x256, .f32⟩
  | 34 => ⟨S16384x256, .f32⟩
  | 35 => ⟨S16384x256, .f32⟩
  | 36 => ⟨S1x16384x256, .f32⟩
  | 37 => ⟨S1x16384x256, .f32⟩
  | 38 => ⟨S2x16384x256, .f32⟩
  | 39 => ⟨S2x256x64x4x64, .f32⟩
  | 40 => ⟨S256x2x4x64x64, .f32⟩
  | 41 => ⟨S16384x512, .f32⟩
  | 42 => ⟨S1x16384x512, .f32⟩
  | 43 => ⟨S1x16384x512, .f32⟩
  | 44 => ⟨S2x16384x512, .f32⟩
  | 45 => ⟨S2x256x64x4x128, .f32⟩
  | 46 => ⟨S256x2x4x64x128, .f32⟩
  | 47 => ⟨S2x128x4x64, .f32⟩
  | 48 => ⟨S2x4x64x128, .f32⟩
  | 49 => ⟨S_, .f32⟩
  | 50 => ⟨S256x2x4x64x64, .f32⟩
  | 51 => ⟨S_, .f32⟩
  | 52 => ⟨S256x2x4x64x64, .f32⟩
  | 53 => ⟨S_, .f32⟩
  | 54 => ⟨S256x2x4x64x128, .f32⟩
  | 55 => ⟨S_, .f32⟩
  | 56 => ⟨S256x2x4x64x64, .f32⟩
  | 57 => ⟨S_, .i32⟩
  | 58 => ⟨S256x2x4x64x64, .f32⟩
  | 59 => ⟨S256x2x4x64x64, .f32⟩
  | 60 => ⟨S256x2x4x64x128, .f32⟩
  | 61 => ⟨S256x2x4x64x64, .f32⟩
  | 62 => ⟨S256x2x4x64x128, .f32⟩
  | 63 => ⟨S256x2x4x64x128, .f32⟩
  | 64 => ⟨S_, .i32⟩
  | 65 => ⟨S2x4x64x128, .f32⟩
  | 66 => ⟨S256x2x4x64x64, .f32⟩
  | 67 => ⟨S256x2x4x64x64, .f32⟩
  | 68 => ⟨S256x2x4x64x128, .f32⟩
  | 69 => ⟨S256x2x4x64x64, .f32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S1x2x4x64x64, .f32⟩
  | 81 => ⟨S2x4x64x64, .f32⟩
  | 82 => ⟨S_, .i32⟩
  | 83 => ⟨S_, .i32⟩
  | 84 => ⟨S_, .i32⟩
  | 85 => ⟨S_, .i32⟩
  | 86 => ⟨S1x2x4x64x64, .f32⟩
  | 87 => ⟨S2x4x64x64, .f32⟩
  | 88 => ⟨S_, .i32⟩
  | 89 => ⟨S_, .i32⟩
  | 90 => ⟨S_, .i32⟩
  | 91 => ⟨S_, .i32⟩
  | 92 => ⟨S1x2x4x64x128, .f32⟩
  | 93 => ⟨S2x4x64x128, .f32⟩
  | 94 => ⟨S_, .i32⟩
  | 95 => ⟨S_, .i32⟩
  | 96 => ⟨S_, .i32⟩
  | 97 => ⟨S_, .i32⟩
  | 98 => ⟨S1x2x4x64x64, .f32⟩
  | 99 => ⟨S2x4x64x64, .f32⟩
  | 100 => ⟨S_, .i32⟩
  | 101 => ⟨S_, .i32⟩
  | 102 => ⟨S_, .i32⟩
  | 103 => ⟨S_, .i32⟩
  | 104 => ⟨S1x2x4x64x128, .f32⟩
  | 105 => ⟨S2x4x64x128, .f32⟩
  | 106 => ⟨S_, .i32⟩
  | 107 => ⟨S_, .i32⟩
  | 108 => ⟨S_, .i32⟩
  | 109 => ⟨S_, .i32⟩
  | 110 => ⟨S1x2x4x64x128, .f32⟩
  | 111 => ⟨S2x4x64x128, .f32⟩
  | 112 => ⟨S_, .f32⟩
  | 113 => ⟨S_, .f32⟩
  | 114 => ⟨S2x4x64x64, .f32⟩
  | 115 => ⟨S2x4x1x64, .f32⟩
  | 116 => ⟨S2x4x64x64, .f32⟩
  | 117 => ⟨S2x4x64x64, .f32⟩
  | 118 => ⟨S2x4x64x64, .f32⟩
  | 119 => ⟨S2x4x64x64, .f32⟩
  | 120 => ⟨S2x4x64x128, .f32⟩
  | 121 => ⟨S2x4x64, .f32⟩
  | 122 => ⟨S2x4x64, .f32⟩
  | 123 => ⟨S2x4x64x1, .f32⟩
  | 124 => ⟨S2x4x64x128, .f32⟩
  | 125 => ⟨S2x4x64x128, .f32⟩
  | 126 => ⟨S2x4x64x128, .f32⟩
  | 127 => ⟨S_, .f32⟩
  | _ => ⟨S16384x256, .f32⟩

abbrev hbmTy0_1 (i : Nat) : BufTy := match i % 128 with
  | 0 => ⟨S2x4x64x64, .f32⟩
  | 1 => ⟨S2x4x64x64, .f32⟩
  | 2 => ⟨S2x4x64x64, .f32⟩
  | 3 => ⟨S2x4x64x64, .f32⟩
  | 4 => ⟨S2x4x64x64, .f32⟩
  | 5 => ⟨S2x4x64x64, .f32⟩
  | 6 => ⟨S2x4x64x64, .f32⟩
  | 7 => ⟨S2x4x64x64, .f32⟩
  | 8 => ⟨S_, .i1⟩
  | 9 => ⟨S64x64, .i1⟩
  | 10 => ⟨S64x64, .i32⟩
  | 11 => ⟨S_, .i32⟩
  | 12 => ⟨S64x64, .i32⟩
  | 13 => ⟨S64x64, .i32⟩
  | 14 => ⟨S64x64, .i32⟩
  | 15 => ⟨S64x64, .i1⟩
  | 16 => ⟨S_, .i1⟩
  | 17 => ⟨S64x64, .i1⟩
  | 18 => ⟨S64x64, .i1⟩
  | 19 => ⟨S_, .f32⟩
  | 20 => ⟨S_, .f32⟩
  | 21 => ⟨S2x4x64x64, .i1⟩
  | 22 => ⟨S2x4x64x64, .f32⟩
  | 23 => ⟨S2x4x64x64, .f32⟩
  | 24 => ⟨S_, .f32⟩
  | 25 => ⟨S2x4x64x64, .f32⟩
  | 26 => ⟨S2x4x64x128, .f32⟩
  | 27 => ⟨S2x4x64x128, .f32⟩
  | 28 => ⟨S2x4x64x128, .f32⟩
  | 29 => ⟨S2x4x128x64, .f32⟩
  | 30 => ⟨S2x4x64x128, .f32⟩
  | 31 => ⟨S2x4x64x64, .f32⟩
  | 32 => ⟨S2x4x128x64, .f32⟩
  | 33 => ⟨S2x4x64x128, .f32⟩
  | 34 => ⟨S2x4x64x64, .f32⟩
  | 35 => ⟨S_, .f32⟩
  | 36 => ⟨S2x4x64x64, .f32⟩
  | 37 => ⟨S2x4x64x64, .f32⟩
  | 38 => ⟨S2x4x64x64, .f32⟩
  | 39 => ⟨S2x4x64x64, .f32⟩
  | 40 => ⟨S2x4x64x64, .f32⟩
  | 41 => ⟨S2x4x64x64, .f32⟩
  | 42 => ⟨S2x4x64x64, .f32⟩
  | 43 => ⟨S2x4x64x64, .f32⟩
  | 44 => ⟨S2x4x64x64, .f32⟩
  | 45 => ⟨S2x4x64x64, .f32⟩
  | 46 => ⟨S2x4x64x64, .f32⟩
  | 47 => ⟨S2x4x64x64, .f32⟩
  | 48 => ⟨S2x4x64x64, .f32⟩
  | 49 => ⟨S_, .f32⟩
  | 50 => ⟨S2x4x64x64, .f32⟩
  | 51 => ⟨S2x4x64x64, .f32⟩
  | 52 => ⟨S2x4x64x128, .f32⟩
  | 53 => ⟨S2x4x64x128, .f32⟩
  | 54 => ⟨S2x4x64x128, .f32⟩
  | 55 => ⟨S2x4x64x128, .f32⟩
  | 56 => ⟨S_, .f32⟩
  | 57 => ⟨S2x4x64, .f32⟩
  | 58 => ⟨S2x4x64x1, .f32⟩
  | 59 => ⟨S_, .f32⟩
  | 60 => ⟨S2x4x64, .f32⟩
  | 61 => ⟨S2x4x64, .f32⟩
  | 62 => ⟨S2x4x1x64, .f32⟩
  | 63 => ⟨S2x4x128x64, .f32⟩
  | 64 => ⟨S2x4x64x128, .f32⟩
  | 65 => ⟨S2x4x64x128, .f32⟩
  | 66 => ⟨S2x4x64x64, .f32⟩
  | 67 => ⟨S2x4x64x64, .f32⟩
  | 68 => ⟨S2x4x64x64, .f32⟩
  | 69 => ⟨S2x4x64x64, .f32⟩
  | 70 => ⟨S2x4x64x64, .f32⟩
  | 71 => ⟨S2x4x64x64, .f32⟩
  | 72 => ⟨S_, .f32⟩
  | 73 => ⟨S2x4x64, .f32⟩
  | 74 => ⟨S2x4x1x64, .f32⟩
  | 75 => ⟨S2x4x64x64, .f32⟩
  | 76 => ⟨S2x4x1x64, .f32⟩
  | 77 => ⟨S2x4x64x64, .f32⟩
  | 78 => ⟨S_, .f32⟩
  | 79 => ⟨S2x4x64x64, .f32⟩
  | 80 => ⟨S2x4x64x64, .f32⟩
  | 81 => ⟨S_, .f32⟩
  | 82 => ⟨S_, .f32⟩
  | 83 => ⟨S2x4x64x64, .f32⟩
  | 84 => ⟨S1x2x4x64x64, .f32⟩
  | 85 => ⟨S_, .i32⟩
  | 86 => ⟨S_, .i32⟩
  | 87 => ⟨S_, .i32⟩
  | 88 => ⟨S_, .i32⟩
  | 89 => ⟨S256x2x4x64x64, .f32⟩
  | 90 => ⟨S1x2x4x64x64, .f32⟩
  | 91 => ⟨S_, .i32⟩
  | 92 => ⟨S_, .i32⟩
  | 93 => ⟨S_, .i32⟩
  | 94 => ⟨S_, .i32⟩
  | 95 => ⟨S256x2x4x64x64, .f32⟩
  | 96 => ⟨S1x2x4x64x128, .f32⟩
  | 97 => ⟨S_, .i32⟩
  | 98 => ⟨S_, .i32⟩
  | 99 => ⟨S_, .i32⟩
  | 100 => ⟨S_, .i32⟩
  | 101 => ⟨S256x2x4x64x128, .f32⟩
  | 102 => ⟨S1x2x4x64x64, .f32⟩
  | 103 => ⟨S_, .i32⟩
  | 104 => ⟨S_, .i32⟩
  | 105 => ⟨S_, .i32⟩
  | 106 => ⟨S_, .i32⟩
  | 107 => ⟨S256x2x4x64x64, .f32⟩
  | 108 => ⟨S_, .i32⟩
  | 109 => ⟨S_, .i32⟩
  | 110 => ⟨S2x256x64x4x64, .f32⟩
  | 111 => ⟨S2x16384x256, .f32⟩
  | 112 => ⟨S1x16384x256, .f32⟩
  | 113 => ⟨S16384x256, .f32⟩
  | 114 => ⟨S16384x256, .bf16⟩
  | 115 => ⟨S2x256x64x4x64, .f32⟩
  | 116 => ⟨S2x16384x256, .f32⟩
  | 117 => ⟨S1x16384x256, .f32⟩
  | 118 => ⟨S16384x256, .f32⟩
  | 119 => ⟨S16384x256, .bf16⟩
  | 120 => ⟨S2x256x64x4x128, .f32⟩
  | 121 => ⟨S2x16384x512, .f32⟩
  | 122 => ⟨S1x16384x512, .f32⟩
  | 123 => ⟨S16384x512, .f32⟩
  | 124 => ⟨S16384x512, .bf16⟩
  | 125 => ⟨S2x256x64x4x64, .f32⟩
  | 126 => ⟨S2x16384x256, .f32⟩
  | 127 => ⟨S1x16384x256, .f32⟩
  | _ => ⟨S16384x256, .f32⟩

abbrev hbmTy0_2 (i : Nat) : BufTy := match i % 128 with
  | 0 => ⟨S16384x256, .f32⟩
  | 1 => ⟨S2x256x64x4x64, .f32⟩
  | 2 => ⟨S2x16384x256, .f32⟩
  | 3 => ⟨S1x16384x256, .f32⟩
  | 4 => ⟨S16384x256, .f32⟩
  | 5 => ⟨S16384x256, .f32⟩
  | 6 => ⟨S16384x256, .bf16⟩
  | 7 => ⟨S2x256x64x4x64, .f32⟩
  | 8 => ⟨S2x16384x256, .f32⟩
  | 9 => ⟨S1x16384x256, .f32⟩
  | 10 => ⟨S16384x256, .f32⟩
  | 11 => ⟨S16384x256, .f32⟩
  | 12 => ⟨S16384x256, .bf16⟩
  | 13 => ⟨S2x256x64x4x128, .f32⟩
  | 14 => ⟨S2x16384x512, .f32⟩
  | 15 => ⟨S1x16384x512, .f32⟩
  | 16 => ⟨S16384x512, .f32⟩
  | 17 => ⟨S16384x512, .f32⟩
  | 18 => ⟨S16384x512, .bf16⟩
  | 19 => ⟨S2x256x64x4x64, .f32⟩
  | 20 => ⟨S2x16384x256, .f32⟩
  | 21 => ⟨S1x16384x256, .f32⟩
  | 22 => ⟨S16384x256, .f32⟩
  | 23 => ⟨S16384x256, .f32⟩
  | 24 => ⟨S2x128x4x64, .f32⟩
  | 25 => ⟨S2x128x256, .f32⟩
  | _ => ⟨S16384x256, .f32⟩

abbrev hbmTy (i : Nat) : BufTy := match i / 128 with
  | 0 => hbmTy0_0 i
  | 1 => hbmTy0_1 i
  | 2 => hbmTy0_2 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst : Ref sig .tc := ⟨.hbm, 49, rfl⟩
abbrev main_v41 : Ref sig .tc := ⟨.hbm, 50, rfl⟩
abbrev main_cst_0 : Ref sig .tc := ⟨.hbm, 51, rfl⟩
abbrev main_v42 : Ref sig .tc := ⟨.hbm, 52, rfl⟩
abbrev main_cst_1 : Ref sig .tc := ⟨.hbm, 53, rfl⟩
abbrev main_v43 : Ref sig .tc := ⟨.hbm, 54, rfl⟩
abbrev main_cst_2 : Ref sig .tc := ⟨.hbm, 55, rfl⟩
abbrev main_v44 : Ref sig .tc := ⟨.hbm, 56, rfl⟩
abbrev main_c : Ref sig .tc := ⟨.hbm, 57, rfl⟩
abbrev main_v45_0 : Ref sig .tc := ⟨.hbm, 58, rfl⟩
abbrev main_v45_1 : Ref sig .tc := ⟨.hbm, 59, rfl⟩
abbrev main_v45_2 : Ref sig .tc := ⟨.hbm, 60, rfl⟩
abbrev main_v45_3 : Ref sig .tc := ⟨.hbm, 61, rfl⟩
abbrev main_v45_4 : Ref sig .tc := ⟨.hbm, 62, rfl⟩
abbrev main_v45_5 : Ref sig .tc := ⟨.hbm, 63, rfl⟩
abbrev main_v45_6 : Ref sig .tc := ⟨.hbm, 64, rfl⟩
abbrev main_v45_7 : Ref sig .tc := ⟨.hbm, 65, rfl⟩
abbrev main_v45_8 : Ref sig .tc := ⟨.hbm, 66, rfl⟩
abbrev main_v45_9 : Ref sig .tc := ⟨.hbm, 67, rfl⟩
abbrev main_v45_10 : Ref sig .tc := ⟨.hbm, 68, rfl⟩
abbrev main_v45_11 : Ref sig .tc := ⟨.hbm, 69, rfl⟩
abbrev main_while0c_c_14 : Ref sig .tc := ⟨.hbm, 70, rfl⟩
abbrev main_while0c_v90 : Ref sig .tc := ⟨.hbm, 71, rfl⟩
abbrev main_while0b_c_14 : Ref sig .tc := ⟨.hbm, 72, rfl⟩
abbrev main_while0b_v90 : Ref sig .tc := ⟨.hbm, 73, rfl⟩
abbrev main_while0b_c_15 : Ref sig .tc := ⟨.hbm, 74, rfl⟩
abbrev main_while0b_v91 : Ref sig .tc := ⟨.hbm, 75, rfl⟩
abbrev main_while0b_call6_c : Ref sig .tc := ⟨.hbm, 76, rfl⟩
abbrev main_while0b_call6_c_0 : Ref sig .tc := ⟨.hbm, 77, rfl⟩
abbrev main_while0b_call6_c_1 : Ref sig .tc := ⟨.hbm, 78, rfl⟩
abbrev main_while0b_call6_c_2 : Ref sig .tc := ⟨.hbm, 79, rfl⟩
abbrev main_while0b_call6_v0 : Ref sig .tc := ⟨.hbm, 80, rfl⟩
abbrev main_while0b_v92 : Ref sig .tc := ⟨.hbm, 81, rfl⟩
abbrev main_while0b_call7_c : Ref sig .tc := ⟨.hbm, 82, rfl⟩
abbrev main_while0b_call7_c_0 : Ref sig .tc := ⟨.hbm, 83, rfl⟩
abbrev main_while0b_call7_c_1 : Ref sig .tc := ⟨.hbm, 84, rfl⟩
abbrev main_while0b_call7_c_2 : Ref sig .tc := ⟨.hbm, 85, rfl⟩
abbrev main_while0b_call7_v0 : Ref sig .tc := ⟨.hbm, 86, rfl⟩
abbrev main_while0b_v93 : Ref sig .tc := ⟨.hbm, 87, rfl⟩
abbrev main_while0b_call8_c : Ref sig .tc := ⟨.hbm, 88, rfl⟩
abbrev main_while0b_call8_c_0 : Ref sig .tc := ⟨.hbm, 89, rfl⟩
abbrev main_while0b_call8_c_1 : Ref sig .tc := ⟨.hbm, 90, rfl⟩
abbrev main_while0b_call8_c_2 : Ref sig .tc := ⟨.hbm, 91, rfl⟩
abbrev main_while0b_call8_v0 : Ref sig .tc := ⟨.hbm, 92, rfl⟩
abbrev main_while0b_v94 : Ref sig .tc := ⟨.hbm, 93, rfl⟩
abbrev main_while0b_call9_c : Ref sig .tc := ⟨.hbm, 94, rfl⟩
abbrev main_while0b_call9_c_0 : Ref sig .tc := ⟨.hbm, 95, rfl⟩
abbrev main_while0b_call9_c_1 : Ref sig .tc := ⟨.hbm, 96, rfl⟩
abbrev main_while0b_call9_c_2 : Ref sig .tc := ⟨.hbm, 97, rfl⟩
abbrev main_while0b_call9_v0 : Ref sig .tc := ⟨.hbm, 98, rfl⟩
abbrev main_while0b_v95 : Ref sig .tc := ⟨.hbm, 99, rfl⟩
abbrev main_while0b_call10_c : Ref sig .tc := ⟨.hbm, 100, rfl⟩
abbrev main_while0b_call10_c_0 : Ref sig .tc := ⟨.hbm, 101, rfl⟩
abbrev main_while0b_call10_c_1 : Ref sig .tc := ⟨.hbm, 102, rfl⟩
abbrev main_while0b_call10_c_2 : Ref sig .tc := ⟨.hbm, 103, rfl⟩
abbrev main_while0b_call10_v0 : Ref sig .tc := ⟨.hbm, 104, rfl⟩
abbrev main_while0b_v96 : Ref sig .tc := ⟨.hbm, 105, rfl⟩
abbrev main_while0b_call11_c : Ref sig .tc := ⟨.hbm, 106, rfl⟩
abbrev main_while0b_call11_c_0 : Ref sig .tc := ⟨.hbm, 107, rfl⟩
abbrev main_while0b_call11_c_1 : Ref sig .tc := ⟨.hbm, 108, rfl⟩
abbrev main_while0b_call11_c_2 : Ref sig .tc := ⟨.hbm, 109, rfl⟩
abbrev main_while0b_call11_v0 : Ref sig .tc := ⟨.hbm, 110, rfl⟩
abbrev main_while0b_v97 : Ref sig .tc := ⟨.hbm, 111, rfl⟩
abbrev main_while0b_call12_call0_cst : Ref sig .tc := ⟨.hbm, 112, rfl⟩
abbrev main_while0b_call12_call0_v0 : Ref sig .tc := ⟨.hbm, 113, rfl⟩
abbrev main_while0b_v98 : Ref sig .tc := ⟨.hbm, 114, rfl⟩
abbrev main_while0b_v99 : Ref sig .tc := ⟨.hbm, 115, rfl⟩
abbrev main_while0b_v100 : Ref sig .tc := ⟨.hbm, 116, rfl⟩
abbrev main_while0b_v101 : Ref sig .tc := ⟨.hbm, 117, rfl⟩
abbrev main_while0b_v102 : Ref sig .tc := ⟨.hbm, 118, rfl⟩
abbrev main_while0b_v103 : Ref sig .tc := ⟨.hbm, 119, rfl⟩
abbrev main_while0b_v104 : Ref sig .tc := ⟨.hbm, 120, rfl⟩
abbrev main_while0b_v105 : Ref sig .tc := ⟨.hbm, 121, rfl⟩
abbrev main_while0b_v106 : Ref sig .tc := ⟨.hbm, 122, rfl⟩
abbrev main_while0b_v107 : Ref sig .tc := ⟨.hbm, 123, rfl⟩
abbrev main_while0b_v108 : Ref sig .tc := ⟨.hbm, 124, rfl⟩
abbrev main_while0b_v109 : Ref sig .tc := ⟨.hbm, 125, rfl⟩
abbrev main_while0b_v110 : Ref sig .tc := ⟨.hbm, 126, rfl⟩
abbrev main_while0b_cst_16 : Ref sig .tc := ⟨.hbm, 127, rfl⟩
abbrev main_while0b_v111 : Ref sig .tc := ⟨.hbm, 128, rfl⟩
abbrev main_while0b_v112 : Ref sig .tc := ⟨.hbm, 129, rfl⟩
abbrev main_while0b_v113 : Ref sig .tc := ⟨.hbm, 130, rfl⟩
abbrev main_while0b_v114 : Ref sig .tc := ⟨.hbm, 131, rfl⟩
abbrev main_while0b_v115 : Ref sig .tc := ⟨.hbm, 132, rfl⟩
abbrev main_while0b_v116 : Ref sig .tc := ⟨.hbm, 133, rfl⟩
abbrev main_while0b_v117 : Ref sig .tc := ⟨.hbm, 134, rfl⟩
abbrev main_while0b_v118 : Ref sig .tc := ⟨.hbm, 135, rfl⟩
abbrev main_while0b_c_17 : Ref sig .tc := ⟨.hbm, 136, rfl⟩
abbrev main_while0b_v119 : Ref sig .tc := ⟨.hbm, 137, rfl⟩
abbrev main_while0b_call13_v0 : Ref sig .tc := ⟨.hbm, 138, rfl⟩
abbrev main_while0b_call13_c : Ref sig .tc := ⟨.hbm, 139, rfl⟩
abbrev main_while0b_call13_v1 : Ref sig .tc := ⟨.hbm, 140, rfl⟩
abbrev main_while0b_call13_v2 : Ref sig .tc := ⟨.hbm, 141, rfl⟩
abbrev main_while0b_call13_v3 : Ref sig .tc := ⟨.hbm, 142, rfl⟩
abbrev main_while0b_call13_v4 : Ref sig .tc := ⟨.hbm, 143, rfl⟩
abbrev main_while0b_call13_c_0 : Ref sig .tc := ⟨.hbm, 144, rfl⟩
abbrev main_while0b_call13_v5 : Ref sig .tc := ⟨.hbm, 145, rfl⟩
abbrev main_while0b_v120 : Ref sig .tc := ⟨.hbm, 146, rfl⟩
abbrev main_while0b_cst_18 : Ref sig .tc := ⟨.hbm, 147, rfl⟩
abbrev main_while0b_call14_v0 : Ref sig .tc := ⟨.hbm, 148, rfl⟩
abbrev main_while0b_v121_1 : Ref sig .tc := ⟨.hbm, 149, rfl⟩
abbrev main_while0b_call14_v2 : Ref sig .tc := ⟨.hbm, 150, rfl⟩
abbrev main_while0b_v121_0 : Ref sig .tc := ⟨.hbm, 151, rfl⟩
abbrev main_while0b_call14_cst : Ref sig .tc := ⟨.hbm, 152, rfl⟩
abbrev main_while0b_v121_2 : Ref sig .tc := ⟨.hbm, 153, rfl⟩
abbrev main_while0b_v122 : Ref sig .tc := ⟨.hbm, 154, rfl⟩
abbrev main_while0b_v123 : Ref sig .tc := ⟨.hbm, 155, rfl⟩
abbrev main_while0b_v124 : Ref sig .tc := ⟨.hbm, 156, rfl⟩
abbrev main_while0b_v125 : Ref sig .tc := ⟨.hbm, 157, rfl⟩
abbrev main_while0b_v126 : Ref sig .tc := ⟨.hbm, 158, rfl⟩
abbrev main_while0b_v127 : Ref sig .tc := ⟨.hbm, 159, rfl⟩
abbrev main_while0b_v128 : Ref sig .tc := ⟨.hbm, 160, rfl⟩
abbrev main_while0b_v129 : Ref sig .tc := ⟨.hbm, 161, rfl⟩
abbrev main_while0b_v130 : Ref sig .tc := ⟨.hbm, 162, rfl⟩
abbrev main_while0b_call15_cst : Ref sig .tc := ⟨.hbm, 163, rfl⟩
abbrev main_while0b_call15_v0 : Ref sig .tc := ⟨.hbm, 164, rfl⟩
abbrev main_while0b_v131 : Ref sig .tc := ⟨.hbm, 165, rfl⟩
abbrev main_while0b_v132 : Ref sig .tc := ⟨.hbm, 166, rfl⟩
abbrev main_while0b_v133 : Ref sig .tc := ⟨.hbm, 167, rfl⟩
abbrev main_while0b_v134 : Ref sig .tc := ⟨.hbm, 168, rfl⟩
abbrev main_while0b_v135 : Ref sig .tc := ⟨.hbm, 169, rfl⟩
abbrev main_while0b_v136 : Ref sig .tc := ⟨.hbm, 170, rfl⟩
abbrev main_while0b_v137 : Ref sig .tc := ⟨.hbm, 171, rfl⟩
abbrev main_while0b_v138 : Ref sig .tc := ⟨.hbm, 172, rfl⟩
abbrev main_while0b_v139 : Ref sig .tc := ⟨.hbm, 173, rfl⟩
abbrev main_while0b_v140 : Ref sig .tc := ⟨.hbm, 174, rfl⟩
abbrev main_while0b_v141 : Ref sig .tc := ⟨.hbm, 175, rfl⟩
abbrev main_while0b_v142 : Ref sig .tc := ⟨.hbm, 176, rfl⟩
abbrev main_while0b_cst_19 : Ref sig .tc := ⟨.hbm, 177, rfl⟩
abbrev main_while0b_v143 : Ref sig .tc := ⟨.hbm, 178, rfl⟩
abbrev main_while0b_v144 : Ref sig .tc := ⟨.hbm, 179, rfl⟩
abbrev main_while0b_v145 : Ref sig .tc := ⟨.hbm, 180, rfl⟩
abbrev main_while0b_v146 : Ref sig .tc := ⟨.hbm, 181, rfl⟩
abbrev main_while0b_v147 : Ref sig .tc := ⟨.hbm, 182, rfl⟩
abbrev main_while0b_v148 : Ref sig .tc := ⟨.hbm, 183, rfl⟩
abbrev main_while0b_cst_20 : Ref sig .tc := ⟨.hbm, 184, rfl⟩
abbrev main_while0b_v149 : Ref sig .tc := ⟨.hbm, 185, rfl⟩
abbrev main_while0b_v150 : Ref sig .tc := ⟨.hbm, 186, rfl⟩
abbrev main_while0b_cst_21 : Ref sig .tc := ⟨.hbm, 187, rfl⟩
abbrev main_while0b_v151 : Ref sig .tc := ⟨.hbm, 188, rfl⟩
abbrev main_while0b_v152 : Ref sig .tc := ⟨.hbm, 189, rfl⟩
abbrev main_while0b_v153 : Ref sig .tc := ⟨.hbm, 190, rfl⟩
abbrev main_while0b_v154 : Ref sig .tc := ⟨.hbm, 191, rfl⟩
abbrev main_while0b_v155 : Ref sig .tc := ⟨.hbm, 192, rfl⟩
abbrev main_while0b_v156 : Ref sig .tc := ⟨.hbm, 193, rfl⟩
abbrev main_while0b_v157 : Ref sig .tc := ⟨.hbm, 194, rfl⟩
abbrev main_while0b_v158 : Ref sig .tc := ⟨.hbm, 195, rfl⟩
abbrev main_while0b_v159 : Ref sig .tc := ⟨.hbm, 196, rfl⟩
abbrev main_while0b_v160 : Ref sig .tc := ⟨.hbm, 197, rfl⟩
abbrev main_while0b_v161 : Ref sig .tc := ⟨.hbm, 198, rfl⟩
abbrev main_while0b_v162 : Ref sig .tc := ⟨.hbm, 199, rfl⟩
abbrev main_while0b_cst_22 : Ref sig .tc := ⟨.hbm, 200, rfl⟩
abbrev main_while0b_v163 : Ref sig .tc := ⟨.hbm, 201, rfl⟩
abbrev main_while0b_v164 : Ref sig .tc := ⟨.hbm, 202, rfl⟩
abbrev main_while0b_v165 : Ref sig .tc := ⟨.hbm, 203, rfl⟩
abbrev main_while0b_v166 : Ref sig .tc := ⟨.hbm, 204, rfl⟩
abbrev main_while0b_v167 : Ref sig .tc := ⟨.hbm, 205, rfl⟩
abbrev main_while0b_cst_23 : Ref sig .tc := ⟨.hbm, 206, rfl⟩
abbrev main_while0b_v168 : Ref sig .tc := ⟨.hbm, 207, rfl⟩
abbrev main_while0b_v169 : Ref sig .tc := ⟨.hbm, 208, rfl⟩
abbrev main_while0b_call16_call0_cst : Ref sig .tc := ⟨.hbm, 209, rfl⟩
abbrev main_while0b_call16_call0_v0 : Ref sig .tc := ⟨.hbm, 210, rfl⟩
abbrev main_while0b_v170 : Ref sig .tc := ⟨.hbm, 211, rfl⟩
abbrev main_while0b_call17_v0 : Ref sig .tc := ⟨.hbm, 212, rfl⟩
abbrev main_while0b_call17_c : Ref sig .tc := ⟨.hbm, 213, rfl⟩
abbrev main_while0b_call17_c_0 : Ref sig .tc := ⟨.hbm, 214, rfl⟩
abbrev main_while0b_call17_c_1 : Ref sig .tc := ⟨.hbm, 215, rfl⟩
abbrev main_while0b_call17_c_2 : Ref sig .tc := ⟨.hbm, 216, rfl⟩
abbrev main_while0b_v171 : Ref sig .tc := ⟨.hbm, 217, rfl⟩
abbrev main_while0b_call18_v0 : Ref sig .tc := ⟨.hbm, 218, rfl⟩
abbrev main_while0b_call18_c : Ref sig .tc := ⟨.hbm, 219, rfl⟩
abbrev main_while0b_call18_c_0 : Ref sig .tc := ⟨.hbm, 220, rfl⟩
abbrev main_while0b_call18_c_1 : Ref sig .tc := ⟨.hbm, 221, rfl⟩
abbrev main_while0b_call18_c_2 : Ref sig .tc := ⟨.hbm, 222, rfl⟩
abbrev main_while0b_v172 : Ref sig .tc := ⟨.hbm, 223, rfl⟩
abbrev main_while0b_call19_v0 : Ref sig .tc := ⟨.hbm, 224, rfl⟩
abbrev main_while0b_call19_c : Ref sig .tc := ⟨.hbm, 225, rfl⟩
abbrev main_while0b_call19_c_0 : Ref sig .tc := ⟨.hbm, 226, rfl⟩
abbrev main_while0b_call19_c_1 : Ref sig .tc := ⟨.hbm, 227, rfl⟩
abbrev main_while0b_call19_c_2 : Ref sig .tc := ⟨.hbm, 228, rfl⟩
abbrev main_while0b_v173 : Ref sig .tc := ⟨.hbm, 229, rfl⟩
abbrev main_while0b_call20_v0 : Ref sig .tc := ⟨.hbm, 230, rfl⟩
abbrev main_while0b_call20_c : Ref sig .tc := ⟨.hbm, 231, rfl⟩
abbrev main_while0b_call20_c_0 : Ref sig .tc := ⟨.hbm, 232, rfl⟩
abbrev main_while0b_call20_c_1 : Ref sig .tc := ⟨.hbm, 233, rfl⟩
abbrev main_while0b_call20_c_2 : Ref sig .tc := ⟨.hbm, 234, rfl⟩
abbrev main_while0b_v174 : Ref sig .tc := ⟨.hbm, 235, rfl⟩
abbrev main_while0b_c_24 : Ref sig .tc := ⟨.hbm, 236, rfl⟩
abbrev main_while0b_v175 : Ref sig .tc := ⟨.hbm, 237, rfl⟩
abbrev main_v46 : Ref sig .tc := ⟨.hbm, 238, rfl⟩
abbrev main_v47 : Ref sig .tc := ⟨.hbm, 239, rfl⟩
abbrev main_v48 : Ref sig .tc := ⟨.hbm, 240, rfl⟩
abbrev main_v49 : Ref sig .tc := ⟨.hbm, 241, rfl⟩
abbrev main_v50 : Ref sig .tc := ⟨.hbm, 242, rfl⟩
abbrev main_v51 : Ref sig .tc := ⟨.hbm, 243, rfl⟩
abbrev main_v52 : Ref sig .tc := ⟨.hbm, 244, rfl⟩
abbrev main_v53 : Ref sig .tc := ⟨.hbm, 245, rfl⟩
abbrev main_v54 : Ref sig .tc := ⟨.hbm, 246, rfl⟩
abbrev main_v55 : Ref sig .tc := ⟨.hbm, 247, rfl⟩
abbrev main_v56 : Ref sig .tc := ⟨.hbm, 248, rfl⟩
abbrev main_v57 : Ref sig .tc := ⟨.hbm, 249, rfl⟩
abbrev main_v58 : Ref sig .tc := ⟨.hbm, 250, rfl⟩
abbrev main_v59 : Ref sig .tc := ⟨.hbm, 251, rfl⟩
abbrev main_v60 : Ref sig .tc := ⟨.hbm, 252, rfl⟩
abbrev main_v61 : Ref sig .tc := ⟨.hbm, 253, rfl⟩
abbrev main_v62 : Ref sig .tc := ⟨.hbm, 254, rfl⟩
abbrev main_v63 : Ref sig .tc := ⟨.hbm, 255, rfl⟩
abbrev main_v64 : Ref sig .tc := ⟨.hbm, 256, rfl⟩
abbrev main_v65 : Ref sig .tc := ⟨.hbm, 257, rfl⟩
abbrev main_v66 : Ref sig .tc := ⟨.hbm, 258, rfl⟩
abbrev main_v67 : Ref sig .tc := ⟨.hbm, 259, rfl⟩
abbrev main_v68 : Ref sig .tc := ⟨.hbm, 260, rfl⟩
abbrev main_v69 : Ref sig .tc := ⟨.hbm, 261, rfl⟩
abbrev main_v70 : Ref sig .tc := ⟨.hbm, 262, rfl⟩
abbrev main_v71 : Ref sig .tc := ⟨.hbm, 263, rfl⟩
abbrev main_v72 : Ref sig .tc := ⟨.hbm, 264, rfl⟩
abbrev main_v73 : Ref sig .tc := ⟨.hbm, 265, rfl⟩
abbrev main_v74 : Ref sig .tc := ⟨.hbm, 266, rfl⟩
abbrev main_v75 : Ref sig .tc := ⟨.hbm, 267, rfl⟩
abbrev main_v76 : Ref sig .tc := ⟨.hbm, 268, rfl⟩
abbrev main_v77 : Ref sig .tc := ⟨.hbm, 269, rfl⟩
abbrev main_v78 : Ref sig .tc := ⟨.hbm, 270, rfl⟩
abbrev main_v79 : Ref sig .tc := ⟨.hbm, 271, rfl⟩
abbrev main_v80 : Ref sig .tc := ⟨.hbm, 272, rfl⟩
abbrev main_v81 : Ref sig .tc := ⟨.hbm, 273, rfl⟩
abbrev main_v82 : Ref sig .tc := ⟨.hbm, 274, rfl⟩
abbrev main_v83 : Ref sig .tc := ⟨.hbm, 275, rfl⟩
abbrev main_v84 : Ref sig .tc := ⟨.hbm, 276, rfl⟩
abbrev main_v85 : Ref sig .tc := ⟨.hbm, 277, rfl⟩
abbrev main_v86 : Ref sig .tc := ⟨.hbm, 278, rfl⟩
abbrev main_v87 : Ref sig .tc := ⟨.hbm, 279, rfl⟩
abbrev main_v88 : Ref sig .tc := ⟨.hbm, 280, rfl⟩
abbrev main_v89 : Ref sig .tc := ⟨.hbm, 281, rfl⟩

abbrev nD : Nat := 1
abbrev τ : Topo := Topo.v7x

variable {F : FTy → Type} [FloatOps F]

abbrev main_while0_count : Scf.Loop 32 := ⟨0#32, 256#32, 1#32⟩
-- ==== GradKernel.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .f32⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== GradReferenceIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S16384x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnKernel.lean ====
abbrev S16384x1024 : Shape := ⟨2, ![16384, 1024]⟩
abbrev S2816x1024 : Shape := ⟨2, ![2816, 1024]⟩
abbrev S16384x2816 : Shape := ⟨2, ![16384, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 10
  | .vmem => 24
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S2816x1024, .bf16⟩
  | .hbm, ⟨3, _⟩ => ⟨S2816x1024, .bf16⟩
  | .hbm, ⟨4, _⟩ => ⟨S16384x1024, .bf16⟩
  | .hbm, ⟨5, _⟩ => ⟨S16384x2816, .bf16⟩
  | .hbm, ⟨6, _⟩ => ⟨S16384x2816, .bf16⟩
  | .hbm, ⟨7, _⟩ => ⟨S16384x2816, .bf16⟩
  | .hbm, ⟨8, _⟩ => ⟨S16384x2816, .bf16⟩
  | .hbm, ⟨9, _⟩ => ⟨S16384x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1408, .bf16⟩
  | .local _ .vmem, ⟨15, _⟩ => ⟨S1024x1408, .bf16⟩
  | .local _ .vmem, ⟨16, _⟩ => ⟨S1024x1408, .bf16⟩
  | .local _ .vmem, ⟨17, _⟩ => ⟨S1024x1408, .bf16⟩
  | .local _ .vmem, ⟨18, _⟩ => ⟨S1408x1024, .bf16⟩
  | .local _ .vmem, ⟨19, _⟩ => ⟨S1408x1024, .bf16⟩
  | .local _ .vmem, ⟨20, _⟩ => ⟨S1024x1408, .bf16⟩
  | .local _ .vmem, ⟨21, _⟩ => ⟨S1024x1408, .bf16⟩
  | .local _ .vmem, ⟨22, _⟩ => ⟨S1024x1408, .bf16⟩
  | .local _ .vmem, ⟨23, _⟩ => ⟨S1024x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1408x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== FfnReferenceIdeal.lean ====
abbrev S16384x1024 : Shape := ⟨2, ![16384, 1024]⟩
abbrev S2816x1024 : Shape := ⟨2, ![2816, 1024]⟩
abbrev S1024x2816 : Shape := ⟨2, ![1024, 2816]⟩
abbrev S16384x2816 : Shape := ⟨2, ![16384, 2816]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S2816x1024, .bf16⟩
  | .hbm, ⟨3, _⟩ => ⟨S2816x1024, .bf16⟩
  | .hbm, ⟨4, _⟩ => ⟨S16384x1024, .bf16⟩
  | .hbm, ⟨5, _⟩ => ⟨S16384x1024, .f32⟩
  | .hbm, ⟨6, _⟩ => ⟨S2816x1024, .f32⟩
  | .hbm, ⟨7, _⟩ => ⟨S1024x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S_, .f32⟩
  | .hbm, ⟨19, _⟩ => ⟨S16384x2816, .f32⟩
  | .hbm, ⟨20, _⟩ => ⟨S16384x2816, .f32⟩
  | .hbm, ⟨21, _⟩ => ⟨S_, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x1024, .f32⟩
  | .hbm, ⟨28, _⟩ => ⟨S16384x1024, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S_, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S16384x2816, .bf16⟩
  | .hbm, ⟨47, _⟩ => ⟨S16384x2816, .bf16⟩
  | .hbm, ⟨48, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v8_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v8_1 : Ref sig .tc := ⟨.hbm, 24, rfl⟩
abbrev main_v8_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v15 : Ref sig .tc := ⟨.hbm, 35, rfl⟩
abbrev main_call2_v0 : Ref sig .tc := ⟨.hbm, 36, rfl⟩
abbrev main_call2_v1 : Ref sig .tc := ⟨.hbm, 37, rfl⟩
abbrev main_call2_cst : Ref sig .tc := ⟨.hbm, 38, rfl⟩
abbrev main_call2_v2 : Ref sig .tc := ⟨.hbm, 39, rfl⟩
abbrev main_call2_v3 : Ref sig .tc := ⟨.hbm, 40, rfl⟩
abbrev main_call2_cst_0 : Ref sig .tc := ⟨.hbm, 41, rfl⟩
abbrev main_call2_v4 : Ref sig .tc := ⟨.hbm, 42, rfl⟩
abbrev main_call2_v5 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩

abbrev nD : Nat := 1
abbrev τ : Topo := Topo.v7x

variable {F : FTy → Type} [FloatOps F]
-- ==== NormKernel.lean ====
abbrev S16384x2816 : Shape := ⟨2, ![16384, 2816]⟩
abbrev S16384x1024 : Shape := ⟨2, ![16384, 1024]⟩
abbrev S8x1024 : Shape := ⟨2, ![8, 1024]⟩
abbrev S2816x1024 : Shape := ⟨2, ![2816, 1024]⟩
abbrev S512x2816 : Shape := ⟨2, ![512, 2816]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024 : Shape := ⟨1, ![1024]⟩
abbrev S5x1024 : Shape := ⟨2, ![5, 1024]⟩

abbrev nBuf : Space → Nat
  | .hbm => 9
  | .vmem => 14
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S16384x1024, .f32⟩
  | .hbm, ⟨3, _⟩ => ⟨S16384x1024, .f32⟩
  | .hbm, ⟨4, _⟩ => ⟨S8x1024, .f32⟩
  | .hbm, ⟨5, _⟩ => ⟨S2816x1024, .bf16⟩
  | .hbm, ⟨6, _⟩ => ⟨S2816x1024, .bf16⟩
  | .hbm, ⟨7, _⟩ => ⟨S16384x1024, .f32⟩
  | .hbm, ⟨8, _⟩ => ⟨S8x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S2816x1024, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormReferenceIdeal.lean ====
abbrev S16384x2816 : Shape := ⟨2, ![16384, 2816]⟩
abbrev S16384x1024 : Shape := ⟨2, ![16384, 1024]⟩
abbrev S8x1024 : Shape := ⟨2, ![8, 1024]⟩
abbrev S2816x1024 : Shape := ⟨2, ![2816, 1024]⟩
abbrev S1024x2816 : Shape := ⟨2, ![1024, 2816]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S3x1024 : Shape := ⟨2, ![3, 1024]⟩
abbrev S5x1024 : Shape := ⟨2, ![5, 1024]⟩

abbrev nBuf : Space → Nat
  | .hbm => 99
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S16384x1024, .f32⟩
  | .hbm, ⟨3, _⟩ => ⟨S16384x1024, .f32⟩
  | .hbm, ⟨4, _⟩ => ⟨S8x1024, .f32⟩
  | .hbm, ⟨5, _⟩ => ⟨S2816x1024, .bf16⟩
  | .hbm, ⟨6, _⟩ => ⟨S2816x1024, .bf16⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S1024, .f32⟩
  | .hbm, ⟨58, _⟩ => ⟨S16384x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S1024, .f32⟩
  | .hbm, ⟨66, _⟩ => ⟨S16384x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S1024, .f32⟩
  | .hbm, ⟨74, _⟩ => ⟨S16384x1024, .f32⟩
  | .hbm, ⟨75, _⟩ => ⟨S_, .f32⟩
  | .hbm, ⟨76, _⟩ => ⟨S16384, .f32⟩
  | .hbm, ⟨77, _⟩ => ⟨S16384x1, .f32⟩
  | .hbm, ⟨78, _⟩ => ⟨S16384x1024, .f32⟩
  | .hbm, ⟨79, _⟩ => ⟨S16384x1024, .f32⟩
  | .hbm, ⟨80, _⟩ => ⟨S16384x1, .f32⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S_, .f32⟩
  | .hbm, ⟨85, _⟩ => ⟨S16384, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S3x1024, .f32⟩
  | .hbm, ⟨96, _⟩ => ⟨S_, .f32⟩
  | .hbm, ⟨97, _⟩ => ⟨S5x1024, .f32⟩
  | .hbm, ⟨98, _⟩ => ⟨S8x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_cst_12 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_13 : Ref sig .tc := ⟨.hbm, 96, rfl⟩
abbrev main_v75 : Ref sig .tc := ⟨.hbm, 97, rfl⟩
abbrev main_v76 : Ref sig .tc := ⟨.hbm, 98, rfl⟩

abbrev nD : Nat := 1
abbrev τ : Topo := Topo.v7x

variable {F : FTy → Type} [FloatOps F]
-- ==== OutKernel.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== OutReferenceIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InKernel.lean ====
abbrev S16384x2688 : Shape := ⟨2, ![16384, 2688]⟩
abbrev S16384x1024 : Shape := ⟨2, ![16384, 1024]⟩
abbrev S2688x1024 : Shape := ⟨2, ![2688, 1024]⟩
abbrev S2048x896 : Shape := ⟨2, ![2048, 896]⟩
abbrev S2048x1024 : Shape := ⟨2, ![2048, 1024]⟩
abbrev S896x1024 : Shape := ⟨2, ![896, 1024]⟩

abbrev nBuf : Space → Nat
  | .hbm => 5
  | .vmem => 10
  | .smem => 0
  | _ => 0

abbrev bufTy : (tb : Table) → Fin (tcTables nBuf tb) → BufTy
  | .hbm, ⟨0, _⟩ => ⟨S16384x2688, .bf16⟩
  | .hbm, ⟨1, _⟩ => ⟨S16384x1024, .bf16⟩
  | .hbm, ⟨2, _⟩ => ⟨S2688x1024, .f32⟩
  | .hbm, ⟨3, _⟩ => ⟨S2688x1024, .f32⟩
  | .hbm, ⟨4, _⟩ => ⟨S2688x1024, .bf16⟩
  | .local _ .vmem, ⟨0, _⟩ => ⟨S2048x896, .bf16⟩
  | .local _ .vmem, ⟨1, _⟩ => ⟨S2048x896, .bf16⟩
  | .local _ .vmem, ⟨2, _⟩ => ⟨S2048x1024, .bf16⟩
  | .local _ .vmem, ⟨3, _⟩ => ⟨S2048x1024, .bf16⟩
  | .local _ .vmem, ⟨4, _⟩ => ⟨S896x1024, .f32⟩
  | .local _ .vmem, ⟨5, _⟩ => ⟨S896x1024, .f32⟩
  | .local _ .vmem, ⟨6, _⟩ => ⟨S896x1024, .f32⟩
  | .local _ .vmem, ⟨7, _⟩ => ⟨S896x1024, .f32⟩
  | .local _ .vmem, ⟨8, _⟩ => ⟨S896x1024, .bf16⟩
  | .local _ .vmem, ⟨9, _⟩ => ⟨S896x1024, .bf16⟩
  | _, _ => ⟨S16384x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 8], ![false, false]⟩

def k0_cond2 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S896x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S896x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S896x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InReferenceIdeal.lean ====
abbrev S16384x2688 : Shape := ⟨2, ![16384, 2688]⟩
abbrev S16384x1024 : Shape := ⟨2, ![16384, 1024]⟩
abbrev S2688x1024 : Shape := ⟨2, ![2688, 1024]⟩
abbrev S_ : Shape := ⟨0, ![]⟩
abbrev S1024x2688 : Shape := ⟨2, ![1024, 2688]⟩

abbrev nBuf : Space → Nat
  | .hbm => 13
  | .vmem => 0
  | .smem => 0
  | _ => 0

abbrev bufTy : (tb : Table) → Fin (tcTables nBuf tb) → BufTy
  | .hbm, ⟨0, _⟩ => ⟨S16384x2688, .bf16⟩
  | .hbm, ⟨1, _⟩ => ⟨S16384x1024, .bf16⟩
  | .hbm, ⟨2, _⟩ => ⟨S2688x1024, .f32⟩
  | .hbm, ⟨3, _⟩ => ⟨S_, .f32⟩
  | .hbm, ⟨4, _⟩ => ⟨S2688x1024, .f32⟩
  | .hbm, ⟨5, _⟩ => ⟨S16384x2688, .f32⟩
  | .hbm, ⟨6, _⟩ => ⟨S16384x1024, .f32⟩
  | .hbm, ⟨7, _⟩ => ⟨S16384x1024, .f32⟩
  | .hbm, ⟨8, _⟩ => ⟨S1024x2688, .f32⟩
  | .hbm, ⟨9, _⟩ => ⟨S2688x1024, .f32⟩
  | .hbm, ⟨10, _⟩ => ⟨S2688x1024, .f32⟩
  | .hbm, ⟨11, _⟩ => ⟨S2688x1024, .f32⟩
  | .hbm, ⟨12, _⟩ => ⟨S2688x1024, .bf16⟩
  | _, _ => ⟨S16384x2688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Chunk.lean ====
/- One chunk of the gradient of the gated linear attention: what the kernel computes from a chunk's
   rows of q, k, v, the log decays and the output's cotangent, from the state that enters the chunk
   and from the cotangent of the state that leaves it; and the stretch of the kernel's body that
   loads these, computes, and stores the results. -/
module

public import proofs.«01_k».proof.Proof.Gen.KernelIdeal

@[expose] public section

noncomputable section

namespace Cert.Gla

open Idealize.ShloMosaic Idealize.SL.Sem
open Cert.KernelIdeal Cert.KernelIdeal.Facts₀ Cert.KernelIdeal.Facts

variable {F : FTy → Type} [FloatOps F]

/-! ## The masks -/

/-- The 64 × 64 triangle `column ≤ row`. -/
def lowerTri : FVec F S64x64 .f32 :=
  sitofp .f32 (extui 32 (cmpi .sle (iota .tc S64x64 32 [1] iota_S64x64_d1_w32) (iota .tc S64x64 32 [0] iota_S64x64_d0_w32)) natLt_1_32)

/-- The 64 × 64 triangle `row ≤ column`. -/
def upperTri : FVec F S64x64 .f32 :=
  sitofp .f32 (extui 32 (cmpi .sge (iota .tc S64x64 32 [1] iota_S64x64_d1_w32) (iota .tc S64x64 32 [0] iota_S64x64_d0_w32)) natLt_1_32)

/-- A triangle repeated for the four heads. -/
def stack4 (m : FVec F S64x64 .f32) : FVec F S256x64 .f32 :=
  concatenate S256x64 0 [⟨S64x64, m⟩, ⟨S64x64, m⟩, ⟨S64x64, m⟩, ⟨S64x64, m⟩] concatenates_S64x64_S64x64_S64x64_S64x64_S256x64_d0

/-- The sign of the divisor 64, as the rounding division computes it. -/
def sign64 : BitVec 32 :=
  Scalar.subi (Scalar.extui (Scalar.cmpi .sgt 64#32 0#32)) (Scalar.extui (Scalar.cmpi .slt 64#32 0#32))

/-- Integers divided by 64, rounding down. -/
def div64 {s : Shape} (x : IVec s 32) : IVec s 32 :=
  select
    (andi (cmpi .ne (subi (extui 32 (cmpi .sgt x (broadcast s 0#32)) natLt_1_32) (extui 32 (cmpi .slt x (broadcast s 0#32)) natLt_1_32)) (broadcast s sign64))
      (cmpi .ne (remsi x (broadcast s 64#32)) (broadcast s 0#32)))
    (subi (divsi x (broadcast s 64#32)) (broadcast s 1#32))
    (divsi x (broadcast s 64#32))

/-- The head each of the 256 lanes belongs to. -/
def headOf : IVec S1x256 32 := div64 (iota .tc S1x256 32 [1] iota_S1x256_d1_w32)

/-- Which half of a pair of heads each of 128 lanes belongs to. -/
def halfOf : IVec S1x128 32 := div64 (iota .tc S1x128 32 [1] iota_S1x128_d1_w32)

/-- Rows of 256 lanes kept at head `h` and zero at the others. -/
def atHead (h : BitVec 32) (x : FVec F S64x256 .f32) : FVec F S64x256 .f32 :=
  select (broadcastTo S64x256 (shapeCast S1x256 (cmpi .eq headOf (broadcast S1x256 h)) shapeCasts_S1x256_S1x256) broadcasts_S1x256_S64x256)
    x (broadcast S64x256 (Scalar.ofBits .f32 0x00000000#32))

/-- Rows of 128 lanes kept at half `h` of a pair of heads and zero at the other. -/
def atHalf (h : BitVec 32) (x : FVec F S64x128 .f32) : FVec F S64x128 .f32 :=
  select (broadcastTo S64x128 (shapeCast S1x128 (cmpi .eq halfOf (broadcast S1x128 h)) shapeCasts_S1x128_S1x128) broadcasts_S1x128_S64x128)
    x (broadcast S64x128 (Scalar.ofBits .f32 0x00000000#32))

/-- The four head-masked copies of the rows, one below the other. -/
def heads (x : FVec F S64x256 .f32) : FVec F S256x256 .f32 :=
  concatenate S256x256 0 [⟨S64x256, atHead 0#32 x⟩, ⟨S64x256, atHead 1#32 x⟩, ⟨S64x256, atHead 2#32 x⟩, ⟨S64x256, atHead 3#32 x⟩]
    concatenates_S64x256_S64x256_S64x256_S64x256_S256x256_d0

/-- The rows of four heads brought back to one set of rows, each head at its lanes. -/
def foldHeads (x : FVec F S256x256 .f32) : FVec F S64x256 .f32 :=
  addf (addf (addf
    (atHead 0#32 (extractStridedSlice S64x256 ![0, 0] x slices_S256x256_o0_0_S64x256))
    (atHead 1#32 (extractStridedSlice S64x256 ![64, 0] x slices_S256x256_o64_0_S64x256)))
    (atHead 2#32 (extractStridedSlice S64x256 ![128, 0] x slices_S256x256_o128_0_S64x256)))
    (atHead 3#32 (extractStridedSlice S64x256 ![192, 0] x slices_S256x256_o192_0_S64x256))

/-- The rows of a pair of heads brought back to one set of rows. -/
def foldPair (x : FVec F S128x128 .f32) : FVec F S64x128 .f32 :=
  addf (atHalf 0#32 (extractStridedSlice S64x128 ![0, 0] x slices_S128x128_o0_0_S64x128))
    (atHalf 1#32 (extractStridedSlice S64x128 ![64, 0] x slices_S128x128_o64_0_S64x128))

/-! ## The products -/

/-- A 0/1 matrix times rows split into three bf16 terms, the three products added. -/
def splitDot (m : FVec F S64x64 .f32) (x : FVec F S64x256 .f32) : FVec F S64x256 .f32 :=
  have hi : FVec F S64x256 .bf16 := truncf .bf16 x bitsLt_bf16_f32
  have r1 : FVec F S64x256 .f32 := subf x (extf .f32 hi bitsLt_bf16_f32)
  have mid : FVec F S64x256 .bf16 := truncf .bf16 r1 bitsLt_bf16_f32
  have lo : FVec F S64x256 .bf16 := truncf .bf16 (subf r1 (extf .f32 mid bitsLt_bf16_f32)) bitsLt_bf16_f32
  have y : FVec F S64x768 .f32 := matmul dot_S64x64_S64x768_S64x768_1_0_0_1_n_n none (truncf .bf16 m bitsLt_bf16_f32)
    (concatenate S64x768 1 [⟨S64x256, hi⟩, ⟨S64x256, mid⟩, ⟨S64x256, lo⟩] concatenates_S64x256_S64x256_S64x256_S64x768_d1)
    (constant S64x768 .f32 0x00000000#32)
  addf (addf (extractStridedSlice S64x256 ![0, 0] y slices_S64x768_o0_0_S64x256) (extractStridedSlice S64x256 ![0, 256] y slices_S64x768_o0_256_S64x256))
    (extractStridedSlice S64x256 ![0, 512] y slices_S64x768_o0_512_S64x256)

/-- The sum of the 64 rows. -/
def sumRows (x : FVec F S64x256 .f32) : FVec F S1x256 .f32 :=
  shapeCast S1x256 (multiReduction .add [0] S256 x 0x00000000#32 reduces_S64x256_S256 (.inl rfl) rfl) shapeCasts_S256_S1x256

/-- The sum of the state's 128 rows. -/
def sumState (x : FVec F S128x256 .f32) : FVec F S1x256 .f32 :=
  shapeCast S1x256 (multiReduction .add [0] S256 x 0x00000000#32 reduces_S128x256_S256 (.inl rfl) rfl) shapeCasts_S256_S1x256

section Inputs
variable (cum : FVec F S64x64 .f32) (q k la : FVec F S64x256 .f32) (v : FVec F S64x512 .f32) (g : FVec F S64x512 .bf16)
variable (s ds : FVec F S128x256 .f32)

/-- The running sum of the log decays within the chunk. -/
def cumLog : FVec F S64x256 .f32 := splitDot cum la
/-- Its exponential. -/
def expLog : FVec F S64x256 .f32 := exp (cumLog cum la)
/-- The exponential of its negative. -/
def expNeg : FVec F S64x256 .f32 := exp (subf (broadcast S64x256 (Scalar.ofBits .f32 0x00000000#32)) (cumLog cum la))
/-- The decay from each row to the end of the chunk. -/
def expEnd : FVec F S64x256 .f32 := exp (subf (broadcastTo S64x256 (sumRows la) broadcasts_S1x256_S64x256) (cumLog cum la))
/-- The chunk's whole decay. -/
def decay : FVec F S1x256 .f32 := exp (sumRows la)

/-- The scaled and decayed queries. -/
def qT : FVec F S64x256 .f32 := mulf (mulf q (broadcast S64x256 (Scalar.ofBits .f32 0x3E000000#32))) (expLog cum la)
/-- The keys divided by their decay. -/
def kT : FVec F S64x256 .f32 := mulf k (expNeg cum la)
/-- The keys decayed to the end of the chunk. -/
def kD : FVec F S64x256 .f32 := mulf k (expEnd cum la)

/-- The masked scores, the four heads one below the other. -/
def scores : FVec F S256x64 .f32 :=
  mulf (matmul dot_S256x256_S64x256_S256x64_1_1_0_0_n_n none (truncf .bf16 (heads (qT cum q la)) bitsLt_bf16_f32) (truncf .bf16 (kT cum k la) bitsLt_bf16_f32)
    (constant S256x64 .f32 0x00000000#32)) (stack4 cum)

/-- The cotangent's four heads one below the other. -/
def gStack : FVec F S256x128 .bf16 :=
  concatenate S256x128 0 [⟨S64x128, extractStridedSlice S64x128 ![0, 0] g slices_S64x512_o0_0_S64x128⟩,
    ⟨S64x128, extractStridedSlice S64x128 ![0, 128] g slices_S64x512_o0_128_S64x128⟩,
    ⟨S64x128, extractStridedSlice S64x128 ![0, 256] g slices_S64x512_o0_256_S64x128⟩,
    ⟨S64x128, extractStridedSlice S64x128 ![0, 384] g slices_S64x512_o0_384_S64x128⟩] concatenates_S64x128_S64x128_S64x128_S64x128_S256x128_d0

/-- The values' four heads one below the other. -/
def vStack : FVec F S256x128 .f32 :=
  concatenate S256x128 0 [⟨S64x128, extractStridedSlice S64x128 ![0, 0] v slices_S64x512_o0_0_S64x128⟩,
    ⟨S64x128, extractStridedSlice S64x128 ![0, 128] v slices_S64x512_o0_128_S64x128⟩,
    ⟨S64x128, extractStridedSlice S64x128 ![0, 256] v slices_S64x512_o0_256_S64x128⟩,
    ⟨S64x128, extractStridedSlice S64x128 ![0, 384] v slices_S64x512_o0_384_S64x128⟩] concatenates_S64x128_S64x128_S64x128_S64x128_S256x128_d0

/-- One head's product of the cotangent's rows with the values' rows. -/
def gv (gh : FVec F S64x128 .bf16) (vh : FVec F S64x128 .f32) : FVec F S64x64 .f32 :=
  matmul dot_S64x128_S64x128_S64x64_1_1_0_0_n_n none gh (truncf .bf16 vh bitsLt_bf16_f32) (constant S64x64 .f32 0x00000000#32)

/-- The masked cotangent of the scores. -/
def dScores : FVec F S256x64 .f32 :=
  mulf (concatenate S256x64 0
    [⟨S64x64, gv (extractStridedSlice S64x128 ![0, 0] g slices_S64x512_o0_0_S64x128) (extractStridedSlice S64x128 ![0, 0] v slices_S64x512_o0_0_S64x128)⟩,
     ⟨S64x64, gv (extractStridedSlice S64x128 ![0, 128] g slices_S64x512_o0_128_S64x128) (extractStridedSlice S64x128 ![0, 128] v slices_S64x512_o0_128_S64x128)⟩,
     ⟨S64x64, gv (extractStridedSlice S64x128 ![0, 256] g slices_S64x512_o0_256_S64x128) (extractStridedSlice S64x128 ![0, 256] v slices_S64x512_o0_256_S64x128)⟩,
     ⟨S64x64, gv (extractStridedSlice S64x128 ![0, 384] g slices_S64x512_o0_384_S64x128) (extractStridedSlice S64x128 ![0, 384] v slices_S64x512_o0_384_S64x128)⟩]
    concatenates_S64x64_S64x64_S64x64_S64x64_S256x64_d0) (stack4 cum)

/-- The first pair's lanes of a state. -/
def lanesA (x : FVec F S128x256 .f32) : FVec F S128x128 .f32 := extractStridedSlice S128x128 ![0, 0] x slices_S128x256_o0_0_S128x128
/-- The second pair's lanes of a state. -/
def lanesB (x : FVec F S128x256 .f32) : FVec F S128x128 .f32 := extractStridedSlice S128x128 ![0, 128] x slices_S128x256_o0_128_S128x128

/-- Rows of bf16 (four heads stacked, 128 value lanes) times a state, brought back to 256 key lanes. -/
def timesState (x : FVec F S256x128 .bf16) (st : FVec F S128x256 .f32) : FVec F S64x256 .f32 :=
  concatenate S64x256 1
    [⟨S64x128, foldPair (matmul dot_S128x128_S128x128_S128x128_1_0_0_1_n_n none (extractStridedSlice S128x128 ![0, 0] x slices_S256x128_o0_0_S128x128)
        (truncf .bf16 (lanesA st) bitsLt_bf16_f32) (constant S128x128 .f32 0x00000000#32))⟩,
     ⟨S64x128, foldPair (matmul dot_S128x128_S128x128_S128x128_1_0_0_1_n_n none (extractStridedSlice S128x128 ![128, 0] x slices_S256x128_o128_0_S128x128)
        (truncf .bf16 (lanesB st) bitsLt_bf16_f32) (constant S128x128 .f32 0x00000000#32))⟩] concatenates_S64x128_S64x128_S64x256_d1

/-- The same of f32 rows, each slice rounded after it is taken. -/
def timesStateF (x : FVec F S256x128 .f32) (st : FVec F S128x256 .f32) : FVec F S64x256 .f32 :=
  concatenate S64x256 1
    [⟨S64x128, foldPair (matmul dot_S128x128_S128x128_S128x128_1_0_0_1_n_n none
        (truncf .bf16 (extractStridedSlice S128x128 ![0, 0] x slices_S256x128_o0_0_S128x128) bitsLt_bf16_f32)
        (truncf .bf16 (lanesA st) bitsLt_bf16_f32) (constant S128x128 .f32 0x00000000#32))⟩,
     ⟨S64x128, foldPair (matmul dot_S128x128_S128x128_S128x128_1_0_0_1_n_n none
        (truncf .bf16 (extractStridedSlice S128x128 ![128, 0] x slices_S256x128_o128_0_S128x128) bitsLt_bf16_f32)
        (truncf .bf16 (lanesB st) bitsLt_bf16_f32) (constant S128x128 .f32 0x00000000#32))⟩] concatenates_S64x128_S64x128_S64x256_d1

/-- The cotangent of the scaled queries. -/
def dqT : FVec F S64x256 .f32 :=
  addf (foldHeads (matmul dot_S256x64_S64x256_S256x256_1_0_0_1_n_n none (truncf .bf16 (dScores cum v g) bitsLt_bf16_f32)
      (truncf .bf16 (kT cum k la) bitsLt_bf16_f32) (constant S256x256 .f32 0x00000000#32)))
    (timesState (gStack g) s)

/-- The cotangent of the divided keys. -/
def dkT : FVec F S64x256 .f32 :=
  matmul dot_S256x64_S256x256_S64x256_0_0_1_1_n_n none (truncf .bf16 (dScores cum v g) bitsLt_bf16_f32)
    (truncf .bf16 (heads (qT cum q la)) bitsLt_bf16_f32) (constant S64x256 .f32 0x00000000#32)

/-- The upper 128 rows of four stacked heads. -/
def rowsA (x : FVec F S256x256 .f32) : FVec F S128x256 .f32 := extractStridedSlice S128x256 ![0, 0] x slices_S256x256_o0_0_S128x256
/-- The lower 128 rows. -/
def rowsB (x : FVec F S256x256 .f32) : FVec F S128x256 .f32 := extractStridedSlice S128x256 ![128, 0] x slices_S256x256_o128_0_S128x256

/-- What the leaving state's cotangent gives the values, the four heads one below the other. -/
def dvInter : FVec F S256x128 .f32 :=
  concatenate S256x128 0
    [⟨S128x128, matmul dot_S128x128_S128x128_S128x128_1_1_0_0_n_n none (truncf .bf16 (lanesA (rowsA (heads (kD cum k la)))) bitsLt_bf16_f32)
        (truncf .bf16 (lanesA ds) bitsLt_bf16_f32) (constant S128x128 .f32 0x00000000#32)⟩,
     ⟨S128x128, matmul dot_S128x128_S128x128_S128x128_1_1_0_0_n_n none (truncf .bf16 (lanesB (rowsB (heads (kD cum k la)))) bitsLt_bf16_f32)
        (truncf .bf16 (lanesB ds) bitsLt_bf16_f32) (constant S128x128 .f32 0x00000000#32)⟩] concatenates_S128x128_S128x128_S256x128_d0

/-- One head's product of the transposed scores with the cotangent's rows. -/
def ag (ah : FVec F S64x64 .f32) (gh : FVec F S64x128 .bf16) : FVec F S64x128 .f32 :=
  matmul dot_S64x64_S64x128_S64x128_0_0_1_1_n_n none (truncf .bf16 ah bitsLt_bf16_f32) gh (constant S64x128 .f32 0x00000000#32)

/-- The cotangent of the values, before rounding. -/
def dvRaw : FVec F S64x512 .f32 :=
  concatenate S64x512 1
    [⟨S64x128, addf (ag (extractStridedSlice S64x64 ![0, 0] (scores cum q k la) slices_S256x64_o0_0_S64x64) (extractStridedSlice S64x128 ![0, 0] g slices_S64x512_o0_0_S64x128))
        (extractStridedSlice S64x128 ![0, 0] (dvInter cum k la ds) slices_S256x128_o0_0_S64x128)⟩,
     ⟨S64x128, addf (ag (extractStridedSlice S64x64 ![64, 0] (scores cum q k la) slices_S256x64_o64_0_S64x64) (extractStridedSlice S64x128 ![0, 128] g slices_S64x512_o0_128_S64x128))
        (extractStridedSlice S64x128 ![64, 0] (dvInter cum k la ds) slices_S256x128_o64_0_S64x128)⟩,
     ⟨S64x128, addf (ag (extractStridedSlice S64x64 ![128, 0] (scores cum q k la) slices_S256x64_o128_0_S64x64) (extractStridedSlice S64x128 ![0, 256] g slices_S64x512_o0_256_S64x128))
        (extractStridedSlice S64x128 ![128, 0] (dvInter cum k la ds) slices_S256x128_o128_0_S64x128)⟩,
     ⟨S64x128, addf (ag (extractStridedSlice S64x64 ![192, 0] (scores cum q k la) slices_S256x64_o192_0_S64x64) (extractStridedSlice S64x128 ![0, 384] g slices_S64x512_o0_384_S64x128))
        (extractStridedSlice S64x128 ![192, 0] (dvInter cum k la ds) slices_S256x128_o192_0_S64x128)⟩]
    concatenates_S64x128_S64x128_S64x128_S64x128_S64x512_d1

/-- The cotangent of the keys decayed to the chunk's end. -/
def dkD : FVec F S64x256 .f32 := timesStateF (vStack v) ds

/-- The cotangent of the entering state. -/
def dState : FVec F S128x256 .f32 :=
  addf (mulf (broadcastTo S128x256 (decay la) broadcasts_S1x256_S128x256) ds)
    (concatenate S128x256 1
      [⟨S128x128, matmul dot_S128x128_S128x128_S128x128_0_0_1_1_n_n none (extractStridedSlice S128x128 ![0, 0] (gStack g) slices_S256x128_o0_0_S128x128)
          (truncf .bf16 (lanesA (rowsA (heads (qT cum q la)))) bitsLt_bf16_f32) (constant S128x128 .f32 0x00000000#32)⟩,
       ⟨S128x128, matmul dot_S128x128_S128x128_S128x128_0_0_1_1_n_n none (extractStridedSlice S128x128 ![128, 0] (gStack g) slices_S256x128_o128_0_S128x128)
          (truncf .bf16 (lanesB (rowsB (heads (qT cum q la)))) bitsLt_bf16_f32) (constant S128x128 .f32 0x00000000#32)⟩]
      concatenates_S128x128_S128x128_S128x256_d1)

/-- Each decayed key times its cotangent. -/
def tkD : FVec F S64x256 .f32 := mulf (dkD v ds) (kD cum k la)

/-- The cotangent of the running sum of the log decays, the chunk's last row apart. -/
def dCum : FVec F S64x256 .f32 :=
  subf (subf (mulf (dqT cum k la v g s) (qT cum q la)) (mulf (dkT cum q la v g) (kT cum k la))) (tkD cum k la v ds)

/-- The cotangent of the chunk's whole log decay. -/
def dLast : FVec F S1x256 .f32 := addf (mulf (sumState (mulf ds s)) (decay la)) (sumRows (tkD cum k la v ds))

/-- The cotangent of the log decays. -/
def dLog (cumT : FVec F S64x64 .f32) : FVec F S64x256 .f32 :=
  addf (splitDot cumT (dCum cum q k la v g s ds)) (broadcastTo S64x256 (dLast cum k la v s ds) broadcasts_S1x256_S64x256)

/-- The cotangent of the queries. -/
def dQ : FVec F S64x256 .bf16 :=
  truncf .bf16 (mulf (mulf (dqT cum k la v g s) (expLog cum la)) (broadcast S64x256 (Scalar.ofBits .f32 0x3E000000#32))) bitsLt_bf16_f32

/-- The cotangent of the keys. -/
def dK : FVec F S64x256 .bf16 :=
  truncf .bf16 (addf (mulf (dkT cum q la v g) (expNeg cum la)) (mulf (dkD v ds) (expEnd cum la))) bitsLt_bf16_f32

/-- The cotangent of the values. -/
def dV : FVec F S64x512 .bf16 := truncf .bf16 (dvRaw cum q k la g ds) bitsLt_bf16_f32

end Inputs

/-! ## The rectangles -/

theorem inbK {j : ℕ} (hj : j < 16) : ∀ a, (![64 * j, 0] : Fin 2 → Nat) a + S64x256.size a ≤ S1024x256.size a := by
  intro a; fin_cases a
  · show 64 * j + 64 ≤ 1024; omega
  · show 0 + 256 ≤ 256; omega

theorem inbV {j : ℕ} (hj : j < 16) : ∀ a, (![64 * j, 0] : Fin 2 → Nat) a + S64x512.size a ≤ S1024x512.size a := by
  intro a; fin_cases a
  · show 64 * j + 64 ≤ 1024; omega
  · show 0 + 512 ≤ 512; omega

theorem inbS {j : ℕ} (hj : j < 16) : ∀ a, (![j, 0, 0] : Fin 3 → Nat) a + S1x128x256.size a ≤ S16x128x256.size a := by
  intro a; fin_cases a
  · show j + 1 ≤ 16; omega
  · show 0 + 128 ≤ 128; omega
  · show 0 + 256 ≤ 256; omega

theorem inbD {d : ℕ} (hd : d < 2) : ∀ a, (![d, 0, 0] : Fin 3 → Nat) a + S1x128x256.size a ≤ S2x128x256.size a := by
  intro a; fin_cases a
  · show d + 1 ≤ 2; omega
  · show 0 + 128 ≤ 128; omega
  · show 0 + 256 ≤ 256; omega

/-- Chunk `j`'s rows of a block of 256 lanes. -/
@[reducible] def rectK {j : ℕ} (hj : j < 16) : Rect S1024x256 := Rect.unit (s := S1024x256) ![64 * j, 0] S64x256.size (inbK hj)
/-- Chunk `j`'s rows of a block of 512 lanes. -/
@[reducible] def rectV {j : ℕ} (hj : j < 16) : Rect S1024x512 := Rect.unit (s := S1024x512) ![64 * j, 0] S64x512.size (inbV hj)
/-- Chunk `j`'s state of a block of sixteen. -/
@[reducible] def rectS {j : ℕ} (hj : j < 16) : Rect S16x128x256 := Rect.unit (s := S16x128x256) ![j, 0, 0] S1x128x256.size (inbS hj)
/-- Direction `d`'s half of the carried cotangent. -/
@[reducible] def rectD {d : ℕ} (hd : d < 2) : Rect S2x128x256 := Rect.unit (s := S2x128x256) ![d, 0, 0] S1x128x256.size (inbD hd)

theorem packedK {j : ℕ} (hj : j < 16) : (rectK hj).PackedRows (EltTy.packing .bf16) :=
  .inr ⟨le_refl 2, rfl, .inl ⟨⟨32 * j, by show 64 * j = 2 * (32 * j); omega⟩, ⟨32, rfl⟩⟩⟩

theorem packedV {j : ℕ} (hj : j < 16) : (rectV hj).PackedRows (EltTy.packing .bf16) :=
  .inr ⟨le_refl 2, rfl, .inl ⟨⟨32 * j, by show 64 * j = 2 * (32 * j); omega⟩, ⟨32, rfl⟩⟩⟩

/-! ## The stretch of the body -/

/-- One chunk of one direction: the loads, the results and the stores, in the body's order. -/
def chunk (cum cumT : FVec F S64x64 .f32) {d : ℕ} (hd : d < 2) {j : ℕ} (hj : j < 16)
    (mq mk : Memref sig .tc .vmem S1024x256 .f32) (mv : Memref sig .tc .vmem S1024x512 .f32) (mla : Memref sig .tc .vmem S1024x256 .f32)
    (mg : Memref sig .tc .vmem S1024x512 .bf16) (ms : Memref sig .tc .vmem S16x128x256 .f32)
    (mdq : Memref sig .tc .vmem S1024x256 .bf16) (hdq : mdq.IsWhole) (mdk : Memref sig .tc .vmem S1024x256 .bf16) (hdk : mdk.IsWhole)
    (mdv : Memref sig .tc .vmem S1024x512 .bf16) (hdv : mdv.IsWhole) (mdla : Memref sig .tc .vmem S1024x256 .f32)
    (mds : Memref sig .tc .vmem S2x128x256 .f32) : Prog (TpuEff nD τ sig (Elt F) Λ₀ .tc) PUnit := do
  let v : Vec F S64x512 .f32 ← Prog.lift (.load mv (rectV hj).toLoadRect (View.loadsAt_vmem h_S64x512))
  let g : Vec F S64x512 .bf16 ← Prog.lift (.load mg (rectV hj).toLoadRect (View.loadsAt_vmem h_S64x512))
  let q : Vec F S64x256 .f32 ← Prog.lift (.load mq (rectK hj).toLoadRect (View.loadsAt_vmem h_S64x256))
  let k : Vec F S64x256 .f32 ← Prog.lift (.load mk (rectK hj).toLoadRect (View.loadsAt_vmem h_S64x256))
  let la : Vec F S64x256 .f32 ← Prog.lift (.load mla (rectK hj).toLoadRect (View.loadsAt_vmem h_S64x256))
  let s₁ : Vec F S1x128x256 .f32 ← Prog.lift (.load ms (rectS hj).toLoadRect (View.loadsAt_vmem h_S1x128x256))
  let ds₁ : Vec F S1x128x256 .f32 ← Prog.lift (.load mds (rectD hd).toLoadRect (View.loadsAt_vmem h_S1x128x256))
  let _ : Vec F S64x512 .bf16 ← Prog.lift (.load mdv (rectV hj).toLoadRect (View.loadsAt_vmem h_S64x512))
  Prog.lift (.store mdv (rectV hj) (dV cum q k la g (shapeCast S128x256 ds₁ shapeCasts_S1x128x256_S128x256)) Finset.univ
    (View.stores_vmem h_S64x512 (hdv.storeExact_slice rfl _ (packedV hj)) (fun _ => rfl)) (.inl rfl))
  let _ : Vec F S1x128x256 .f32 ← Prog.lift (.load mds (rectD hd).toLoadRect (View.loadsAt_vmem h_S1x128x256))
  Prog.lift (.store mds (rectD hd)
    (shapeCast S1x128x256 (dState cum q la g (shapeCast S128x256 ds₁ shapeCasts_S1x128x256_S128x256)) shapeCasts_S128x256_S1x128x256) Finset.univ
    (View.stores_vmem_bits_univ h_S1x128x256 rfl) (.inl rfl))
  let _ : Vec F S64x256 .f32 ← Prog.lift (.load mdla (rectK hj).toLoadRect (View.loadsAt_vmem h_S64x256))
  Prog.lift (.store mdla (rectK hj)
    (dLog cum q k la v g (shapeCast S128x256 s₁ shapeCasts_S1x128x256_S128x256) (shapeCast S128x256 ds₁ shapeCasts_S1x128x256_S128x256) cumT) Finset.univ
    (View.stores_vmem_bits_univ h_S64x256 rfl) (.inl rfl))
  let _ : Vec F S64x256 .bf16 ← Prog.lift (.load mdq (rectK hj).toLoadRect (View.loadsAt_vmem h_S64x256))
  Prog.lift (.store mdq (rectK hj) (dQ cum k la v g (shapeCast S128x256 s₁ shapeCasts_S1x128x256_S128x256)) Finset.univ
    (View.stores_vmem h_S64x256 (hdq.storeExact_slice rfl _ (packedK hj)) (fun _ => rfl)) (.inl rfl))
  let _ : Vec F S64x256 .bf16 ← Prog.lift (.load mdk (rectK hj).toLoadRect (View.loadsAt_vmem h_S64x256))
  Prog.lift (.store mdk (rectK hj) (dK cum q la v g (shapeCast S128x256 ds₁ shapeCasts_S1x128x256_S128x256)) Finset.univ
    (View.stores_vmem h_S64x256 (hdk.storeExact_slice rfl _ (packedK hj)) (fun _ => rfl)) (.inl rfl))

end Cert.Gla

end
-- ==== Proof.Body.lean ====
/- The body of one grid point as sixteen steps, each a chunk of the forward direction and a chunk of
   the backward direction, between the copy of the last cotangent in (first point) and the copy of the
   carried cotangent out (last point). -/
module

public import proofs.«01_k».proof.Proof.Chunk
public import Idealize.ShloMosaic.Lib.Tactic

@[expose] public section

noncomputable section

namespace Cert.Gla

open Idealize.ShloMosaic Idealize.ShloMosaic.Tactic Idealize.SL.Sem
open Cert.KernelIdeal Cert.KernelIdeal.Facts₀ Cert.KernelIdeal.Facts

variable {F : FTy → Type} [FloatOps F]

/-! ## Comparing two programs operation by operation -/

section Norm
universe v
variable {E : Type → Type v}

/-- A program rebuilt from its operations is the program. -/
theorem rebuild {α : Type} (P : Prog E α) :
    @Prog.rec E α (fun _ => Prog E α) (fun a => Prog.ret a) (fun e _ ih => Prog.op e ih) P = P := by
  induction P with
  | ret a => rfl
  | op e k ih => exact congrArg (Prog.op e) (funext ih)

/-- Two programs are equal when they are equal rebuilt. -/
theorem eq_of_rebuild {α : Type} {P Q : Prog E α}
    (h : @Prog.rec E α (fun _ => Prog E α) (fun a => Prog.ret a) (fun e _ ih => Prog.op e ih) P
      = @Prog.rec E α (fun _ => Prog E α) (fun a => Prog.ret a) (fun e _ ih => Prog.op e ih) Q) : P = Q :=
  (rebuild P).symm.trans (h.trans (rebuild Q))

end Norm

/-- At the first grid point the carried cotangent is set to the one given. -/
def prologue (i : grid0.Coords) (m13 m23 : Memref sig .tc .vmem S2x128x256 .f32) : Prog (TpuEff nD τ sig (Elt F) Λ₀ .tc) PUnit :=
  if _h : Scalar.cmpi .ne (Scalar.extui (Scalar.cmpi .eq (BitVec.ofNat 32 (i 0).val) 0#32) : BitVec 32) 0#32 = 1#1 then do
    let x : Vec F S2x128x256 .f32 ← Prog.lift (.load m13 (Rect.unit (s := S2x128x256) ![0, 0, 0] S2x128x256.size inb_S2x128x256_S2x128x256_0_0_0).toLoadRect (View.loadsAt_vmem h_S2x128x256))
    let _ : Vec F S2x128x256 .f32 ← Prog.lift (.load m23 (Rect.unit (s := S2x128x256) ![0, 0, 0] S2x128x256.size inb_S2x128x256_S2x128x256_0_0_0).toLoadRect (View.loadsAt_vmem h_S2x128x256))
    Prog.lift (.store m23 (Rect.unit (s := S2x128x256) ![0, 0, 0] S2x128x256.size inb_S2x128x256_S2x128x256_0_0_0)
      (shapeCast S2x128x256 x shapeCasts_S2x128x256_S2x128x256) Finset.univ (View.stores_vmem_bits_univ h_S2x128x256 rfl) (.inl rfl))
    pure ⟨⟩
  else do
    pure ⟨⟩

/-- At the last grid point the carried cotangent is copied out. -/
def epilogue (i : grid0.Coords) (m22 m23 : Memref sig .tc .vmem S2x128x256 .f32) : Prog (TpuEff nD τ sig (Elt F) Λ₀ .tc) PUnit :=
  if _h : k0_cond2 i = 1#1 then do
    let x : Vec F S2x128x256 .f32 ← Prog.lift (.load m23 (Rect.unit (s := S2x128x256) ![0, 0, 0] S2x128x256.size inb_S2x128x256_S2x128x256_0_0_0).toLoadRect (View.loadsAt_vmem h_S2x128x256))
    let _ : Vec F S2x128x256 .f32 ← Prog.lift (.load m22 (Rect.unit (s := S2x128x256) ![0, 0, 0] S2x128x256.size inb_S2x128x256_S2x128x256_0_0_0).toLoadRect (View.loadsAt_vmem h_S2x128x256))
    Prog.lift (.store m22 (Rect.unit (s := S2x128x256) ![0, 0, 0] S2x128x256.size inb_S2x128x256_S2x128x256_0_0_0) x Finset.univ
      (View.stores_vmem_bits_univ h_S2x128x256 rfl) (.inl rfl))
    pure ⟨⟩
  else do
    pure ⟨⟩

section Body
variable (i : grid0.Coords)
  (arg1 : Memref sig .tc .vmem S1024x256 .f32) (harg1 : arg1.IsWhole)
  (arg2 : Memref sig .tc .vmem S1024x256 .f32) (harg2 : arg2.IsWhole)
  (arg3 : Memref sig .tc .vmem S1024x512 .f32) (harg3 : arg3.IsWhole)
  (arg4 : Memref sig .tc .vmem S1024x256 .f32) (harg4 : arg4.IsWhole)
  (arg5 : Memref sig .tc .vmem S1024x512 .bf16) (harg5 : arg5.IsWhole)
  (arg6 : Memref sig .tc .vmem S16x128x256 .f32) (harg6 : arg6.IsWhole)
  (arg7 : Memref sig .tc .vmem S1024x256 .f32) (harg7 : arg7.IsWhole)
  (arg8 : Memref sig .tc .vmem S1024x256 .f32) (harg8 : arg8.IsWhole)
  (arg9 : Memref sig .tc .vmem S1024x512 .f32) (harg9 : arg9.IsWhole)
  (arg10 : Memref sig .tc .vmem S1024x256 .f32) (harg10 : arg10.IsWhole)
  (arg11 : Memref sig .tc .vmem S1024x512 .bf16) (harg11 : arg11.IsWhole)
  (arg12 : Memref sig .tc .vmem S16x128x256 .f32) (harg12 : arg12.IsWhole)
  (arg13 : Memref sig .tc .vmem S2x128x256 .f32) (harg13 : arg13.IsWhole)
  (arg14 : Memref sig .tc .vmem S1024x256 .bf16) (harg14 : arg14.IsWhole)
  (arg15 : Memref sig .tc .vmem S1024x256 .bf16) (harg15 : arg15.IsWhole)
  (arg16 : Memref sig .tc .vmem S1024x512 .bf16) (harg16 : arg16.IsWhole)
  (arg17 : Memref sig .tc .vmem S1024x256 .f32) (harg17 : arg17.IsWhole)
  (arg18 : Memref sig .tc .vmem S1024x256 .bf16) (harg18 : arg18.IsWhole)
  (arg19 : Memref sig .tc .vmem S1024x256 .bf16) (harg19 : arg19.IsWhole)
  (arg20 : Memref sig .tc .vmem S1024x512 .bf16) (harg20 : arg20.IsWhole)
  (arg21 : Memref sig .tc .vmem S1024x256 .f32) (harg21 : arg21.IsWhole)
  (arg22 : Memref sig .tc .vmem S2x128x256 .f32) (harg22 : arg22.IsWhole)
  (arg23 : Memref sig .tc .vmem S2x128x256 .f32) (harg23 : arg23.IsWhole)

/-- Step `j`: the forward direction's chunk `15 - j` and the backward direction's chunk `j`. -/
def stepAt (j : ℕ) (hj : j < 16) : Prog (TpuEff nD τ sig (Elt F) Λ₀ .tc) PUnit := do
  chunk lowerTri upperTri (d := 0) (by decide) (j := 15 - j) (lt_of_le_of_lt (Nat.sub_le 15 j) (by decide)) arg1 arg2 arg3 arg4 arg5 arg6 arg14 harg14 arg15 harg15 arg16 harg16 arg17 arg23
  chunk upperTri lowerTri (d := 1) (by decide) (j := j) hj arg7 arg8 arg9 arg10 arg11 arg12 arg18 harg18 arg19 harg19 arg20 harg20 arg21 arg23

/-- The first `n` steps. -/
def stepsTo : (n : ℕ) → n ≤ 16 → Prog (TpuEff nD τ sig (Elt F) Λ₀ .tc) PUnit
  | 0, _ => pure ⟨⟩
  | n + 1, h => do
    stepsTo n (Nat.le_of_succ_le h)
    stepAt arg1 arg2 arg3 arg4 arg5 arg6 arg7 arg8 arg9 arg10 arg11 arg12 arg14 harg14 arg15 harg15 arg16 harg16 arg17 arg18 harg18 arg19 harg19 arg20 harg20 arg21 arg23 n h

set_option maxRecDepth 100000 in
set_option maxHeartbeats 4000000 in
/-- The printed body is the copy in, the sixteen steps and the copy out. -/
theorem body_eq : cc0_gla_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 = (do
    prologue i arg13 arg23
    stepsTo arg1 arg2 arg3 arg4 arg5 arg6 arg7 arg8 arg9 arg10 arg11 arg12 arg14 harg14 arg15 harg15 arg16 harg16 arg17 arg18 harg18 arg19 harg19 arg20 harg20 arg21 arg23 16 le_rfl
    epilogue i arg22 arg23) := by
  unfold cc0_gla_bwd k0_part323
  rw [show k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 = dite (Scalar.cmpi .ne (Scalar.extui (Scalar.cmpi .eq (BitVec.ofNat 32 (i 0).val) 0#32) : BitVec 32) 0#32 = 1#1) (fun _ => _) (fun _ => _) from rfl]
  unfold prologue
  by_cases hc : Scalar.cmpi .ne (Scalar.extui (Scalar.cmpi .eq (BitVec.ofNat 32 (i 0).val) 0#32) : BitVec 32) 0#32 = 1#1
  · rw [dif_pos hc, dif_pos hc]
    refine eq_of_rebuild ?_
    sl_kernel_rfl
  · rw [dif_neg hc, dif_neg hc]
    refine eq_of_rebuild ?_
    sl_kernel_rfl

end Body

end Cert.Gla

end
-- ==== Proof.Put.lean ====
/- Loads and stores through a rectangle of a memref owned as a whole: a load reads the rectangle's part of the
   contents, a store replaces that part. -/
module

public import Idealize.ShloMosaic.Lib.Pipeline.Frame
public import Idealize.ShloMosaic.Lib.Memref

@[expose] public section

noncomputable section

namespace Cert.Gla

open Idealize.ShloMosaic
open Idealize.SL Idealize.SL.RA Idealize.SL.Sem
open Idealize.SL.BI (sProp)
open scoped Idealize.SL.BI
open Idealize.SL.BI.BIBase Idealize.SL.BI.Laws Idealize.SL.ProofMode

/-- Contents `x` with the rectangle's part replaced by `y`. -/
def put {α : Type} {s : Shape} (r : Rect s) (y : r.shape.Idx → α) (x : s.Idx → α) : s.Idx → α :=
  open Classical in fun p => if h : ∃ q, r.emb q = p then y h.choose else x p

theorem put_emb {α : Type} {s : Shape} (r : Rect s) (y : r.shape.Idx → α) (x : s.Idx → α) (q : r.shape.Idx) :
    put r y x (r.emb q) = y q := by
  have h : ∃ q', r.emb q' = r.emb q := ⟨q, rfl⟩
  unfold put
  rw [dif_pos h, r.emb.injective h.choose_spec]

theorem put_miss {α : Type} {s : Shape} (r : Rect s) (y : r.shape.Idx → α) (x : s.Idx → α) (p : s.Idx)
    (h : ¬ ∃ q, r.emb q = p) : put r y x p = x p := dif_neg h

variable {nD : Nat} {τ : Topo} {sig : RefSig} {Val : EltTy → Type}

/-- What a view reads after a store through a rectangle of it. -/
theorem read_store {κ : Kind} {sp : Space} {s : Shape} {e : EltTy} (v : View sig κ sp s e) (r : Rect s)
    (f : v.ty.Contents Val) (w : r.shape.Idx → Val e) :
    v.read Val ((v.slice r).write Val f w Finset.univ) = put r w (v.read Val f) := by
  funext p
  by_cases h : ∃ q, r.emb q = p
  · obtain ⟨q, rfl⟩ := h
    rw [put_emb]
    exact v.read_slice_write_emb r f w (Finset.mem_univ q)
  · rw [put_miss r w _ p h]
    refine v.read_slice_write_of_not_mem r f w _ fun hm => h ?_
    obtain ⟨q, _, hq⟩ := Finset.mem_map.mp hm
    exact ⟨q, hq⟩

/-! ## A family of stores, one after the other -/

/-- The contents after the first `n` stores of a family. -/
def puts {α : Type} {s : Shape} (N : ℕ) (r : (n : ℕ) → n < N → Rect s) (w : (n : ℕ) → (h : n < N) → (r n h).shape.Idx → α)
    (x : s.Idx → α) : (n : ℕ) → n ≤ N → (s.Idx → α)
  | 0, _ => x
  | n + 1, h => put (r n h) (w n h) (puts N r w x n (Nat.le_of_succ_le h))

/-- Stores that agree with one function and together cover the shape leave that function. -/
theorem puts_eq {α : Type} {s : Shape} (N : ℕ) (r : (n : ℕ) → n < N → Rect s) (w : (n : ℕ) → (h : n < N) → (r n h).shape.Idx → α)
    (x : s.Idx → α) (G : s.Idx → α) (hG : ∀ n h q, G ((r n h).emb q) = w n h q)
    (hc : ∀ p : s.Idx, ∃ n h q, (r n h).emb q = p) : puts N r w x N le_rfl = G := by
  have key : ∀ (n : ℕ) (hn : n ≤ N) (p : s.Idx), (∃ m, ∃ h : m < N, m < n ∧ ∃ q, (r m h).emb q = p) → puts N r w x n hn p = G p := by
    intro n
    induction n with
    | zero => rintro hn p ⟨m, _, h, _⟩; omega
    | succ n ih =>
      rintro hn p ⟨m, hm, hmn, q, rfl⟩
      unfold puts
      by_cases h : ∃ q', (r n hn).emb q' = (r m hm).emb q
      · obtain ⟨q', h⟩ := h
        rw [← h, put_emb, hG]
      · rw [put_miss _ _ _ _ h]
        refine ih _ _ ⟨m, hm, ?_, q, rfl⟩
        rcases Nat.lt_succ_iff_lt_or_eq.mp hmn with h' | rfl
        · exact h'
        · exact absurd ⟨q, rfl⟩ h
  funext p
  obtain ⟨n, h, q, hq⟩ := hc p
  exact key N le_rfl p ⟨n, h, h, q, hq⟩

/-! ## The program logic's two rules -/

variable {Ix : Type} [DecidableEq Ix] {Name : Type} [DecidableEq Name] {U : Type} [URA U] {Lvl : Type} [Preorder Lvl] {Λ : Labels}

local notation "𝕄" => MT nD τ sig Ix Val Name U Lvl

variable {defs : Defs nD τ sig Val Λ} (𝒱 : Variants) (c : Thread nD τ) (bd : Option 𝒱.V) {Γ : PendingWaitsCtx sig Ix} (E : Set Name)
  {s : Shape} {e : EltTy} {α : Type}

/-- A load through a rectangle of an owned memref reads the rectangle's part. -/
theorem owns_load {cs : CoreSpace} {m : Memref sig c.2.kind cs s e} {r : Rect s} {hl : m.view.LoadsAt r.toLoadRect}
    {k : (r.shape.Idx → Val e) → Prog (TpuEff nD τ sig Val Λ c.2) α} {q : PosShare TreeShare} {x : s.Idx → Val e} {Q : α → sProp 𝕄} :
    (owns c m q x : sProp 𝕄)
      ⊢ iprop((owns c m q x -∗ wp frame (wpE' defs 𝒱 c bd Γ) E (k fun j => x (r.emb j)) Q)
        -∗ wp frame (wpE' defs 𝒱 c bd Γ) E (.op (.load m r.toLoadRect hl) k) Q) := by
  unfold owns
  iintro ⟨%f, %hf, H⟩ Hk
  subst hf
  have h := wp_load (defs := defs) (Γ := Γ) (Q := Q) (m := m) (hl := hl) (k := k) (q := q) (f := f) 𝒱 c bd E (m.view.setOn_subset_set _)
  iapply h $$ H
  iintro H
  iapply Hk
  iexists f
  isplitr; · ipureintro; rfl
  iexact H

/-- A store through a rectangle of an owned memref replaces the rectangle's part. -/
theorem owns_store {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {x : s.Idx → Val e} {Q : α → sProp 𝕄} :
    (owns c m fullShare x : sProp 𝕄)
      ⊢ iprop((owns c m fullShare (put r w x) -∗ wp frame (wpE' defs 𝒱 c bd Γ) E (k ⟨⟩) Q)
        -∗ wp frame (wpE' defs 𝒱 c bd Γ) E (.op (.store m r w Finset.univ hx hm) k) Q) := by
  unfold owns
  iintro ⟨%f, %hf, H⟩ Hk
  subst hf
  have h := wp_store (defs := defs) (Γ := Γ) (Q := Q) (m := m) (r := r) (w := w) (Mk := Finset.univ) (hx := hx) (hm := hm) (k := k) (f := f) 𝒱 c bd E
    (((m.access r).setOn_subset_set _).trans (m.view.set_slice_subset r))
  iapply h $$ H
  iintro H
  iapply Hk
  iexists _
  isplitr
  swap; · iexact H
  ipureintro
  exact read_store m.view r f w

end Cert.Gla

end
-- ==== Proof.Step.lean ====
/- One chunk of the body on owned memrefs: what it reads, and what it leaves. -/
module

public import proofs.«01_k».proof.Proof.Body
public import proofs.«01_k».proof.Proof.Put
public import Idealize.ShloMosaic.Lib.Rounds

@[expose] public section

noncomputable section

namespace Cert.Gla

open Idealize.ShloMosaic Idealize.ShloMosaic.TcCoe
open Idealize.SL Idealize.SL.RA Idealize.SL.Sem
open Idealize.SL.BI (sProp)
open scoped Idealize.SL.BI
open Idealize.SL.BI.BIBase Idealize.SL.BI.Laws Idealize.SL.ProofMode
open Idealize.ShloMosaic.Rounds
open Cert.KernelIdeal Cert.KernelIdeal.Facts₀ Cert.KernelIdeal.Facts

variable {F : FTy → Type} [FloatOps F]

local notation "𝕄" => MT nD τ sig Unit (Elt F) ℕ (UR sig nD τ) ℕ

/-- The blocks of one direction that a grid point reads: queries, keys, log decays, values, the output's cotangent
    and the states entering the chunks. -/
structure Dir (F : FTy → Type) [FloatOps F] where
  q : Vec F S1024x256 .f32
  k : Vec F S1024x256 .f32
  la : Vec F S1024x256 .f32
  v : Vec F S1024x512 .f32
  g : Vec F S1024x512 .bf16
  s : Vec F S16x128x256 .f32

/-- Chunk `j` of a block of 256 lanes. -/
def atK {e : EltTy} (x : Vec F S1024x256 e) {j : ℕ} (hj : j < 16) : Vec F S64x256 e := fun p => x ((rectK hj).emb p)
/-- Chunk `j` of a block of 512 lanes. -/
def atV {e : EltTy} (x : Vec F S1024x512 e) {j : ℕ} (hj : j < 16) : Vec F S64x512 e := fun p => x ((rectV hj).emb p)
/-- Chunk `j` of a block of states. -/
def atS (x : Vec F S16x128x256 .f32) {j : ℕ} (hj : j < 16) : FVec F S128x256 .f32 :=
  shapeCast S128x256 (fun p => x ((rectS hj).emb p) : FVec F S1x128x256 .f32) shapeCasts_S1x128x256_S128x256
/-- Direction `d`'s half of the carried cotangent. -/
def atD (x : Vec F S2x128x256 .f32) {d : ℕ} (hd : d < 2) : FVec F S128x256 .f32 :=
  shapeCast S128x256 (fun p => x ((rectD hd).emb p) : FVec F S1x128x256 .f32) shapeCasts_S1x128x256_S128x256

section Chunk
variable (cum cumT : FVec F S64x64 .f32) (B : Dir F) {j : ℕ} (hj : j < 16) (ds : FVec F S128x256 .f32)

/-- The results of one chunk from its inputs and the cotangent of the state leaving it. -/
def chunkQ : Vec F S64x256 .bf16 := dQ cum (atK B.k hj) (atK B.la hj) (atV B.v hj) (atV B.g hj) (atS B.s hj)
def chunkK : Vec F S64x256 .bf16 := dK cum (atK B.q hj) (atK B.la hj) (atV B.v hj) (atV B.g hj) ds
def chunkV : Vec F S64x512 .bf16 := dV cum (atK B.q hj) (atK B.k hj) (atK B.la hj) (atV B.g hj) ds
def chunkL : Vec F S64x256 .f32 :=
  dLog cum (atK B.q hj) (atK B.k hj) (atK B.la hj) (atV B.v hj) (atV B.g hj) (atS B.s hj) ds cumT
def chunkS : FVec F S128x256 .f32 := dState cum (atK B.q hj) (atK B.la hj) (atV B.g hj) ds

end Chunk

section Triple
/-- The blocks of a direction owned. -/
def dirOwned (c : Dev nD) (mq mk mla : Memref sig .tc .vmem S1024x256 .f32) (mv : Memref sig .tc .vmem S1024x512 .f32)
    (mg : Memref sig .tc .vmem S1024x512 .bf16) (ms : Memref sig .tc .vmem S16x128x256 .f32) (B : Dir F) : sProp 𝕄 :=
  iprop(owns (c : Thread nD τ) mq fullShare B.q ∗ owns (c : Thread nD τ) mk fullShare B.k ∗ owns (c : Thread nD τ) mla fullShare B.la
    ∗ owns (c : Thread nD τ) mv fullShare B.v ∗ owns (c : Thread nD τ) mg fullShare B.g ∗ owns (c : Thread nD τ) ms fullShare B.s)

/-- A chunk of the body: the inputs stay, the chunk's rows of the results are replaced, and so is the direction's
    half of the carried cotangent. -/
theorem chunk_wp (c : Dev nD) (E : Set ℕ) (Q : PUnit → sProp 𝕄)
    (cum cumT : FVec F S64x64 .f32) {d : ℕ} (hd : d < 2) {j : ℕ} (hj : j < 16)
    (mq mk : Memref sig .tc .vmem S1024x256 .f32) (mv : Memref sig .tc .vmem S1024x512 .f32) (mla : Memref sig .tc .vmem S1024x256 .f32)
    (mg : Memref sig .tc .vmem S1024x512 .bf16) (ms : Memref sig .tc .vmem S16x128x256 .f32)
    (mdq : Memref sig .tc .vmem S1024x256 .bf16) (hdq : mdq.IsWhole) (mdk : Memref sig .tc .vmem S1024x256 .bf16) (hdk : mdk.IsWhole)
    (mdv : Memref sig .tc .vmem S1024x512 .bf16) (hdv : mdv.IsWhole) (mdla : Memref sig .tc .vmem S1024x256 .f32)
    (mds : Memref sig .tc .vmem S2x128x256 .f32) (B : Dir F)
    (yq yk : Vec F S1024x256 .bf16) (yv : Vec F S1024x512 .bf16) (yl : Vec F S1024x256 .f32) (D : Vec F S2x128x256 .f32) :
    iprop(dirOwned c mq mk mla mv mg ms B ∗ owns (c : Thread nD τ) mdq fullShare yq ∗ owns (c : Thread nD τ) mdk fullShare yk
      ∗ owns (c : Thread nD τ) mdv fullShare yv ∗ owns (c : Thread nD τ) mdla fullShare yl ∗ owns (c : Thread nD τ) mds fullShare D)
    ⊢ iprop((iprop(dirOwned c mq mk mla mv mg ms B
        ∗ owns (c : Thread nD τ) mdq fullShare (put (rectK hj) (chunkQ cum B hj) yq)
        ∗ owns (c : Thread nD τ) mdk fullShare (put (rectK hj) (chunkK cum B hj (atD D hd)) yk)
        ∗ owns (c : Thread nD τ) mdv fullShare (put (rectV hj) (chunkV cum B hj (atD D hd)) yv)
        ∗ owns (c : Thread nD τ) mdla fullShare (put (rectK hj) (chunkL cum cumT B hj (atD D hd)) yl)
        ∗ owns (c : Thread nD τ) mds fullShare (put (rectD hd)
            (shapeCast S1x128x256 (chunkS cum B hj (atD D hd)) shapeCasts_S128x256_S1x128x256) D)) -∗ Q ⟨⟩)
      -∗ wp frame (wpE (defs₀ (F := F)) Variants.none c none) E
        (chunk cum cumT hd hj mq mk mv mla mg ms mdq hdq mdk hdk mdv hdv mdla mds) Q) := by
  unfold chunk dirOwned
  simp only [Prog.bind_lift]
  unfold Prog.lift
  iintro ⟨⟨Hq, Hk, Hla, Hv, Hg, Hs⟩, Oq, Ok, Ov, Ol, OD⟩ HQ
  iapply (owns_load (defs := defs₀ (F := F)) Variants.none (c : Thread nD τ) none E) $$ Hv
  iintro Hv
  iapply (owns_load (defs := defs₀ (F := F)) Variants.none (c : Thread nD τ) none E) $$ Hg
  iintro Hg
  iapply (owns_load (defs := defs₀ (F := F)) Variants.none (c : Thread nD τ) none E) $$ Hq
  iintro Hq
  iapply (owns_load (defs := defs₀ (F := F)) Variants.none (c : Thread nD τ) none E) $$ Hk
  iintro Hk
  iapply (owns_load (defs := defs₀ (F := F)) Variants.none (c : Thread nD τ) none E) $$ Hla
  iintro Hla
  iapply (owns_load (defs := defs₀ (F := F)) Variants.none (c : Thread nD τ) none E) $$ Hs
  iintro Hs
  iapply (owns_load (defs := defs₀ (F := F)) Variants.none (c : Thread nD τ) none E) $$ OD
  iintro OD
  iapply (owns_load (defs := defs₀ (F := F)) Variants.none (c : Thread nD τ) none E) $$ Ov
  iintro Ov
  iapply (owns_store (defs := defs₀ (F := F)) Variants.none (c : Thread nD τ) none E) $$ Ov
  iintro Ov
  iapply (owns_load (defs := defs₀ (F := F)) Variants.none (c : Thread nD τ) none E) $$ OD
  iintro OD
  iapply (owns_store (defs := defs₀ (F := F)) Variants.none (c : Thread nD τ) none E) $$ OD
  iintro OD
  iapply (owns_load (defs := defs₀ (F := F)) Variants.none (c : Thread nD τ) none E) $$ Ol
  iintro Ol
  iapply (owns_store (defs := defs₀ (F := F)) Variants.none (c : Thread nD τ) none E) $$ Ol
  iintro Ol
  iapply (owns_load (defs := defs₀ (F := F)) Variants.none (c : Thread nD τ) none E) $$ Oq
  iintro Oq
  iapply (owns_store (defs := defs₀ (F := F)) Variants.none (c : Thread nD τ) none E) $$ Oq
  iintro Oq
  iapply (owns_load (defs := defs₀ (F := F)) Variants.none (c : Thread nD τ) none E) $$ Ok
  iintro Ok
  iapply (owns_store (defs := defs₀ (F := F)) Variants.none (c : Thread nD τ) none E) $$ Ok
  iintro Ok
  rw [wp_ret]
  imodintro
  iapply HQ
  isplitl [Hq Hk Hla Hv Hg Hs]
  · isplitl [Hq]; · iexact Hq
    isplitl [Hk]; · iexact Hk
    isplitl [Hla]; · iexact Hla
    isplitl [Hv]; · iexact Hv
    isplitl [Hg]; · iexact Hg
    iexact Hs
  isplitl [Oq]; · iexact Oq
  isplitl [Ok]; · iexact Ok
  isplitl [Ov]; · iexact Ov
  isplitl [Ol]; · iexact Ol
  iexact OD

end Triple

end Cert.Gla

end
-- ==== Proof.Steps.lean ====
/- The body of a grid point on owned memrefs: the sixteen steps composed, and what they leave in closed form. -/
module

public import proofs.«01_k».proof.Proof.Step
public import Idealize.ShloMosaic.Lib.ValueIdxCore

@[expose] public section

noncomputable section

namespace Cert.Gla

open Idealize.ShloMosaic Idealize.ShloMosaic.TcCoe
open Idealize.SL Idealize.SL.RA Idealize.SL.Sem
open Idealize.SL.BI (sProp)
open scoped Idealize.SL.BI
open Idealize.SL.BI.BIBase Idealize.SL.BI.Laws Idealize.SL.ProofMode
open Idealize.ShloMosaic.Rounds
open Idealize.ShloMosaic.ValueIdx
open Cert.KernelIdeal Cert.KernelIdeal.Facts₀ Cert.KernelIdeal.Facts

variable {F : FTy → Type} [FloatOps F]

local notation "𝕄" => MT nD τ sig Unit (Elt F) ℕ (UR sig nD τ) ℕ

/-! ## The cotangent carried from step to step -/

theorem fwd_lt (j : ℕ) : 15 - j < 16 := lt_of_le_of_lt (Nat.sub_le 15 j) (by decide)

/-- Direction `d`'s half replaced. -/
def putD {d : ℕ} (hd : d < 2) (a : FVec F S128x256 .f32) (D : Vec F S2x128x256 .f32) : Vec F S2x128x256 .f32 :=
  put (rectD hd) (shapeCast S1x128x256 a shapeCasts_S128x256_S1x128x256) D

theorem atD_putD_self {d : ℕ} (hd : d < 2) (a : FVec F S128x256 .f32) (D : Vec F S2x128x256 .f32) : atD (putD hd a D) hd = a := by
  unfold atD putD
  funext p
  unfold shapeCast
  simp only [put_emb]
  exact congrArg a (Equiv.apply_symm_apply _ _)

theorem rectD_emb_val {d : ℕ} (hd : d < 2) (x : (rectD hd).shape.Idx) : ((rectD hd).emb x 0).val = d := by
  have hx : (x 0).val < 1 := (x 0).isLt
  show d + 1 * (x 0).val = d
  omega

theorem atD_putD_other {d d' : ℕ} (hd : d < 2) (hd' : d' < 2) (h : d ≠ d') (a : FVec F S128x256 .f32) (D : Vec F S2x128x256 .f32) :
    atD (putD hd a D) hd' = atD D hd' := by
  have key : (fun p => putD hd a D ((rectD hd').emb p)) = fun p => D ((rectD hd').emb p) := by
    funext p
    refine put_miss _ _ _ _ ?_
    rintro ⟨q, hq⟩
    refine h ?_
    rw [← rectD_emb_val hd q, hq, rectD_emb_val hd' p]
  unfold atD
  exact congrArg (fun x => shapeCast S128x256 x shapeCasts_S1x128x256_S128x256) key

section Values
variable (Bf Bb : Dir F) (D : Vec F S2x128x256 .f32)

/-- The carried cotangents after `n` steps. -/
def carried : (n : ℕ) → n ≤ 16 → Vec F S2x128x256 .f32
  | 0, _ => D
  | n + 1, h => putD (d := 1) (by decide) (chunkS upperTri Bb (j := n) h (atD (carried n (Nat.le_of_succ_le h)) (d := 1) (by decide)))
      (putD (d := 0) (by decide) (chunkS lowerTri Bf (fwd_lt n) (atD (carried n (Nat.le_of_succ_le h)) (d := 0) (by decide)))
        (carried n (Nat.le_of_succ_le h)))

/-- The forward direction's cotangent after `n` steps. -/
def carryF (n : ℕ) (h : n ≤ 16) : FVec F S128x256 .f32 := atD (carried Bf Bb D n h) (d := 0) (by decide)
/-- The backward direction's cotangent after `n` steps. -/
def carryB (n : ℕ) (h : n ≤ 16) : FVec F S128x256 .f32 := atD (carried Bf Bb D n h) (d := 1) (by decide)

theorem carryF_succ (n : ℕ) (h : n + 1 ≤ 16) :
    carryF Bf Bb D (n + 1) h = chunkS lowerTri Bf (fwd_lt n) (carryF Bf Bb D n (Nat.le_of_succ_le h)) := by
  unfold carryF
  conv_lhs => unfold carried
  rw [atD_putD_other _ _ (by decide), atD_putD_self]

theorem carryB_succ (n : ℕ) (h : n + 1 ≤ 16) :
    carryB Bf Bb D (n + 1) h = chunkS upperTri Bb (j := n) h (carryB Bf Bb D n (Nat.le_of_succ_le h)) := by
  unfold carryB
  conv_lhs => unfold carried
  rw [atD_putD_self]

/-- The contents of the eight results after `n` steps. -/
def leftFQ (y : Vec F S1024x256 .bf16) (n : ℕ) (h : n ≤ 16) : Vec F S1024x256 .bf16 :=
  puts 16 (fun n _ => rectK (fwd_lt n)) (fun n h => chunkQ lowerTri Bf (fwd_lt n)) y n h
def leftBQ (y : Vec F S1024x256 .bf16) (n : ℕ) (h : n ≤ 16) : Vec F S1024x256 .bf16 :=
  puts 16 (fun n h => rectK (j := n) h) (fun n h => chunkQ upperTri Bb (j := n) h) y n h
def leftFK (y : Vec F S1024x256 .bf16) (n : ℕ) (h : n ≤ 16) : Vec F S1024x256 .bf16 :=
  puts 16 (fun n _ => rectK (fwd_lt n)) (fun n h => chunkK lowerTri Bf (fwd_lt n) (carryF Bf Bb D n (Nat.le_of_lt h))) y n h
def leftBK (y : Vec F S1024x256 .bf16) (n : ℕ) (h : n ≤ 16) : Vec F S1024x256 .bf16 :=
  puts 16 (fun n h => rectK (j := n) h) (fun n h => chunkK upperTri Bb (j := n) h (carryB Bf Bb D n (Nat.le_of_lt h))) y n h
def leftFV (y : Vec F S1024x512 .bf16) (n : ℕ) (h : n ≤ 16) : Vec F S1024x512 .bf16 :=
  puts 16 (fun n _ => rectV (fwd_lt n)) (fun n h => chunkV lowerTri Bf (fwd_lt n) (carryF Bf Bb D n (Nat.le_of_lt h))) y n h
def leftBV (y : Vec F S1024x512 .bf16) (n : ℕ) (h : n ≤ 16) : Vec F S1024x512 .bf16 :=
  puts 16 (fun n h => rectV (j := n) h) (fun n h => chunkV upperTri Bb (j := n) h (carryB Bf Bb D n (Nat.le_of_lt h))) y n h
def leftFL (y : Vec F S1024x256 .f32) (n : ℕ) (h : n ≤ 16) : Vec F S1024x256 .f32 :=
  puts 16 (fun n _ => rectK (fwd_lt n)) (fun n h => chunkL lowerTri upperTri Bf (fwd_lt n) (carryF Bf Bb D n (Nat.le_of_lt h))) y n h
def leftBL (y : Vec F S1024x256 .f32) (n : ℕ) (h : n ≤ 16) : Vec F S1024x256 .f32 :=
  puts 16 (fun n h => rectK (j := n) h) (fun n h => chunkL upperTri lowerTri Bb (j := n) h (carryB Bf Bb D n (Nat.le_of_lt h))) y n h

end Values

/-! ## Results in closed form -/

/-- A block of sixteen chunks of 256 lanes from its chunks. -/
def blockK {e : EltTy} (w : (j : ℕ) → j < 16 → Vec F S64x256 e) : Vec F S1024x256 e :=
  fun p => w ((p 0).val / 64) (by have := idx2_lt0 p; omega) (ix2 ⟨(p 0).val % 64, Nat.mod_lt _ (by decide)⟩ ⟨(p 1).val, idx2_lt1 p⟩)
/-- A block of sixteen chunks of 512 lanes from its chunks. -/
def blockV {e : EltTy} (w : (j : ℕ) → j < 16 → Vec F S64x512 e) : Vec F S1024x512 e :=
  fun p => w ((p 0).val / 64) (by have := idx2_lt0 p; omega) (ix2 ⟨(p 0).val % 64, Nat.mod_lt _ (by decide)⟩ ⟨(p 1).val, idx2_lt1 p⟩)

theorem embK_eq {j : ℕ} (hj : j < 16) (a : Fin 64) (b : Fin 256) :
    (rectK hj).emb (ix2 a b) = (ix2 ⟨64 * j + a.val, by omega⟩ b : S1024x256.Idx) := by
  refine Rect.emb_eq_of_coords _ _ _ fun ax => ?_
  match ax with
  | ⟨0, _⟩ => show 64 * j + a.val = 64 * j + 1 * a.val; omega
  | ⟨1, _⟩ => show b.val = 0 + 1 * b.val; omega

theorem blockK_emb {e : EltTy} (w : (j : ℕ) → j < 16 → Vec F S64x256 e) {j : ℕ} (hj : j < 16) (q : (rectK hj).shape.Idx) :
    blockK w ((rectK hj).emb q) = w j hj q := by
  obtain ⟨a, b, rfl⟩ : ∃ (a : Fin 64) (b : Fin 256), q = ix2 a b := ⟨q 0, q 1, eq_ix2 q⟩
  rw [embK_eq]
  unfold blockK
  have e1 : (64 * j + a.val) / 64 = j := by omega
  have e2 : (64 * j + a.val) % 64 = a.val := by omega
  simp only [e1, e2]

theorem coverK (p : S1024x256.Idx) : ∃ (j : ℕ) (hj : j < 16) (q : (rectK hj).shape.Idx), (rectK hj).emb q = p := by
  obtain ⟨a, b, rfl⟩ : ∃ (a : Fin 1024) (b : Fin 256), p = ix2 a b := ⟨p 0, p 1, eq_ix2 p⟩
  refine ⟨a.val / 64, by omega, ix2 ⟨a.val % 64, Nat.mod_lt _ (by decide)⟩ b, ?_⟩
  rw [embK_eq]
  congr 1
  exact Fin.ext (by show 64 * (a.val / 64) + a.val % 64 = a.val; omega)

theorem puts_fwdK {e : EltTy} (w : (n : ℕ) → (h : n < 16) → Vec F S64x256 e) (y : Vec F S1024x256 e) :
    puts 16 (fun n _ => rectK (fwd_lt n)) w y 16 le_rfl = blockK fun j _ => w (15 - j) (fwd_lt j) := by
  refine puts_eq 16 _ _ _ _ (fun n h q => ?_) fun p => ?_
  · rw [blockK_emb]
    have e : ∀ m (hm : m < 16), m = n → w m hm = w n h := by rintro m hm rfl; rfl
    exact congrFun (e _ _ (by omega)) q
  · obtain ⟨j, hj, q, hq⟩ := coverK p
    obtain ⟨i, hi, rfl⟩ : ∃ i, i < 16 ∧ j = 15 - i := ⟨15 - j, by omega, by omega⟩
    exact ⟨i, hi, q, hq⟩

theorem puts_bwdK {e : EltTy} (w : (n : ℕ) → (h : n < 16) → Vec F S64x256 e) (y : Vec F S1024x256 e) :
    puts 16 (fun n h => rectK (j := n) h) w y 16 le_rfl = blockK w :=
  puts_eq 16 _ _ _ _ (fun n h q => by rw [blockK_emb]) fun p => coverK p

theorem embV_eq {j : ℕ} (hj : j < 16) (a : Fin 64) (b : Fin 512) :
    (rectV hj).emb (ix2 a b) = (ix2 ⟨64 * j + a.val, by omega⟩ b : S1024x512.Idx) := by
  refine Rect.emb_eq_of_coords _ _ _ fun ax => ?_
  match ax with
  | ⟨0, _⟩ => show 64 * j + a.val = 64 * j + 1 * a.val; omega
  | ⟨1, _⟩ => show b.val = 0 + 1 * b.val; omega

theorem blockV_emb {e : EltTy} (w : (j : ℕ) → j < 16 → Vec F S64x512 e) {j : ℕ} (hj : j < 16) (q : (rectV hj).shape.Idx) :
    blockV w ((rectV hj).emb q) = w j hj q := by
  obtain ⟨a, b, rfl⟩ : ∃ (a : Fin 64) (b : Fin 512), q = ix2 a b := ⟨q 0, q 1, eq_ix2 q⟩
  rw [embV_eq]
  unfold blockV
  have e1 : (64 * j + a.val) / 64 = j := by omega
  have e2 : (64 * j + a.val) % 64 = a.val := by omega
  simp only [e1, e2]

theorem coverV (p : S1024x512.Idx) : ∃ (j : ℕ) (hj : j < 16) (q : (rectV hj).shape.Idx), (rectV hj).emb q = p := by
  obtain ⟨a, b, rfl⟩ : ∃ (a : Fin 1024) (b : Fin 512), p = ix2 a b := ⟨p 0, p 1, eq_ix2 p⟩
  refine ⟨a.val / 64, by omega, ix2 ⟨a.val % 64, Nat.mod_lt _ (by decide)⟩ b, ?_⟩
  rw [embV_eq]
  congr 1
  exact Fin.ext (by show 64 * (a.val / 64) + a.val % 64 = a.val; omega)

theorem puts_fwdV {e : EltTy} (w : (n : ℕ) → (h : n < 16) → Vec F S64x512 e) (y : Vec F S1024x512 e) :
    puts 16 (fun n _ => rectV (fwd_lt n)) w y 16 le_rfl = blockV fun j _ => w (15 - j) (fwd_lt j) := by
  refine puts_eq 16 _ _ _ _ (fun n h q => ?_) fun p => ?_
  · rw [blockV_emb]
    have e : ∀ m (hm : m < 16), m = n → w m hm = w n h := by rintro m hm rfl; rfl
    exact congrFun (e _ _ (by omega)) q
  · obtain ⟨j, hj, q, hq⟩ := coverV p
    obtain ⟨i, hi, rfl⟩ : ∃ i, i < 16 ∧ j = 15 - i := ⟨15 - j, by omega, by omega⟩
    exact ⟨i, hi, q, hq⟩

theorem puts_bwdV {e : EltTy} (w : (n : ℕ) → (h : n < 16) → Vec F S64x512 e) (y : Vec F S1024x512 e) :
    puts 16 (fun n h => rectV (j := n) h) w y 16 le_rfl = blockV w :=
  puts_eq 16 _ _ _ _ (fun n h q => by rw [blockV_emb]) fun p => coverV p

section Results
variable (Bf Bb : Dir F) (D : Vec F S2x128x256 .f32)

/-- The results of a grid point: the chunks' results, each at the cotangent that reaches it. -/
def resFQ : Vec F S1024x256 .bf16 := blockK fun j _ => chunkQ lowerTri Bf (fwd_lt (15 - j))
def resBQ : Vec F S1024x256 .bf16 := blockK fun j hj => chunkQ upperTri Bb hj
def resFK : Vec F S1024x256 .bf16 := blockK fun j _ => chunkK lowerTri Bf (fwd_lt (15 - j)) (carryF Bf Bb D (15 - j) (Nat.le_of_lt (fwd_lt j)))
def resBK : Vec F S1024x256 .bf16 := blockK fun j hj => chunkK upperTri Bb hj (carryB Bf Bb D j (Nat.le_of_lt hj))
def resFV : Vec F S1024x512 .bf16 := blockV fun j _ => chunkV lowerTri Bf (fwd_lt (15 - j)) (carryF Bf Bb D (15 - j) (Nat.le_of_lt (fwd_lt j)))
def resBV : Vec F S1024x512 .bf16 := blockV fun j hj => chunkV upperTri Bb hj (carryB Bf Bb D j (Nat.le_of_lt hj))
def resFL : Vec F S1024x256 .f32 := blockK fun j _ => chunkL lowerTri upperTri Bf (fwd_lt (15 - j)) (carryF Bf Bb D (15 - j) (Nat.le_of_lt (fwd_lt j)))
def resBL : Vec F S1024x256 .f32 := blockK fun j hj => chunkL upperTri lowerTri Bb hj (carryB Bf Bb D j (Nat.le_of_lt hj))

theorem leftFQ_eq (y : Vec F S1024x256 .bf16) : leftFQ Bf y 16 le_rfl = resFQ Bf := puts_fwdK _ y

theorem leftBQ_eq (y : Vec F S1024x256 .bf16) : leftBQ Bb y 16 le_rfl = resBQ Bb := puts_bwdK _ y

theorem leftFK_eq (y : Vec F S1024x256 .bf16) : leftFK Bf Bb D y 16 le_rfl = resFK Bf Bb D := puts_fwdK _ y

theorem leftBK_eq (y : Vec F S1024x256 .bf16) : leftBK Bf Bb D y 16 le_rfl = resBK Bf Bb D := puts_bwdK _ y

theorem leftFV_eq (y : Vec F S1024x512 .bf16) : leftFV Bf Bb D y 16 le_rfl = resFV Bf Bb D := puts_fwdV _ y

theorem leftBV_eq (y : Vec F S1024x512 .bf16) : leftBV Bf Bb D y 16 le_rfl = resBV Bf Bb D := puts_bwdV _ y

theorem leftFL_eq (y : Vec F S1024x256 .f32) : leftFL Bf Bb D y 16 le_rfl = resFL Bf Bb D := puts_fwdK _ y

theorem leftBL_eq (y : Vec F S1024x256 .f32) : leftBL Bf Bb D y 16 le_rfl = resBL Bf Bb D := puts_bwdK _ y

end Results

/-! ## The sixteen steps -/

/-- The results of a direction owned. -/
def outOwned (c : Dev nD) (mdq mdk : Memref sig .tc .vmem S1024x256 .bf16) (mdv : Memref sig .tc .vmem S1024x512 .bf16)
    (mdla : Memref sig .tc .vmem S1024x256 .f32) (yq yk : Vec F S1024x256 .bf16) (yv : Vec F S1024x512 .bf16) (yl : Vec F S1024x256 .f32) : sProp 𝕄 :=
  iprop(owns (c : Thread nD τ) mdq fullShare yq ∗ owns (c : Thread nD τ) mdk fullShare yk ∗ owns (c : Thread nD τ) mdv fullShare yv
    ∗ owns (c : Thread nD τ) mdla fullShare yl)

/-- The condition under which the point is the first. -/
abbrev atFirst (i : grid0.Coords) : Prop :=
  Scalar.cmpi .ne (Scalar.extui (Scalar.cmpi .eq (BitVec.ofNat 32 (i 0).val) 0#32) : BitVec 32) 0#32 = 1#1

theorem emb_whole (q : S2x128x256.Idx) :
    (Rect.unit (s := S2x128x256) ![0, 0, 0] S2x128x256.size inb_S2x128x256_S2x128x256_0_0_0).emb q = q :=
  Rect.emb_eq_of_coords _ _ _ fun a => by
    match a with
    | ⟨0, _⟩ => show (q 0).val = 0 + 1 * (q 0).val; omega
    | ⟨1, _⟩ => show (q 1).val = 0 + 1 * (q 1).val; omega
    | ⟨2, _⟩ => show (q 2).val = 0 + 1 * (q 2).val; omega

theorem put_whole (x y : Vec F S2x128x256 .f32) :
    put (Rect.unit (s := S2x128x256) ![0, 0, 0] S2x128x256.size inb_S2x128x256_S2x128x256_0_0_0) x y = x := by
  funext p
  have h := put_emb (Rect.unit (s := S2x128x256) ![0, 0, 0] S2x128x256.size inb_S2x128x256_S2x128x256_0_0_0) x y p
  rwa [emb_whole] at h

section Body
variable (c : Dev nD) (E : Set ℕ) (i : grid0.Coords)
  (arg1 : Memref sig .tc .vmem S1024x256 .f32) (harg1 : arg1.IsWhole)
  (arg2 : Memref sig .tc .vmem S1024x256 .f32) (harg2 : arg2.IsWhole)
  (arg3 : Memref sig .tc .vmem S1024x512 .f32) (harg3 : arg3.IsWhole)
  (arg4 : Memref sig .tc .vmem S1024x256 .f32) (harg4 : arg4.IsWhole)
  (arg5 : Memref sig .tc .vmem S1024x512 .bf16) (harg5 : arg5.IsWhole)
  (arg6 : Memref sig .tc .vmem S16x128x256 .f32) (harg6 : arg6.IsWhole)
  (arg7 : Memref sig .tc .vmem S1024x256 .f32) (harg7 : arg7.IsWhole)
  (arg8 : Memref sig .tc .vmem S1024x256 .f32) (harg8 : arg8.IsWhole)
  (arg9 : Memref sig .tc .vmem S1024x512 .f32) (harg9 : arg9.IsWhole)
  (arg10 : Memref sig .tc .vmem S1024x256 .f32) (harg10 : arg10.IsWhole)
  (arg11 : Memref sig .tc .vmem S1024x512 .bf16) (harg11 : arg11.IsWhole)
  (arg12 : Memref sig .tc .vmem S16x128x256 .f32) (harg12 : arg12.IsWhole)
  (arg13 : Memref sig .tc .vmem S2x128x256 .f32) (harg13 : arg13.IsWhole)
  (arg14 : Memref sig .tc .vmem S1024x256 .bf16) (harg14 : arg14.IsWhole)
  (arg15 : Memref sig .tc .vmem S1024x256 .bf16) (harg15 : arg15.IsWhole)
  (arg16 : Memref sig .tc .vmem S1024x512 .bf16) (harg16 : arg16.IsWhole)
  (arg17 : Memref sig .tc .vmem S1024x256 .f32) (harg17 : arg17.IsWhole)
  (arg18 : Memref sig .tc .vmem S1024x256 .bf16) (harg18 : arg18.IsWhole)
  (arg19 : Memref sig .tc .vmem S1024x256 .bf16) (harg19 : arg19.IsWhole)
  (arg20 : Memref sig .tc .vmem S1024x512 .bf16) (harg20 : arg20.IsWhole)
  (arg21 : Memref sig .tc .vmem S1024x256 .f32) (harg21 : arg21.IsWhole)
  (arg22 : Memref sig .tc .vmem S2x128x256 .f32) (harg22 : arg22.IsWhole)
  (arg23 : Memref sig .tc .vmem S2x128x256 .f32) (harg23 : arg23.IsWhole)

variable (Bf Bb : Dir F) (D : Vec F S2x128x256 .f32)
  (yq yk : Vec F S1024x256 .bf16) (yv : Vec F S1024x512 .bf16) (yl : Vec F S1024x256 .f32)
  (zq zk : Vec F S1024x256 .bf16) (zv : Vec F S1024x512 .bf16) (zl : Vec F S1024x256 .f32)

theorem stepsTo_wp (n : ℕ) (h : n ≤ 16) (Q : PUnit → sProp 𝕄) :
    iprop(dirOwned c arg1 arg2 arg4 arg3 arg5 arg6 Bf ∗ dirOwned c arg7 arg8 arg10 arg9 arg11 arg12 Bb
      ∗ outOwned c arg14 arg15 arg16 arg17 yq yk yv yl ∗ outOwned c arg18 arg19 arg20 arg21 zq zk zv zl
      ∗ owns (c : Thread nD τ) arg23 fullShare D)
    ⊢ iprop((iprop(dirOwned c arg1 arg2 arg4 arg3 arg5 arg6 Bf ∗ dirOwned c arg7 arg8 arg10 arg9 arg11 arg12 Bb
        ∗ outOwned c arg14 arg15 arg16 arg17 (leftFQ Bf yq n h) (leftFK Bf Bb D yk n h) (leftFV Bf Bb D yv n h) (leftFL Bf Bb D yl n h)
        ∗ outOwned c arg18 arg19 arg20 arg21 (leftBQ Bb zq n h) (leftBK Bf Bb D zk n h) (leftBV Bf Bb D zv n h) (leftBL Bf Bb D zl n h)
        ∗ owns (c : Thread nD τ) arg23 fullShare (carried Bf Bb D n h)) -∗ Q ⟨⟩)
      -∗ wp frame (wpE (defs₀ (F := F)) Variants.none c none) E (stepsTo arg1 arg2 arg3 arg4 arg5 arg6 arg7 arg8 arg9 arg10 arg11 arg12 arg14 harg14 arg15 harg15 arg16 harg16 arg17 arg18 harg18 arg19 harg19 arg20 harg20 arg21 arg23 n h) Q) := by
  induction n generalizing Q with
  | zero =>
    iintro H HQ
    unfold stepsTo
    rw [wp_pure]
    imodintro
    simp only [leftFQ, leftFK, leftFV, leftFL, leftBQ, leftBK, leftBV, leftBL, puts, carried]
    iapply HQ $$ H
  | succ n ih =>
    iintro H HQ
    unfold stepsTo
    rw [wp_bind]
    iapply (ih (Nat.le_of_succ_le h) _) $$ H
    unfold outOwned
    iintro ⟨If, Ib, ⟨Yq, Yk, Yv, Yl⟩, ⟨Zq, Zk, Zv, Zl⟩, HD⟩
    unfold stepAt
    rw [wp_bind]
    iapply (chunk_wp (F := F) c E) $$ [If Yq Yk Yv Yl HD]
    · isplitl [If]; · iexact If
      isplitl [Yq]; · iexact Yq
      isplitl [Yk]; · iexact Yk
      isplitl [Yv]; · iexact Yv
      isplitl [Yl]; · iexact Yl
      iexact HD
    iintro ⟨If, Yq, Yk, Yv, Yl, HD⟩
    iapply (chunk_wp (F := F) c E) $$ [Ib Zq Zk Zv Zl HD]
    · isplitl [Ib]; · iexact Ib
      isplitl [Zq]; · iexact Zq
      isplitl [Zk]; · iexact Zk
      isplitl [Zv]; · iexact Zv
      isplitl [Zl]; · iexact Zl
      iexact HD
    iintro ⟨Ib, Zq, Zk, Zv, Zl, HD⟩
    have e := atD_putD_other (F := F) (d := 0) (d' := 1) (by decide) (by decide) (by decide)
      (chunkS lowerTri Bf (fwd_lt n) (carryF Bf Bb D n (Nat.le_of_succ_le h))) (carried Bf Bb D n (Nat.le_of_succ_le h))
    unfold putD carryF at e
    rw [e]
    iapply HQ
    isplitl [If]; · iexact If
    isplitl [Ib]; · iexact Ib
    isplitl [Yq Yk Yv Yl]
    · isplitl [Yq]; · iexact Yq
      isplitl [Yk]; · iexact Yk
      isplitl [Yv]; · iexact Yv
      iexact Yl
    isplitl [Zq Zk Zv Zl]
    · isplitl [Zq]; · iexact Zq
      isplitl [Zk]; · iexact Zk
      isplitl [Zv]; · iexact Zv
      iexact Zl
    iexact HD

theorem prologue_wp (X S : Vec F S2x128x256 .f32) (Q : PUnit → sProp 𝕄) :
    iprop(owns (c : Thread nD τ) arg13 fullShare X ∗ owns (c : Thread nD τ) arg23 fullShare S)
    ⊢ iprop((iprop(owns (c : Thread nD τ) arg13 fullShare X ∗ owns (c : Thread nD τ) arg23 fullShare (if atFirst i then X else S)) -∗ Q ⟨⟩)
      -∗ wp frame (wpE (defs₀ (F := F)) Variants.none c none) E (prologue i arg13 arg23) Q) := by
  unfold prologue
  by_cases hc : atFirst i
  · rw [dif_pos hc, if_pos hc]
    simp only [Prog.bind_lift]
    iintro ⟨HX, HS⟩ HQ
    iapply (owns_load (defs := defs₀ (F := F)) Variants.none (c : Thread nD τ) none E) $$ HX
    iintro HX
    iapply (owns_load (defs := defs₀ (F := F)) Variants.none (c : Thread nD τ) none E) $$ HS
    iintro HS
    iapply (owns_store (defs := defs₀ (F := F)) Variants.none (c : Thread nD τ) none E) $$ HS
    iintro HS
    rw [wp_pure]
    imodintro
    iapply HQ
    isplitl [HX]; · iexact HX
    have e : shapeCast S2x128x256 (fun j => X ((Rect.unit (s := S2x128x256) ![0, 0, 0] S2x128x256.size inb_S2x128x256_S2x128x256_0_0_0).emb j))
        shapeCasts_S2x128x256_S2x128x256 = X := by
      refine funext fun p => ?_
      unfold shapeCast
      rw [Shape.reshapeEquiv_self]
      exact congrArg X (emb_whole p)
    rw [e, put_whole]
    iexact HS
  · rw [dif_neg hc, if_neg hc, wp_pure]
    iintro H HQ
    imodintro
    iapply HQ $$ H

theorem epilogue_wp (Z S : Vec F S2x128x256 .f32) (Q : PUnit → sProp 𝕄) :
    iprop(owns (c : Thread nD τ) arg22 fullShare Z ∗ owns (c : Thread nD τ) arg23 fullShare S)
    ⊢ iprop((iprop(owns (c : Thread nD τ) arg22 fullShare (if k0_cond2 i = 1#1 then S else Z) ∗ owns (c : Thread nD τ) arg23 fullShare S) -∗ Q ⟨⟩)
      -∗ wp frame (wpE (defs₀ (F := F)) Variants.none c none) E (epilogue i arg22 arg23) Q) := by
  unfold epilogue
  by_cases hc : k0_cond2 i = 1#1
  · rw [dif_pos hc, if_pos hc]
    simp only [Prog.bind_lift]
    iintro ⟨HZ, HS⟩ HQ
    iapply (owns_load (defs := defs₀ (F := F)) Variants.none (c : Thread nD τ) none E) $$ HS
    iintro HS
    iapply (owns_load (defs := defs₀ (F := F)) Variants.none (c : Thread nD τ) none E) $$ HZ
    iintro HZ
    iapply (owns_store (defs := defs₀ (F := F)) Variants.none (c : Thread nD τ) none E) $$ HZ
    iintro HZ
    rw [wp_pure]
    imodintro
    iapply HQ
    isplitl [HZ]
    · have e : (fun j => S ((Rect.unit (s := S2x128x256) ![0, 0, 0] S2x128x256.size inb_S2x128x256_S2x128x256_0_0_0).emb j)) = S :=
        funext fun p => congrArg S (emb_whole p)
      rw [put_whole, e]
      iexact HZ
    iexact HS
  · rw [dif_neg hc, if_neg hc, wp_pure]
    iintro H HQ
    imodintro
    iapply HQ $$ H

/-- The body of a grid point: from the blocks read, the cotangent given and the one carried, the results in closed form. -/
theorem body_wp (X S Z : Vec F S2x128x256 .f32) (Q : PUnit → sProp 𝕄) :
    iprop(dirOwned c arg1 arg2 arg4 arg3 arg5 arg6 Bf ∗ dirOwned c arg7 arg8 arg10 arg9 arg11 arg12 Bb
      ∗ owns (c : Thread nD τ) arg13 fullShare X
      ∗ outOwned c arg14 arg15 arg16 arg17 yq yk yv yl ∗ outOwned c arg18 arg19 arg20 arg21 zq zk zv zl
      ∗ owns (c : Thread nD τ) arg22 fullShare Z ∗ owns (c : Thread nD τ) arg23 fullShare S)
    ⊢ iprop((iprop(dirOwned c arg1 arg2 arg4 arg3 arg5 arg6 Bf ∗ dirOwned c arg7 arg8 arg10 arg9 arg11 arg12 Bb
      ∗ owns (c : Thread nD τ) arg13 fullShare X
      ∗ outOwned c arg14 arg15 arg16 arg17 (resFQ Bf) (resFK Bf Bb (if atFirst i then X else S)) (resFV Bf Bb (if atFirst i then X else S))
          (resFL Bf Bb (if atFirst i then X else S))
      ∗ outOwned c arg18 arg19 arg20 arg21 (resBQ Bb) (resBK Bf Bb (if atFirst i then X else S)) (resBV Bf Bb (if atFirst i then X else S))
          (resBL Bf Bb (if atFirst i then X else S))
      ∗ owns (c : Thread nD τ) arg22 fullShare (if k0_cond2 i = 1#1 then carried Bf Bb (if atFirst i then X else S) 16 le_rfl else Z)
      ∗ owns (c : Thread nD τ) arg23 fullShare (carried Bf Bb (if atFirst i then X else S) 16 le_rfl)) -∗ Q ⟨⟩)
      -∗ wp frame (wpE (defs₀ (F := F)) Variants.none c none) E (cc0_gla_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) Q) := by
  rw [body_eq]
  iintro ⟨If, Ib, HX, Yf, Yb, HZ, HS⟩ HQ
  rw [wp_bind]
  iapply (prologue_wp (F := F) c E i) $$ [HX HS]
  · isplitl [HX]; · iexact HX
    iexact HS
  iintro ⟨HX, HS⟩
  rw [wp_bind]
  iapply (stepsTo_wp (F := F) c E) $$ [If Ib Yf Yb HS]
  · isplitl [If]; · iexact If
    isplitl [Ib]; · iexact Ib
    isplitl [Yf]; · iexact Yf
    isplitl [Yb]; · iexact Yb
    iexact HS
  rw [leftFQ_eq, leftFK_eq, leftFV_eq, leftFL_eq, leftBQ_eq, leftBK_eq, leftBV_eq, leftBL_eq]
  iintro ⟨If, Ib, Yf, Yb, HS⟩
  iapply (epilogue_wp (F := F) c E i) $$ [HZ HS]
  · isplitl [HZ]; · iexact HZ
    iexact HS
  iintro ⟨HZ, HS⟩
  iapply HQ
  isplitl [If]; · iexact If
  isplitl [Ib]; · iexact Ib
  isplitl [HX]; · iexact HX
  isplitl [Yf]; · iexact Yf
  isplitl [Yb]; · iexact Yb
  isplitl [HZ]; · iexact HZ
  iexact HS

end Body

end Cert.Gla

end
-- ==== Proof.Region.lean ====
/- The kernel's region: the proof data of its pipeline, the body at every grid point, and the run, for any contents
   `V` of the arrays when the region is entered. -/
module

public import proofs.«01_k».proof.Proof.Steps
public import proofs.«01_k».proof.Proof.Gen.KernelIdeal.Launch
public import proofs.«01_k».proof.Proof.Gen.KernelIdeal.Points
public import Idealize.ShloMosaic.Lib.Pipeline.FrameBody
public import Idealize.ShloMosaic.Lib.WordCmp

@[expose] public section

set_option maxRecDepth 16384

noncomputable section

namespace Cert.Gla

open Idealize.ShloMosaic Idealize.ShloMosaic.TcCoe Idealize.ShloMosaic.Tactic
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What a grid point reads and leaves -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The forward direction's blocks at point `t`. -/
def dirF (c : Dev nD) (t : Fin cfg0.N) : Dir F where
  q := iblk V c 0 t
  k := iblk V c 1 t
  v := iblk V c 2 t
  la := iblk V c 3 t
  g := iblk V c 4 t
  s := iblk V c 5 t

/-- The backward direction's blocks at point `t`. -/
def dirB (c : Dev nD) (t : Fin cfg0.N) : Dir F where
  q := iblk V c 6 t
  k := iblk V c 7 t
  v := iblk V c 8 t
  la := iblk V c 9 t
  g := iblk V c 10 t
  s := iblk V c 11 t

/-- The cotangent carried into point `n`: the one given, then what the point before left. -/
def dsAt (c : Dev nD) : (n : ℕ) → n ≤ cfg0.N → Vec F S2x128x256 .f32
  | 0, _ => iblk V c 12 t0_0
  | n + 1, h => carried (dirF V c ⟨n, h⟩) (dirB V c ⟨n, h⟩) (dsAt c n (Nat.le_of_succ_le h)) 16 le_rfl

/-- The cotangent carried into a point. -/
abbrev dsIn (c : Dev nD) (t : Fin cfg0.N) : Vec F S2x128x256 .f32 := dsAt V c t.val (Nat.le_of_lt t.isLt)

abbrev scM : Memref sig .tc .vmem S2x128x256 .f32 := Memref.whole cc0_scratch0

/-- What holds between points: the carried scratch at the carried cotangent, at anything before the first point. -/
def PhiS (c : Dev nD) : (n : ℕ) → n ≤ cfg0.N → sProp 𝕄
  | 0, _ => Pipeline.ΦA spec0 c
  | n + 1, h => iprop(owns (c : Thread nD τ) scM fullShare (dsAt V c (n + 1) h) ∗ (∃ r, prngReg c r))

theorem PhiA_eq (c : Dev nD) :
    (Pipeline.ΦA spec0 c : sProp 𝕄)
      = iprop((∃ d, owns (c : Thread nD τ) scM fullShare d) ∗ (∃ r, prngReg c r)) := by
  unfold Pipeline.ΦA; rw [scopedRest0_eq]; simp only [scM, owns_whole]; try rfl

/-- The pipeline's proof data. -/
def dats (_ : Fin 1) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => resFQ (dirF V c t)
    | ⟨14, _⟩ => resFK (dirF V c t) (dirB V c t) (dsIn V c t)
    | ⟨15, _⟩ => resFV (dirF V c t) (dirB V c t) (dsIn V c t)
    | ⟨16, _⟩ => resFL (dirF V c t) (dirB V c t) (dsIn V c t)
    | ⟨17, _⟩ => resBQ (dirB V c t)
    | ⟨18, _⟩ => resBK (dirF V c t) (dirB V c t) (dsIn V c t)
    | ⟨19, _⟩ => resBV (dirF V c t) (dirB V c t) (dsIn V c t)
    | ⟨20, _⟩ => resBL (dirF V c t) (dirB V c t) (dsIn V c t)
    | ⟨21, _⟩ => dsAt V c (t.val + 1) t.isLt
    | ⟨_ + 22, h⟩ => absurd h (Nat.not_lt.2 (Nat.le_add_left _ _))
  Φ t := PhiS V c t.val (Nat.le_of_lt_succ t.isLt)
  q w := Pipeline.shareOf spec0 w
  owed _ := 0

theorem A_eq (c : Dev nD) (w : Fin cfg0.W) : (dats V 0 c).A w = V c (Pipeline.arrRef spec0 w) := by
  dsimp only [dats]

theorem PhiS_castSucc (c : Dev nD) (t : Fin cfg0.N) :
    (dats V 0 c).Φ t.castSucc = PhiS V c t.val (Nat.le_of_lt t.isLt) := by
  dsimp only [dats]; exact Pipeline.Dat.Φ_castSucc (PhiS V c) t

theorem after_0 (c : Dev nD) (t : Fin cfg0.N) : (dats V 0 c).after 0 t = iblk V c 0 t := by dsimp only [dats]
theorem after_1 (c : Dev nD) (t : Fin cfg0.N) : (dats V 0 c).after 1 t = iblk V c 1 t := by dsimp only [dats]
theorem after_2 (c : Dev nD) (t : Fin cfg0.N) : (dats V 0 c).after 2 t = iblk V c 2 t := by dsimp only [dats]
theorem after_3 (c : Dev nD) (t : Fin cfg0.N) : (dats V 0 c).after 3 t = iblk V c 3 t := by dsimp only [dats]
theorem after_4 (c : Dev nD) (t : Fin cfg0.N) : (dats V 0 c).after 4 t = iblk V c 4 t := by dsimp only [dats]
theorem after_5 (c : Dev nD) (t : Fin cfg0.N) : (dats V 0 c).after 5 t = iblk V c 5 t := by dsimp only [dats]
theorem after_6 (c : Dev nD) (t : Fin cfg0.N) : (dats V 0 c).after 6 t = iblk V c 6 t := by dsimp only [dats]
theorem after_7 (c : Dev nD) (t : Fin cfg0.N) : (dats V 0 c).after 7 t = iblk V c 7 t := by dsimp only [dats]
theorem after_8 (c : Dev nD) (t : Fin cfg0.N) : (dats V 0 c).after 8 t = iblk V c 8 t := by dsimp only [dats]
theorem after_9 (c : Dev nD) (t : Fin cfg0.N) : (dats V 0 c).after 9 t = iblk V c 9 t := by dsimp only [dats]
theorem after_10 (c : Dev nD) (t : Fin cfg0.N) : (dats V 0 c).after 10 t = iblk V c 10 t := by dsimp only [dats]
theorem after_11 (c : Dev nD) (t : Fin cfg0.N) : (dats V 0 c).after 11 t = iblk V c 11 t := by dsimp only [dats]
theorem after_12 (c : Dev nD) (t : Fin cfg0.N) : (dats V 0 c).after 12 t = iblk V c 12 t := by dsimp only [dats]
theorem after_13 (c : Dev nD) (t : Fin cfg0.N) : (dats V 0 c).after 13 t = resFQ (dirF V c t) := by dsimp only [dats]
theorem after_14 (c : Dev nD) (t : Fin cfg0.N) : (dats V 0 c).after 14 t = resFK (dirF V c t) (dirB V c t) (dsIn V c t) := by dsimp only [dats]
theorem after_15 (c : Dev nD) (t : Fin cfg0.N) : (dats V 0 c).after 15 t = resFV (dirF V c t) (dirB V c t) (dsIn V c t) := by dsimp only [dats]
theorem after_16 (c : Dev nD) (t : Fin cfg0.N) : (dats V 0 c).after 16 t = resFL (dirF V c t) (dirB V c t) (dsIn V c t) := by dsimp only [dats]
theorem after_17 (c : Dev nD) (t : Fin cfg0.N) : (dats V 0 c).after 17 t = resBQ (dirB V c t) := by dsimp only [dats]
theorem after_18 (c : Dev nD) (t : Fin cfg0.N) : (dats V 0 c).after 18 t = resBK (dirF V c t) (dirB V c t) (dsIn V c t) := by dsimp only [dats]
theorem after_19 (c : Dev nD) (t : Fin cfg0.N) : (dats V 0 c).after 19 t = resBV (dirF V c t) (dirB V c t) (dsIn V c t) := by dsimp only [dats]
theorem after_20 (c : Dev nD) (t : Fin cfg0.N) : (dats V 0 c).after 20 t = resBL (dirF V c t) (dirB V c t) (dsIn V c t) := by dsimp only [dats]
theorem after_21 (c : Dev nD) (t : Fin cfg0.N) : (dats V 0 c).after 21 t = dsAt V c (t.val + 1) t.isLt := by dsimp only [dats]

/-! ## The inputs' buffers hold their blocks -/

theorem before_0 (c : Dev nD) (t : Fin cfg0.N) (d) : (dats V 0 c).before 0 t d = iblk V c 0 t :=
  ((dats V 0 c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg0.N) (d) : (dats V 0 c).before 1 t d = iblk V c 1 t :=
  ((dats V 0 c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg0.N) (d) : (dats V 0 c).before 2 t d = iblk V c 2 t :=
  ((dats V 0 c).before_in_eq_fetched 2 rfl (fun _ => rfl) (fun _ _ _ => rfl) (fun t => by rw [after_2]; unfold Dat.blockOf iblk; rw [A_eq]) t d).trans
    (by unfold Dat.fetched Dat.blockOf iblk; rw [A_eq]; rfl)
theorem before_3 (c : Dev nD) (t : Fin cfg0.N) (d) : (dats V 0 c).before 3 t d = iblk V c 3 t :=
  ((dats V 0 c).before_in_eq_fetched 3 rfl (fun _ => rfl) (fun _ _ _ => rfl) (fun t => by rw [after_3]; unfold Dat.blockOf iblk; rw [A_eq]) t d).trans
    (by unfold Dat.fetched Dat.blockOf iblk; rw [A_eq]; rfl)
theorem before_4 (c : Dev nD) (t : Fin cfg0.N) (d) : (dats V 0 c).before 4 t d = iblk V c 4 t :=
  ((dats V 0 c).before_in_eq_fetched 4 rfl (fun _ => rfl) (fun _ _ _ => rfl) (fun t => by rw [after_4]; unfold Dat.blockOf iblk; rw [A_eq]) t d).trans
    (by unfold Dat.fetched Dat.blockOf iblk; rw [A_eq]; rfl)
theorem before_5 (c : Dev nD) (t : Fin cfg0.N) (d) : (dats V 0 c).before 5 t d = iblk V c 5 t :=
  ((dats V 0 c).before_in_eq_fetched 5 rfl (fun _ => rfl) (fun _ _ _ => rfl) (fun t => by rw [after_5]; unfold Dat.blockOf iblk; rw [A_eq]) t d).trans
    (by unfold Dat.fetched Dat.blockOf iblk; rw [A_eq]; rfl)
theorem before_6 (c : Dev nD) (t : Fin cfg0.N) (d) : (dats V 0 c).before 6 t d = iblk V c 6 t :=
  ((dats V 0 c).before_in_eq_fetched 6 rfl (fun _ => rfl) (fun _ _ _ => rfl) (fun t => by rw [after_6]; unfold Dat.blockOf iblk; rw [A_eq]) t d).trans
    (by unfold Dat.fetched Dat.blockOf iblk; rw [A_eq]; rfl)
theorem before_7 (c : Dev nD) (t : Fin cfg0.N) (d) : (dats V 0 c).before 7 t d = iblk V c 7 t :=
  ((dats V 0 c).before_in_eq_fetched 7 rfl (fun _ => rfl) (fun _ _ _ => rfl) (fun t => by rw [after_7]; unfold Dat.blockOf iblk; rw [A_eq]) t d).trans
    (by unfold Dat.fetched Dat.blockOf iblk; rw [A_eq]; rfl)
theorem before_8 (c : Dev nD) (t : Fin cfg0.N) (d) : (dats V 0 c).before 8 t d = iblk V c 8 t :=
  ((dats V 0 c).before_in_eq_fetched 8 rfl (fun _ => rfl) (fun _ _ _ => rfl) (fun t => by rw [after_8]; unfold Dat.blockOf iblk; rw [A_eq]) t d).trans
    (by unfold Dat.fetched Dat.blockOf iblk; rw [A_eq]; rfl)
theorem before_9 (c : Dev nD) (t : Fin cfg0.N) (d) : (dats V 0 c).before 9 t d = iblk V c 9 t :=
  ((dats V 0 c).before_in_eq_fetched 9 rfl (fun _ => rfl) (fun _ _ _ => rfl) (fun t => by rw [after_9]; unfold Dat.blockOf iblk; rw [A_eq]) t d).trans
    (by unfold Dat.fetched Dat.blockOf iblk; rw [A_eq]; rfl)
theorem before_10 (c : Dev nD) (t : Fin cfg0.N) (d) : (dats V 0 c).before 10 t d = iblk V c 10 t :=
  ((dats V 0 c).before_in_eq_fetched 10 rfl (fun _ => rfl) (fun _ _ _ => rfl) (fun t => by rw [after_10]; unfold Dat.blockOf iblk; rw [A_eq]) t d).trans
    (by unfold Dat.fetched Dat.blockOf iblk; rw [A_eq]; rfl)
theorem before_11 (c : Dev nD) (t : Fin cfg0.N) (d) : (dats V 0 c).before 11 t d = iblk V c 11 t :=
  ((dats V 0 c).before_in_eq_fetched 11 rfl (fun _ => rfl) (fun _ _ _ => rfl) (fun t => by rw [after_11]; unfold Dat.blockOf iblk; rw [A_eq]) t d).trans
    (by unfold Dat.fetched Dat.blockOf iblk; rw [A_eq]; rfl)
theorem before_12 (c : Dev nD) (t : Fin cfg0.N) (d) : (dats V 0 c).before 12 t d = iblk V c 12 t :=
  ((dats V 0 c).before_in_eq_fetched 12 rfl (fun _ => rfl) (fun _ _ _ => rfl) (fun t => by rw [after_12]; unfold Dat.blockOf iblk; rw [A_eq]) t d).trans
    (by unfold Dat.fetched Dat.blockOf iblk; rw [A_eq]; rfl)

/-- A window that is not idle at a point is left at what the proof data say. -/
theorem leaves_live (c : Dev nD) (w : Fin cfg0.W) (t : Fin cfg0.N) (h : cfg0.idle w (cfg0.grid.coords t) = false) :
    (dats V 0 c).leavesExact w t = owns (c : Thread nD τ) ((cfg0.win w).stage (cfg0.slots t w)) fullShare ((dats V 0 c).after w t) := by
  unfold Dat.leavesExact; rw [h]

/-! ## The first and the last point -/

theorem first_iff : ∀ t : Fin cfg0.N, atFirst (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    have e1 : t.val = 0 ↔ t.val % 16 = 0 := by omega
    rw [e1]
    simp only [atFirst, e0]
    word_cmp
   : ∀ t : Fin grid0.N, atFirst (grid0.coords t) ↔ t.val = 0)

theorem last_iff : ∀ t : Fin cfg0.N, k0_cond2 (grid0.coords t) = 1#1 ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [k0_cond2, e0]
    word_cmp
   : ∀ t : Fin grid0.N, k0_cond2 (grid0.coords t) = 1#1 ↔ t.val % 16 = 15)

theorem idle_21 : ∀ t : Fin cfg0.N, ¬ k0_cond2 (grid0.coords t) = 1#1 → cfg0.idle 21 (grid0.coords t) = true := by decide +kernel
theorem live_21 : ∀ t : Fin cfg0.N, k0_cond2 (grid0.coords t) = 1#1 → cfg0.idle 21 (grid0.coords t) = false := by decide +kernel
theorem noFlush_21 : ∀ t : Fin cfg0.N, ¬ k0_cond2 (grid0.coords t) = 1#1 → (cfg0.win 21).flush t = false := by decide +kernel

/-! ## The body obligation -/

/-- Before a point: the scratch at some contents, which at a point other than the first is the carried cotangent. -/
theorem Phi_in (c : Dev nD) (t : Fin cfg0.N) :
    (dats V 0 c).Φ t.castSucc ⊢ iprop(∃ S, ⌜(if atFirst (grid0.coords t) then iblk V c 12 t else S) = dsIn V c t⌝
      ∗ owns (c : Thread nD τ) scM fullShare S ∗ (∃ r, prngReg c r)) := by
  rw [PhiS_castSucc]
  obtain ⟨n, hn⟩ := t
  cases n with
  | zero =>
    have h : atFirst (grid0.coords (⟨0, hn⟩ : Fin cfg0.N)) := (first_iff ⟨0, hn⟩).mpr rfl
    show Pipeline.ΦA spec0 c ⊢ _
    rw [PhiA_eq]
    iintro ⟨⟨%S, HS⟩, Hg⟩
    iexists S
    isplitr
    · ipureintro
      rw [if_pos h]
      rfl
    isplitl [HS]; · iexact HS
    iexact Hg
  | succ n =>
    have h : ¬ atFirst (grid0.coords (⟨n + 1, hn⟩ : Fin cfg0.N)) := fun h => absurd ((first_iff ⟨n + 1, hn⟩).mp h) (Nat.succ_ne_zero n)
    unfold PhiS
    iintro ⟨HS, Hg⟩
    iexists _
    isplitr
    swap
    · isplitl [HS]; · iexact HS
      iexact Hg
    ipureintro
    exact if_neg h

/-- What the last window is left at: the carried cotangent at the last point, and anything before. -/
theorem leaves_last (c : Dev nD) (t : Fin cfg0.N) (d) :
    owns (c : Thread nD τ) ((cfg0.win 21).stage (cfg0.slots t 21)) fullShare
        (if k0_cond2 (grid0.coords t) = 1#1 then dsAt V c (t.val + 1) t.isLt else (dats V 0 c).before 21 t d)
      ⊢ (dats V 0 c).leavesExact 21 t := by
  by_cases h : k0_cond2 (grid0.coords t) = 1#1
  · rw [if_pos h, leaves_live V c 21 t (live_21 t h), after_21]
  · rw [if_neg h, Dat.leavesExact_idle (dats V 0 c) 21 t (idle_21 t h) (noFlush_21 t h)]
    iintro H
    iexists d
    iexact H

/-- What the body is called with at point `t`, -/
def bodyPre (c : Dev nD) (t : Fin cfg0.N) : sProp 𝕄 :=
  iprop((dats V 0 c).Φ t.castSucc ∗ (dats V 0 c).owesAt () t.castSucc
    ∗ (∃ d, owns (c : Thread nD τ) ((cfg0.win 0).stage (cfg0.slots t 0)) fullShare ((dats V 0 c).before 0 t d))
    ∗ (∃ d, owns (c : Thread nD τ) ((cfg0.win 1).stage (cfg0.slots t 1)) fullShare ((dats V 0 c).before 1 t d))
    ∗ (∃ d, owns (c : Thread nD τ) ((cfg0.win 2).stage (cfg0.slots t 2)) fullShare ((dats V 0 c).before 2 t d))
    ∗ (∃ d, owns (c : Thread nD τ) ((cfg0.win 3).stage (cfg0.slots t 3)) fullShare ((dats V 0 c).before 3 t d))
    ∗ (∃ d, owns (c : Thread nD τ) ((cfg0.win 4).stage (cfg0.slots t 4)) fullShare ((dats V 0 c).before 4 t d))
    ∗ (∃ d, owns (c : Thread nD τ) ((cfg0.win 5).stage (cfg0.slots t 5)) fullShare ((dats V 0 c).before 5 t d))
    ∗ (∃ d, owns (c : Thread nD τ) ((cfg0.win 6).stage (cfg0.slots t 6)) fullShare ((dats V 0 c).before 6 t d))
    ∗ (∃ d, owns (c : Thread nD τ) ((cfg0.win 7).stage (cfg0.slots t 7)) fullShare ((dats V 0 c).before 7 t d))
    ∗ (∃ d, owns (c : Thread nD τ) ((cfg0.win 8).stage (cfg0.slots t 8)) fullShare ((dats V 0 c).before 8 t d))
    ∗ (∃ d, owns (c : Thread nD τ) ((cfg0.win 9).stage (cfg0.slots t 9)) fullShare ((dats V 0 c).before 9 t d))
    ∗ (∃ d, owns (c : Thread nD τ) ((cfg0.win 10).stage (cfg0.slots t 10)) fullShare ((dats V 0 c).before 10 t d))
    ∗ (∃ d, owns (c : Thread nD τ) ((cfg0.win 11).stage (cfg0.slots t 11)) fullShare ((dats V 0 c).before 11 t d))
    ∗ (∃ d, owns (c : Thread nD τ) ((cfg0.win 12).stage (cfg0.slots t 12)) fullShare ((dats V 0 c).before 12 t d))
    ∗ (∃ d, owns (c : Thread nD τ) ((cfg0.win 13).stage (cfg0.slots t 13)) fullShare ((dats V 0 c).before 13 t d))
    ∗ (∃ d, owns (c : Thread nD τ) ((cfg0.win 14).stage (cfg0.slots t 14)) fullShare ((dats V 0 c).before 14 t d))
    ∗ (∃ d, owns (c : Thread nD τ) ((cfg0.win 15).stage (cfg0.slots t 15)) fullShare ((dats V 0 c).before 15 t d))
    ∗ (∃ d, owns (c : Thread nD τ) ((cfg0.win 16).stage (cfg0.slots t 16)) fullShare ((dats V 0 c).before 16 t d))
    ∗ (∃ d, owns (c : Thread nD τ) ((cfg0.win 17).stage (cfg0.slots t 17)) fullShare ((dats V 0 c).before 17 t d))
    ∗ (∃ d, owns (c : Thread nD τ) ((cfg0.win 18).stage (cfg0.slots t 18)) fullShare ((dats V 0 c).before 18 t d))
    ∗ (∃ d, owns (c : Thread nD τ) ((cfg0.win 19).stage (cfg0.slots t 19)) fullShare ((dats V 0 c).before 19 t d))
    ∗ (∃ d, owns (c : Thread nD τ) ((cfg0.win 20).stage (cfg0.slots t 20)) fullShare ((dats V 0 c).before 20 t d))
    ∗ (∃ d, owns (c : Thread nD τ) ((cfg0.win 21).stage (cfg0.slots t 21)) fullShare ((dats V 0 c).before 21 t d)))

/-- and what it returns. -/
def bodyPost (c : Dev nD) (t : Fin cfg0.N) : sProp 𝕄 :=
  iprop((dats V 0 c).Φ t.succ ∗ (dats V 0 c).owesAt () t.succ
    ∗ (dats V 0 c).leavesExact 0 t
    ∗ (dats V 0 c).leavesExact 1 t
    ∗ (dats V 0 c).leavesExact 2 t
    ∗ (dats V 0 c).leavesExact 3 t
    ∗ (dats V 0 c).leavesExact 4 t
    ∗ (dats V 0 c).leavesExact 5 t
    ∗ (dats V 0 c).leavesExact 6 t
    ∗ (dats V 0 c).leavesExact 7 t
    ∗ (dats V 0 c).leavesExact 8 t
    ∗ (dats V 0 c).leavesExact 9 t
    ∗ (dats V 0 c).leavesExact 10 t
    ∗ (dats V 0 c).leavesExact 11 t
    ∗ (dats V 0 c).leavesExact 12 t
    ∗ (dats V 0 c).leavesExact 13 t
    ∗ (dats V 0 c).leavesExact 14 t
    ∗ (dats V 0 c).leavesExact 15 t
    ∗ (dats V 0 c).leavesExact 16 t
    ∗ (dats V 0 c).leavesExact 17 t
    ∗ (dats V 0 c).leavesExact 18 t
    ∗ (dats V 0 c).leavesExact 19 t
    ∗ (dats V 0 c).leavesExact 20 t
    ∗ (dats V 0 c).leavesExact 21 t)

set_option maxHeartbeats 1600000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9, before_10, before_11, before_12]
  rw [show (dats V 0 c).owesAt () t.succ = (dats V 0 c).owesAt () t.castSucc from rfl]
  rw [show (dats V 0 c).Φ t.succ = PhiS V c (t.val + 1) t.isLt from rfl]
  simp only [leaves_live V c 0 t rfl, leaves_live V c 1 t rfl, leaves_live V c 2 t rfl, leaves_live V c 3 t rfl, leaves_live V c 4 t rfl, leaves_live V c 5 t rfl, leaves_live V c 6 t rfl, leaves_live V c 7 t rfl, leaves_live V c 8 t rfl, leaves_live V c 9 t rfl, leaves_live V c 10 t rfl, leaves_live V c 11 t rfl, leaves_live V c 12 t rfl, leaves_live V c 13 t rfl, leaves_live V c 14 t rfl, leaves_live V c 15 t rfl, leaves_live V c 16 t rfl, leaves_live V c 17 t rfl, leaves_live V c 18 t rfl, leaves_live V c 19 t rfl, leaves_live V c 20 t rfl]
  simp only [after_0, after_1, after_2, after_3, after_4, after_5, after_6, after_7, after_8, after_9, after_10, after_11, after_12, after_13, after_14, after_15, after_16, after_17, after_18, after_19, after_20]
  unfold PhiS
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  icases (Phi_in V c t) $$ HΦ with ⟨%S, %hS, HS, Hg⟩
  iapply (body_wp (F := F) c Set.univ (grid0.coords t) (Bf := dirF V c t) (Bb := dirB V c t) (X := iblk V c 12 t) (S := S)) $$ [HS H0 H1 H2 H3 H4 H5 H6 H7 H8 H9 H10 H11 H12 H13 H14 H15 H16 H17 H18 H19 H20 H21]
  · isplitl [H0 H1 H3 H2 H4 H5]
    · unfold dirOwned dirF
      isplitl [H0]; · iexact H0
      isplitl [H1]; · iexact H1
      isplitl [H3]; · iexact H3
      isplitl [H2]; · iexact H2
      isplitl [H4]; · iexact H4
      iexact H5
    isplitl [H6 H7 H9 H8 H10 H11]
    · unfold dirOwned dirB
      isplitl [H6]; · iexact H6
      isplitl [H7]; · iexact H7
      isplitl [H9]; · iexact H9
      isplitl [H8]; · iexact H8
      isplitl [H10]; · iexact H10
      iexact H11
    isplitl [H12]; · iexact H12
    isplitl [H13 H14 H15 H16]
    · unfold outOwned
      isplitl [H13]; · iexact H13
      isplitl [H14]; · iexact H14
      isplitl [H15]; · iexact H15
      iexact H16
    isplitl [H17 H18 H19 H20]
    · unfold outOwned
      isplitl [H17]; · iexact H17
      isplitl [H18]; · iexact H18
      isplitl [H19]; · iexact H19
      iexact H20
    isplitl [H21]; · iexact H21
    iexact HS
  rw [hS]
  unfold dirOwned outOwned
  iintro ⟨⟨H0, H1, H3, H2, H4, H5⟩, ⟨H6, H7, H9, H8, H10, H11⟩, H12, ⟨H13, H14, H15, H16⟩, ⟨H17, H18, H19, H20⟩, H21, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iapply (show owns (c : Thread nD τ) (stage0_21 (cfg0.slots t 21)) fullShare
      (if k0_cond2 (grid0.coords t) = 1#1 then carried (dirF V c t) (dirB V c t) (dsIn V c t) 16 le_rfl
        else (dats V 0 c).before 21 t d21) ⊢ _ from leaves_last V c t d21) $$ H21

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats V 0 c) (defs₀ (F := F)) Variants.none () Set.univ := fun t => by
  rw [bigSep_W0, bigSep_W0, defs₀_row]
  exact triple_restated (sound_body V c t) rfl .rfl fun _ => .rfl

theorem hin (c : Dev nD) : Pipeline.ΦA spec0 c ⊢ (dats V 0 c).Φ 0 := Entails.refl _

theorem hout (c : Dev nD) : (dats V 0 c).Φ (Fin.last cfg0.N) ⊢ Pipeline.ΦA spec0 c := by
  rw [show (dats V 0 c).Φ (Fin.last cfg0.N) = PhiS V c (15 + 1) (Nat.le_of_eq N_0.symm) from rfl, PhiA_eq]
  unfold PhiS
  iintro ⟨HS, Hg⟩
  isplitl [HS]
  · iexists _; iexact HS
  iexact Hg

end Cert.Gla

end
-- ==== Proof.Launch.lean ====
/- The launch: the kernel's run, and that it leaves its arguments as they were. -/
module

public import proofs.«01_k».proof.Proof.Region

@[expose] public section

set_option maxRecDepth 16384

noncomputable section

namespace Cert.Gla

open Idealize.ShloMosaic Idealize.ShloMosaic.TcCoe Idealize.SL Idealize.SL.Sem
open Idealize.ShloMosaic.Pipeline (Dat Cfg)
open Cert.KernelIdeal Cert.KernelIdeal.Gen

variable {F : FTy → Type} [FloatOps F]
variable (m : (ℓ : Loc nD τ sig) → Buf (Elt F) ℓ) (ρ : Dev nD → PrngReg)

/-- The arrays as the region finds them: those of the start, for no operation comes before it. -/
def entry (c : Dev nD) (b : Ref sig .tc) : Buf (Elt F) ((c : Thread nD τ).loc b) := m ((c : Thread nD τ).loc b)

set_option maxHeartbeats 800000 in
theorem hmain : Pipeline.HMain (Ix := Unit) (Name := ℕ) (U := UR sig nD τ) (Lvl := ℕ) cfgs 0 (defs₀ (F := F)) Variants.none m
    (main (F := F)) (entry m) :=
  Pipeline.hmain_region cfgs 0 defs₀ Variants.none m main fun c => (main_chain c).trans rfl

set_option backward.isDefEq.respectTransparency.types false in
/-- Every execution ends, with the region's arrays at what the proof data say and every counter at zero. -/
theorem run : θ_run defs (onTc (τ := τ) (main (F := F))) ⟨m, fun _ => 0, ρ⟩
    (fun r => Pipeline.FramePost cfgs (dats (entry m)) 0 (entry m) r ∧ r.2.sem = fun _ => 0) :=
  Pipeline.θ_run_frame_track_shared (Q' := _) cfgs (dats (entry m)) (0 : Fin 1) launch₀0 defs₀ Variants.none m ρ main
    (hbody := fun c => (body_obligation (entry m) c).loose) (hq := fun _ _ _ => rfl) (howed := fun _ _ => rfl) (V := entry m)
    (hmain := hmain m) (hA := A_eq (entry m)) (hin := hin (entry m)) (hout := hout (entry m))

/-- An array a window reads ends as it began. -/
theorem input_kept (c : Dev nD) (w : Fin cfg0.W) (hw : (cfg0.win w).isOut = false) :
    (dats (entry m) 0 c).arrAt w (Fin.last cfg0.N) = entry m c (Pipeline.arrRef spec0 w) :=
  ((dats (entry m) 0 c).arrAt_in w hw _).trans (A_eq (entry m) c w)

end Cert.Gla

end
-- ==== Proof.Spec.lean ====
/- The derivative of one chunk of one head, entry by entry over the extended reals. -/
module

public import Idealize.ShloMosaic.PureOps.Ideal.Laws

@[expose] public section

noncomputable section

namespace Cert.Gla

open Idealize.ShloMosaic

/-- The inputs of one chunk of one head: queries, keys, log decays, values, the output's cotangent, and the state
    entering the chunk (by key lane, then value lane). -/
structure Head where
  q : Fin 64 → Fin 64 → EReal
  k : Fin 64 → Fin 64 → EReal
  la : Fin 64 → Fin 64 → EReal
  v : Fin 64 → Fin 128 → EReal
  g : Fin 64 → Fin 128 → EReal
  s : Fin 64 → Fin 128 → EReal

/-- The scale of the queries. -/
def scale : EReal := Ideal.ofBits .f32 0x3E000000#32

namespace Head

variable (M : Fin 64 → Fin 64 → Prop) [∀ r c, Decidable (M r c)] (C : Head) (ds : Fin 64 → Fin 128 → EReal)

/-- The summed log decays: row `r` sums the rows `c` of which `M r c` holds. -/
def b (r x : Fin 64) : EReal := ∑ c, if M r c then C.la c x else 0
/-- The log decay of the whole chunk. -/
def bl (x : Fin 64) : EReal := ∑ c, C.la c x
def eb (r x : Fin 64) : EReal := Ideal.exp (C.b M r x)
def en (r x : Fin 64) : EReal := Ideal.exp (-C.b M r x)
def ee (r x : Fin 64) : EReal := Ideal.exp (C.bl x - C.b M r x)
def dec (x : Fin 64) : EReal := Ideal.exp (C.bl x)
def qt (r x : Fin 64) : EReal := C.q r x * scale * C.eb M r x
def kt (r x : Fin 64) : EReal := C.k r x * C.en M r x
def kd (r x : Fin 64) : EReal := C.k r x * C.ee M r x
/-- The scores of row `r` against row `c`. -/
def a (r c : Fin 64) : EReal := if M r c then ∑ x, C.qt M r x * C.kt M c x else 0
/-- The scores' cotangents. -/
def da (r c : Fin 64) : EReal := if M r c then ∑ y, C.g r y * C.v c y else 0
def dqt (r x : Fin 64) : EReal := (∑ c, C.da M r c * C.kt M c x) + ∑ y, C.g r y * C.s x y
def dkt (r x : Fin 64) : EReal := ∑ c, C.da M c r * C.qt M c x
def dkd (r x : Fin 64) : EReal := ∑ y, C.v r y * ds x y
def tkd (r x : Fin 64) : EReal := C.dkd ds r x * C.kd M r x
/-- The cotangent of the summed log decays. -/
def db (r x : Fin 64) : EReal := C.dqt M r x * C.qt M r x - C.dkt M r x * C.kt M r x - C.tkd M ds r x
/-- The cotangent of the whole chunk's log decay. -/
def dbl (x : Fin 64) : EReal := (∑ y, ds x y * C.s x y) * C.dec x + ∑ r, C.tkd M ds r x

def dq (r x : Fin 64) : EReal := C.dqt M r x * C.eb M r x * scale
def dk (r x : Fin 64) : EReal := C.dkt M r x * C.en M r x + C.dkd ds r x * C.ee M r x
def dv (r : Fin 64) (y : Fin 128) : EReal := (∑ c, C.a M c r * C.g c y) + ∑ x, C.kd M r x * ds x y
def dla (r x : Fin 64) : EReal := (∑ c, if M c r then C.db M ds c x else 0) + C.dbl M ds x
/-- The cotangent of the state entering the chunk. -/
def dsn (x : Fin 64) (y : Fin 128) : EReal := C.dec x * ds x y + ∑ r, C.g r y * C.qt M r x

end Head

/-! ## Reversing the rows -/

/-- The chunk with its rows in the opposite order. -/
def Head.flip (C : Head) : Head := ⟨fun r => C.q r.rev, fun r => C.k r.rev, fun r => C.la r.rev, fun r => C.v r.rev, fun r => C.g r.rev, C.s⟩

theorem sum_rev {n : ℕ} (f : Fin n → EReal) : ∑ c : Fin n, f c.rev = ∑ c, f c := Equiv.sum_comp Fin.revPerm f

namespace Head

variable (M : Fin 64 → Fin 64 → Prop) [∀ r c, Decidable (M r c)] (M' : Fin 64 → Fin 64 → Prop) [∀ r c, Decidable (M' r c)]
variable (C : Head) (ds : Fin 64 → Fin 128 → EReal)

section
variable (h : ∀ r c, M' r c ↔ M r.rev c.rev)
include h

theorem flip_b (r x : Fin 64) : C.flip.b M' r x = C.b M r.rev x := by
  unfold b; rw [← sum_rev]; exact Finset.sum_congr rfl fun c _ => by simp only [h, flip, Fin.rev_rev]
theorem flip_bl (x : Fin 64) : C.flip.bl x = C.bl x := sum_rev fun c => C.la c x
theorem flip_eb (r x : Fin 64) : C.flip.eb M' r x = C.eb M r.rev x := by unfold eb; rw [flip_b M M' C h]
theorem flip_en (r x : Fin 64) : C.flip.en M' r x = C.en M r.rev x := by unfold en; rw [flip_b M M' C h]
theorem flip_ee (r x : Fin 64) : C.flip.ee M' r x = C.ee M r.rev x := by unfold ee; rw [flip_b M M' C h, flip_bl M M' C h]
theorem flip_dec (x : Fin 64) : C.flip.dec x = C.dec x := by unfold dec; rw [flip_bl M M' C h]
theorem flip_qt (r x : Fin 64) : C.flip.qt M' r x = C.qt M r.rev x := by unfold qt; rw [flip_eb M M' C h]; rfl
theorem flip_kt (r x : Fin 64) : C.flip.kt M' r x = C.kt M r.rev x := by unfold kt; rw [flip_en M M' C h]; rfl
theorem flip_kd (r x : Fin 64) : C.flip.kd M' r x = C.kd M r.rev x := by unfold kd; rw [flip_ee M M' C h]; rfl
theorem flip_a (r c : Fin 64) : C.flip.a M' r c = C.a M r.rev c.rev := by
  unfold a; simp only [h, flip_qt M M' C h, flip_kt M M' C h]
theorem flip_da (r c : Fin 64) : C.flip.da M' r c = C.da M r.rev c.rev := by unfold da; simp only [h]; rfl
theorem flip_dqt (r x : Fin 64) : C.flip.dqt M' r x = C.dqt M r.rev x := by
  unfold dqt; simp only [flip_da M M' C h, flip_kt M M' C h]
  rw [sum_rev fun c => C.da M r.rev c * C.kt M c x]; rfl
theorem flip_dkt (r x : Fin 64) : C.flip.dkt M' r x = C.dkt M r.rev x := by
  unfold dkt; simp only [flip_da M M' C h, flip_qt M M' C h]
  exact sum_rev fun c => C.da M c r.rev * C.qt M c x
theorem flip_dkd (r x : Fin 64) : C.flip.dkd ds r x = C.dkd ds r.rev x := rfl
theorem flip_tkd (r x : Fin 64) : C.flip.tkd M' ds r x = C.tkd M ds r.rev x := by
  unfold tkd; rw [flip_kd M M' C h, flip_dkd M M' C ds h]
theorem flip_db (r x : Fin 64) : C.flip.db M' ds r x = C.db M ds r.rev x := by
  unfold db; rw [flip_dqt M M' C h, flip_qt M M' C h, flip_dkt M M' C h, flip_kt M M' C h, flip_tkd M M' C ds h]
theorem flip_dbl (x : Fin 64) : C.flip.dbl M' ds x = C.dbl M ds x := by
  unfold dbl; rw [flip_dec M M' C h]; simp only [flip_tkd M M' C ds h]
  rw [sum_rev fun c => C.tkd M ds c x]; rfl
theorem flip_dq (r x : Fin 64) : C.flip.dq M' r x = C.dq M r.rev x := by unfold dq; rw [flip_dqt M M' C h, flip_eb M M' C h]
theorem flip_dk (r x : Fin 64) : C.flip.dk M' ds r x = C.dk M ds r.rev x := by
  unfold dk; rw [flip_dkt M M' C h, flip_en M M' C h, flip_ee M M' C h, flip_dkd M M' C ds h]
theorem flip_dv (r : Fin 64) (y : Fin 128) : C.flip.dv M' ds r y = C.dv M ds r.rev y := by
  unfold dv; simp only [flip_a M M' C h, flip_kd M M' C h]
  rw [← sum_rev fun c => C.a M c r.rev * C.g c y]; rfl
theorem flip_dla (r x : Fin 64) : C.flip.dla M' ds r x = C.dla M ds r.rev x := by
  unfold dla; simp only [flip_db M M' C ds h, flip_dbl M M' C ds h, h]
  rw [← sum_rev fun c => if M c r.rev then C.db M ds c x else 0]
theorem flip_dsn (x : Fin 64) (y : Fin 128) : C.flip.dsn M' ds x y = C.dsn M ds x y := by
  unfold dsn; simp only [flip_dec M M' C h, flip_qt M M' C h]
  rw [← sum_rev fun r => C.g r y * C.qt M r x]; rfl
end

end Head

/-! ## Real entries -/

/-- An extended real that is a real number. -/
def IsReal (x : EReal) : Prop := ∃ r : ℝ, (r : EReal) = x

namespace IsReal
theorem zero : IsReal 0 := ⟨0, rfl⟩
theorem add {x y : EReal} : IsReal x → IsReal y → IsReal (x + y) := by
  rintro ⟨a, rfl⟩ ⟨b, rfl⟩; exact ⟨a + b, EReal.coe_add a b⟩
theorem mul {x y : EReal} : IsReal x → IsReal y → IsReal (x * y) := by
  rintro ⟨a, rfl⟩ ⟨b, rfl⟩; exact ⟨a * b, EReal.coe_mul a b⟩
theorem neg {x : EReal} : IsReal x → IsReal (-x) := by
  rintro ⟨a, rfl⟩; exact ⟨-a, EReal.coe_neg a⟩
theorem sub {x y : EReal} : IsReal x → IsReal y → IsReal (x - y) := by
  rintro ⟨a, rfl⟩ ⟨b, rfl⟩; exact ⟨a - b, EReal.coe_sub a b⟩
theorem exp {x : EReal} : IsReal x → IsReal (Ideal.exp x) := by
  rintro ⟨a, rfl⟩; exact ⟨Real.exp a, rfl⟩
theorem sum {n : ℕ} (f : Fin n → EReal) (h : ∀ i, IsReal (f i)) : IsReal (∑ i, f i) :=
  Finset.sum_induction f IsReal (fun _ _ => add) zero fun i _ => h i
theorem ite {p : Prop} [Decidable p] {x : EReal} (h : IsReal x) : IsReal (if p then x else 0) := by
  split
  · exact h
  · exact zero
theorem sub_self {x : EReal} : IsReal x → x - x = 0 := by
  rintro ⟨a, rfl⟩; rw [← EReal.coe_sub, _root_.sub_self]; rfl
end IsReal

theorem scale_real : IsReal scale := by
  unfold scale
  simp only [Ideal.ofBits, Ideal.ieee]
  exact ⟨_, rfl⟩

/-- Every entry of a chunk's inputs real. -/
structure Head.Fine (C : Head) : Prop where
  q : ∀ r x, IsReal (C.q r x)
  k : ∀ r x, IsReal (C.k r x)
  la : ∀ r x, IsReal (C.la r x)
  v : ∀ r y, IsReal (C.v r y)
  g : ∀ r y, IsReal (C.g r y)
  s : ∀ x y, IsReal (C.s x y)

namespace Head
variable (M : Fin 64 → Fin 64 → Prop) [∀ r c, Decidable (M r c)] {C : Head} (hC : C.Fine)
include hC

theorem b_real (r x : Fin 64) : IsReal (C.b M r x) := IsReal.sum _ fun c => (hC.la c x).ite
theorem bl_real (x : Fin 64) : IsReal (C.bl x) := IsReal.sum _ fun c => hC.la c x
theorem qt_real (r x : Fin 64) : IsReal (C.qt M r x) := ((hC.q r x).mul scale_real).mul (b_real M hC r x).exp
theorem kt_real (r x : Fin 64) : IsReal (C.kt M r x) := (hC.k r x).mul (b_real M hC r x).neg.exp
theorem kd_real (r x : Fin 64) : IsReal (C.kd M r x) := (hC.k r x).mul ((bl_real hC x).sub (b_real M hC r x)).exp
theorem da_real (r c : Fin 64) : IsReal (C.da M r c) := (IsReal.sum _ fun y => (hC.g r y).mul (hC.v c y)).ite
theorem dqt_real (r x : Fin 64) : IsReal (C.dqt M r x) :=
  (IsReal.sum _ fun c => (da_real M hC r c).mul (kt_real M hC c x)).add (IsReal.sum _ fun y => (hC.g r y).mul (hC.s x y))
theorem dkt_real (r x : Fin 64) : IsReal (C.dkt M r x) := IsReal.sum _ fun c => (da_real M hC c r).mul (qt_real M hC c x)

variable {ds : Fin 64 → Fin 128 → EReal} (hd : ∀ x y, IsReal (ds x y))
include hd

theorem db_real (r x : Fin 64) : IsReal (C.db M ds r x) :=
  (((dqt_real M hC r x).mul (qt_real M hC r x)).sub ((dkt_real M hC r x).mul (kt_real M hC r x))).sub
    ((IsReal.sum _ fun y => (hC.v r y).mul (hd x y)).mul (kd_real M hC r x))
theorem dsn_real (x : Fin 64) (y : Fin 128) : IsReal (C.dsn M ds x y) :=
  ((bl_real hC x).exp.mul (hd x y)).add (IsReal.sum _ fun r => (hC.g r y).mul (qt_real M hC r x))
end Head

end Cert.Gla

end
-- ==== Proof.Read.lean ====
/- The kernel's values of one chunk read at an entry: shapes, masks and stacks. -/
module

public import proofs.«01_k».proof.Proof.Chunk
public import proofs.«01_k».proof.Proof.Spec
public import Idealize.ShloMosaic.Lib.Pointwise
public import Idealize.ShloMosaic.PureOps.Ideal.Laws

@[expose] public section

set_option maxRecDepth 16384

noncomputable section

namespace Cert.Gla

open Idealize.ShloMosaic Idealize.SL.Sem
open Cert.KernelIdeal Cert.KernelIdeal.Facts₀ Cert.KernelIdeal.Facts

/-! ## Lanes -/

/-- Lane `x` of head `h`, and equally row `x` of the head's part of a stack. -/
@[irreducible] def ln (h : Fin 4) (x : Fin 64) : Fin 256 := ⟨64 * h.val + x.val, by omega⟩
/-- Value lane `y` of head `h`. -/
@[irreducible] def vl (h : Fin 4) (y : Fin 128) : Fin 512 := ⟨128 * h.val + y.val, by omega⟩
/-- Lane `x` of the half `p` of a pair of heads. -/
@[irreducible] def hl (p : Fin 2) (x : Fin 64) : Fin 128 := ⟨64 * p.val + x.val, by omega⟩
/-- Lane `u` of pair `t`. -/
@[irreducible] def pl (t : Fin 2) (u : Fin 128) : Fin 256 := ⟨128 * t.val + u.val, by omega⟩
/-- Head `p` of pair `t`. -/
def hd (t p : Fin 2) : Fin 4 := ⟨2 * t.val + p.val, by omega⟩

theorem ln_val (h : Fin 4) (x : Fin 64) : (ln h x).val = 64 * h.val + x.val := by unfold ln; rfl
theorem vl_val (h : Fin 4) (y : Fin 128) : (vl h y).val = 128 * h.val + y.val := by unfold vl; rfl
theorem hl_val (p : Fin 2) (x : Fin 64) : (hl p x).val = 64 * p.val + x.val := by unfold hl; rfl
theorem pl_val (t : Fin 2) (u : Fin 128) : (pl t u).val = 128 * t.val + u.val := by unfold pl; rfl

theorem ln_hd (t p : Fin 2) (x : Fin 64) : ln (hd t p) x = pl t (hl p x) :=
  Fin.ext (by rw [ln_val, pl_val, hl_val]; show 64 * (2 * t.val + p.val) + x.val = 128 * t.val + (64 * p.val + x.val); omega)
theorem hd_surj : ∀ h : Fin 4, ∃ t p : Fin 2, h = hd t p := by decide

theorem sum_ln {M : Type} [AddCommMonoid M] (f : Fin 256 → M) : ∑ l, f l = ∑ h : Fin 4, ∑ x : Fin 64, f (ln h x) := by
  rw [← Fintype.sum_prod_type']
  refine (Fintype.sum_equiv (finProdFinEquiv (m := 4) (n := 64)) _ _ fun p => ?_).symm
  exact congrArg f (Fin.ext (by rw [ln_val]; simp [finProdFinEquiv]; omega))

theorem sum_hl {M : Type} [AddCommMonoid M] (f : Fin 128 → M) : ∑ l, f l = ∑ h : Fin 2, ∑ x : Fin 64, f (hl h x) := by
  rw [← Fintype.sum_prod_type']
  refine (Fintype.sum_equiv (finProdFinEquiv (m := 2) (n := 64)) _ _ fun p => ?_).symm
  exact congrArg f (Fin.ext (by rw [hl_val]; simp [finProdFinEquiv]; omega))

/-! ## The masks -/

theorem cmp_le : ∀ r c : Fin 64, IntOp.cmpi .sle (BitVec.ofNat 32 c.val) (BitVec.ofNat 32 r.val) = if c ≤ r then 1#1 else 0#1 := by decide +kernel
theorem cmp_ge : ∀ r c : Fin 64, IntOp.cmpi .sge (BitVec.ofNat 32 c.val) (BitVec.ofNat 32 r.val) = if r ≤ c then 1#1 else 0#1 := by decide +kernel

theorem sitofp_one : (FloatOps.sitofp .f32 (BitVec.setWidth 32 1#1) : Ideal .f32) = (1 : EReal) := by
  show (((BitVec.setWidth 32 1#1).toInt : ℝ) : EReal) = 1
  rw [show (BitVec.setWidth 32 1#1).toInt = 1 from by decide]; simp
theorem sitofp_zero : (FloatOps.sitofp .f32 (BitVec.setWidth 32 0#1) : Ideal .f32) = (0 : EReal) := by
  show (((BitVec.setWidth 32 0#1).toInt : ℝ) : EReal) = 0
  rw [show (BitVec.setWidth 32 0#1).toInt = 0 from by decide]; simp

theorem lowerTri_apply (r c : Fin 64) : lowerTri (F := Ideal) (ix2 r c) = if c ≤ r then (1 : EReal) else 0 := by
  pointwise [lowerTri]
  rw [cmp_le]
  split
  · exact sitofp_one
  · exact sitofp_zero

theorem upperTri_apply (r c : Fin 64) : upperTri (F := Ideal) (ix2 r c) = if r ≤ c then (1 : EReal) else 0 := by
  pointwise [upperTri]
  rw [cmp_ge]
  split
  · exact sitofp_one
  · exact sitofp_zero

theorem headOf_word : ∀ (h : Fin 4) (x : Fin 64),  Scalar.select
      (IntOp.andi
        (IntOp.cmpi CmpIPredicate.ne
          (IntOp.subi (BitVec.setWidth 32 (IntOp.cmpi CmpIPredicate.sgt (BitVec.ofNat 32 (ln h x).val) 0#32))
            (BitVec.setWidth 32 (IntOp.cmpi CmpIPredicate.slt (BitVec.ofNat 32 (ln h x).val) 0#32)))
          sign64)
        (IntOp.cmpi CmpIPredicate.ne (IntOp.remsi ArithUnit.vector (BitVec.ofNat 32 (ln h x).val) 64#32) 0#32))
      (IntOp.subi (IntOp.divsi ArithUnit.vector (BitVec.ofNat 32 (ln h x).val) 64#32) 1#32)
      (IntOp.divsi ArithUnit.vector (BitVec.ofNat 32 (ln h x).val) 64#32) = BitVec.ofNat 32 h.val := by
  simp only [ln_val]; decide +kernel

theorem headOf_apply (h : Fin 4) (x : Fin 64) : headOf (ix2 0 (ln h x)) = BitVec.ofNat 32 h.val := by
  pointwise [headOf, div64]
  exact headOf_word h x

theorem cmp_head : ∀ h h' : Fin 4, IntOp.cmpi .eq (BitVec.ofNat 32 h.val) (BitVec.ofNat 32 h'.val) = if h' = h then 1#1 else 0#1 := by decide

theorem atHead_apply (h h' : Fin 4) (w : BitVec 32) (hw : w = BitVec.ofNat 32 h'.val) (x : FVec Ideal S64x256 .f32) (r i : Fin 64) :
    atHead w x (ix2 r (ln h i)) = if h' = h then x (ix2 r (ln h i)) else (0 : EReal) := by
  subst hw
  pointwise [atHead]
  rw [headOf_apply, cmp_head]
  split <;> rfl

/-- Four blocks of 64 one after another, read at an entry of block `k`. -/
theorem ladder4 {A : Type} (k : ℕ) (r : Fin 64) (n : ℕ) (hn : n = 64 * k + r.val) (f0 f1 f2 f3 : Fin 64 → A) (h3 : ¬ n < 64 → ¬ n - 64 < 64 → ¬ n - 64 - 64 < 64 → n - 64 - 64 - 64 < 64) (z : A)
    (z0 : k = 0 → f0 r = z) (z1 : k = 1 → f1 r = z) (z2 : k = 2 → f2 r = z) (z3 : k = 3 → f3 r = z)
    {i0 : Decidable (n < 64)} {i1 : Decidable (n - 64 < 64)} {i2 : Decidable (n - 64 - 64 < 64)} :
    (@dite _ (n < 64) i0 (fun h0 => f0 ⟨n, h0⟩) fun g0 => @dite _ (n - 64 < 64) i1 (fun h1 => f1 ⟨n - 64, h1⟩)
      fun g1 => @dite _ (n - 64 - 64 < 64) i2 (fun h2 => f2 ⟨n - 64 - 64, h2⟩) fun g2 => f3 ⟨n - 64 - 64 - 64, h3 g0 g1 g2⟩) = z := by
  have hr := r.isLt
  by_cases h0 : n < 64
  · rw [dif_pos h0, show (⟨n, h0⟩ : Fin 64) = r from Fin.ext (by show n = r.val; omega)]; exact z0 (by omega)
  by_cases h1 : n - 64 < 64
  · rw [dif_neg h0, dif_pos h1, show (⟨n - 64, h1⟩ : Fin 64) = r from Fin.ext (by show n - 64 = r.val; omega)]; exact z1 (by omega)
  by_cases h2 : n - 64 - 64 < 64
  · rw [dif_neg h0, dif_neg h1, dif_pos h2, show (⟨n - 64 - 64, h2⟩ : Fin 64) = r from Fin.ext (by show n - 64 - 64 = r.val; omega)]
    exact z2 (by omega)
  · rw [dif_neg h0, dif_neg h1, dif_neg h2, show (⟨n - 64 - 64 - 64, h3 h0 h1 h2⟩ : Fin 64) = r from Fin.ext (by show n - 64 - 64 - 64 = r.val; omega)]
    exact z3 (by omega)

/-- Four blocks of 128 one after another, read at an entry of block `k`. -/
theorem ladder4w {A : Type} (k : ℕ) (r : Fin 128) (n : ℕ) (hn : n = 128 * k + r.val) (f0 f1 f2 f3 : Fin 128 → A) (h3 : ¬ n < 128 → ¬ n - 128 < 128 → ¬ n - 128 - 128 < 128 → n - 128 - 128 - 128 < 128) (z : A)
    (z0 : k = 0 → f0 r = z) (z1 : k = 1 → f1 r = z) (z2 : k = 2 → f2 r = z) (z3 : k = 3 → f3 r = z)
    {i0 : Decidable (n < 128)} {i1 : Decidable (n - 128 < 128)} {i2 : Decidable (n - 128 - 128 < 128)} :
    (@dite _ (n < 128) i0 (fun h0 => f0 ⟨n, h0⟩) fun g0 => @dite _ (n - 128 < 128) i1 (fun h1 => f1 ⟨n - 128, h1⟩)
      fun g1 => @dite _ (n - 128 - 128 < 128) i2 (fun h2 => f2 ⟨n - 128 - 128, h2⟩) fun g2 => f3 ⟨n - 128 - 128 - 128, h3 g0 g1 g2⟩) = z := by
  have hr := r.isLt
  by_cases h0 : n < 128
  · rw [dif_pos h0, show (⟨n, h0⟩ : Fin 128) = r from Fin.ext (by show n = r.val; omega)]; exact z0 (by omega)
  by_cases h1 : n - 128 < 128
  · rw [dif_neg h0, dif_pos h1, show (⟨n - 128, h1⟩ : Fin 128) = r from Fin.ext (by show n - 128 = r.val; omega)]; exact z1 (by omega)
  by_cases h2 : n - 128 - 128 < 128
  · rw [dif_neg h0, dif_neg h1, dif_pos h2, show (⟨n - 128 - 128, h2⟩ : Fin 128) = r from Fin.ext (by show n - 128 - 128 = r.val; omega)]
    exact z2 (by omega)
  · rw [dif_neg h0, dif_neg h1, dif_neg h2, show (⟨n - 128 - 128 - 128, h3 h0 h1 h2⟩ : Fin 128) = r from Fin.ext (by show n - 128 - 128 - 128 = r.val; omega)]
    exact z3 (by omega)

attribute [local irreducible] atHead in
theorem heads_apply (x : FVec Ideal S64x256 .f32) (h h' : Fin 4) (r i : Fin 64) :
    heads x (ix2 (ln h' r) (ln h i)) = if h' = h then x (ix2 r (ln h i)) else (0 : EReal) := by
  pointwise [heads]
  exact ladder4 h'.val r _ (ln_val h' r) (fun a => atHead 0#32 x (ix2 a (ln h i))) (fun a => atHead 1#32 x (ix2 a (ln h i)))
    (fun a => atHead 2#32 x (ix2 a (ln h i))) (fun a => atHead 3#32 x (ix2 a (ln h i))) _ _
    (fun e => atHead_apply h h' _ (by rw [e]) x r i) (fun e => atHead_apply h h' _ (by rw [e]) x r i)
    (fun e => atHead_apply h h' _ (by rw [e]) x r i) (fun e => atHead_apply h h' _ (by rw [e]) x r i)

theorem foldHeads_apply (x : FVec Ideal S256x256 .f32) (h : Fin 4) (r i : Fin 64) :
    foldHeads x (ix2 r (ln h i)) = x (ix2 (ln h r) (ln h i)) := by
  pointwise [foldHeads]
  rw [atHead_apply h 0 _ (by rfl), atHead_apply h 1 _ (by rfl), atHead_apply h 2 _ (by rfl), atHead_apply h 3 _ (by rfl)]
  pointwise
  have e0 : (⟨r.val, by omega⟩ : Fin 256) = ln 0 r := Fin.ext (by rw [ln_val]; show r.val = 64 * 0 + r.val; omega)
  rw [e0, show (⟨64 + r.val, by omega⟩ : Fin 256) = ln 1 r from Fin.ext (by rw [ln_val]; rfl),
    show (⟨128 + r.val, by omega⟩ : Fin 256) = ln 2 r from Fin.ext (by rw [ln_val]; rfl),
    show (⟨192 + r.val, by omega⟩ : Fin 256) = ln 3 r from Fin.ext (by rw [ln_val]; rfl)]
  fin_cases h <;> simp

theorem splitDot_apply (m : FVec Ideal S64x64 .f32) (x : FVec Ideal S64x256 .f32) (r : Fin 64) (l : Fin 256)
    (hx : ∀ c, x (ix2 c l) - x (ix2 c l) = (0 : EReal)) : splitDot m x (ix2 r l) = ∑ c : Fin 64, (m (ix2 r c) * x (ix2 c l) : EReal) := by
  pointwise [splitDot]
  have e : (⟨512 + l.val - 256 - 256, by omega⟩ : Fin 256) = l := Fin.ext (by show 512 + l.val - 256 - 256 = l.val; omega)
  have n1 : ¬ 512 + l.val < 256 := by omega
  have n2 : ¬ 512 + l.val - 256 < 256 := by omega
  simp only [n1, n2, ↓reduceDIte, e, hx, sub_zero, mul_zero, Finset.sum_const_zero, add_zero]

/-! ## Pairs of heads -/

theorem halfOf_word : ∀ (p : Fin 2) (x : Fin 64),  Scalar.select
      (IntOp.andi
        (IntOp.cmpi CmpIPredicate.ne
          (IntOp.subi (BitVec.setWidth 32 (IntOp.cmpi CmpIPredicate.sgt (BitVec.ofNat 32 (hl p x).val) 0#32))
            (BitVec.setWidth 32 (IntOp.cmpi CmpIPredicate.slt (BitVec.ofNat 32 (hl p x).val) 0#32)))
          sign64)
        (IntOp.cmpi CmpIPredicate.ne (IntOp.remsi ArithUnit.vector (BitVec.ofNat 32 (hl p x).val) 64#32) 0#32))
      (IntOp.subi (IntOp.divsi ArithUnit.vector (BitVec.ofNat 32 (hl p x).val) 64#32) 1#32)
      (IntOp.divsi ArithUnit.vector (BitVec.ofNat 32 (hl p x).val) 64#32) = BitVec.ofNat 32 p.val := by
  simp only [hl_val]; decide +kernel

theorem halfOf_apply (p : Fin 2) (x : Fin 64) : halfOf (ix2 0 (hl p x)) = BitVec.ofNat 32 p.val := by
  pointwise [halfOf, div64]
  exact halfOf_word p x

theorem cmp_half : ∀ h h' : Fin 2, IntOp.cmpi .eq (BitVec.ofNat 32 h.val) (BitVec.ofNat 32 h'.val) = if h' = h then 1#1 else 0#1 := by decide

theorem atHalf_apply (p p' : Fin 2) (w : BitVec 32) (hw : w = BitVec.ofNat 32 p'.val) (x : FVec Ideal S64x128 .f32) (r i : Fin 64) :
    atHalf w x (ix2 r (hl p i)) = if p' = p then x (ix2 r (hl p i)) else (0 : EReal) := by
  subst hw
  pointwise [atHalf]
  rw [halfOf_apply, cmp_half]
  split <;> rfl

theorem foldPair_apply (x : FVec Ideal S128x128 .f32) (p : Fin 2) (r i : Fin 64) :
    foldPair x (ix2 r (hl p i)) = x (ix2 (hl p r) (hl p i)) := by
  pointwise [foldPair]
  rw [atHalf_apply p 0 _ (by rfl), atHalf_apply p 1 _ (by rfl)]
  pointwise
  have e0 : (⟨r.val, by omega⟩ : Fin 128) = hl 0 r := Fin.ext (by rw [hl_val]; show r.val = 64 * 0 + r.val; omega)
  rw [e0, show (⟨64 + r.val, by omega⟩ : Fin 128) = hl 1 r from Fin.ext (by rw [hl_val]; rfl)]
  fin_cases p <;> simp

/-- Two blocks of 128 one after another. -/
theorem ladder2 {A : Type} (k : ℕ) (u : Fin 128) (n : ℕ) (hn : n = 128 * k + u.val) (f0 f1 : Fin 128 → A) (h1 : ¬ n < 128 → n - 128 < 128) (z : A)
    (z0 : k = 0 → f0 u = z) (z1 : k = 1 → f1 u = z) {i0 : Decidable (n < 128)} :
    (@dite _ (n < 128) i0 (fun h0 => f0 ⟨n, h0⟩) fun g0 => f1 ⟨n - 128, h1 g0⟩) = z := by
  have hr := u.isLt
  by_cases h0 : n < 128
  · rw [dif_pos h0, show (⟨n, h0⟩ : Fin 128) = u from Fin.ext (by show n = u.val; omega)]; exact z0 (by omega)
  · rw [dif_neg h0, show (⟨n - 128, h1 h0⟩ : Fin 128) = u from Fin.ext (by show n - 128 = u.val; omega)]; exact z1 (by omega)

theorem sumRows_apply (x : FVec Ideal S64x256 .f32) (l : Fin 256) : sumRows x (ix2 0 l) = ∑ c : Fin 64, (x (ix2 c l) : EReal) := by
  pointwise [sumRows]
theorem sumState_apply (x : FVec Ideal S128x256 .f32) (l : Fin 256) : sumState x (ix2 0 l) = ∑ c : Fin 128, (x (ix2 c l) : EReal) := by
  pointwise [sumState]
end Cert.Gla

end
-- ==== Proof.Args.lean ====
/- The arguments as numbers, their chunks, and what the call computes of them: the specification both programs meet. -/
module

public import proofs.«01_k».proof.Proof.Read

@[expose] public section

noncomputable section

namespace Cert.Gla

/-- The arguments. -/
structure Args where
  q : Fin 16384 → Fin 256 → EReal
  k : Fin 16384 → Fin 256 → EReal
  v : Fin 16384 → Fin 512 → EReal
  la : Fin 16384 → Fin 512 → EReal
  g : Fin 16384 → Fin 512 → EReal
  sf : Fin 256 → Fin 128 → Fin 256 → EReal
  sb : Fin 256 → Fin 128 → Fin 256 → EReal
  ds : Fin 2 → Fin 128 → Fin 256 → EReal

/-- Row `r` of chunk `t`. -/
@[irreducible] def rowOf (t : Fin 256) (r : Fin 64) : Fin 16384 := ⟨64 * t.val + r.val, by omega⟩
/-- Lane `l` of the direction `d` among the log decays. -/
@[irreducible] def wide (d : Fin 2) (l : Fin 256) : Fin 512 := ⟨256 * d.val + l.val, by omega⟩

theorem rowOf_val (t : Fin 256) (r : Fin 64) : (rowOf t r).val = 64 * t.val + r.val := by unfold rowOf; rfl
theorem wide_val (d : Fin 2) (l : Fin 256) : (wide d l).val = 256 * d.val + l.val := by unfold wide; rfl

theorem rowOf_surj (n : Fin 16384) : ∃ t r, n = rowOf t r :=
  ⟨⟨n.val / 64, by omega⟩, ⟨n.val % 64, by omega⟩, Fin.ext (by rw [rowOf_val]; show n.val = 64 * (n.val / 64) + n.val % 64; omega)⟩
theorem ln_surj (l : Fin 256) : ∃ h x, l = ln h x :=
  ⟨⟨l.val / 64, by omega⟩, ⟨l.val % 64, by omega⟩, Fin.ext (by rw [ln_val]; show l.val = 64 * (l.val / 64) + l.val % 64; omega)⟩
theorem vl_surj (l : Fin 512) : ∃ h y, l = vl h y :=
  ⟨⟨l.val / 128, by omega⟩, ⟨l.val % 128, by omega⟩, Fin.ext (by rw [vl_val]; show l.val = 128 * (l.val / 128) + l.val % 128; omega)⟩

theorem rowOf_rev (t : Fin 256) (r : Fin 64) : (rowOf t r).rev = rowOf t.rev r.rev :=
  Fin.ext (by rw [Fin.val_rev, rowOf_val, rowOf_val, Fin.val_rev, Fin.val_rev]; omega)

/-- Rows up to one's own, and rows from one's own on. -/
abbrev Lo (r c : Fin 64) : Prop := c ≤ r
abbrev Up (r c : Fin 64) : Prop := r ≤ c

theorem up_flip (r c : Fin 64) : Lo r c ↔ Up r.rev c.rev := by
  show c ≤ r ↔ r.rev ≤ c.rev
  exact Fin.rev_le_rev.symm

namespace Args

variable (A : Args)

/-- Chunk `t` of head `p`, forward and backward in time. -/
def headF (t : Fin 256) (p : Fin 4) : Head :=
  ⟨fun r x => A.q (rowOf t r) (ln p x), fun r x => A.k (rowOf t r) (ln p x), fun r x => A.la (rowOf t r) (wide 0 (ln p x)),
    fun r y => A.v (rowOf t r) (vl p y), fun r y => A.g (rowOf t r) (vl p y), fun x y => A.sf t y (ln p x)⟩
def headB (t : Fin 256) (p : Fin 4) : Head :=
  ⟨fun r x => A.q (rowOf t r) (ln p x), fun r x => A.k (rowOf t r) (ln p x), fun r x => A.la (rowOf t r) (wide 1 (ln p x)),
    fun r y => A.v (rowOf t r) (vl p y), fun r y => A.g (rowOf t r) (vl p y), fun x y => A.sb t y (ln p x)⟩

/-- The chunk the forward direction's pass backwards takes as its `n`-th. -/
def backAt (n : ℕ) : Fin 256 := ⟨255 - n, by omega⟩
/-- The chunk the other direction's pass takes as its `n`-th. -/
def foreAt (n : ℕ) : Fin 256 := ⟨n % 256, Nat.mod_lt _ (by decide)⟩

/-- The state cotangents after `n` chunks. -/
def dsF (p : Fin 4) : ℕ → Fin 64 → Fin 128 → EReal
  | 0 => fun x y => A.ds 0 y (ln p x)
  | n + 1 => (A.headF (backAt n) p).dsn Lo (dsF p n)
def dsB (p : Fin 4) : ℕ → Fin 64 → Fin 128 → EReal
  | 0 => fun x y => A.ds 1 y (ln p x)
  | n + 1 => (A.headB (foreAt n) p).dsn Up (dsB p n)

end Args

end Cert.Gla

end
-- ==== Proof.Read2.lean ====
/- The kernel's products of one chunk read at an entry. -/
module

public import proofs.«01_k».proof.Proof.Read

@[expose] public section

set_option maxRecDepth 16384

noncomputable section

namespace Cert.Gla

open Idealize.ShloMosaic Idealize.SL.Sem
open Cert.KernelIdeal Cert.KernelIdeal.Facts₀ Cert.KernelIdeal.Facts

attribute [local irreducible] atHead foldPair foldHeads heads stack4 gv ag

/-! ## Sums in which only one head's entries remain -/

theorem heads_row (x : FVec Ideal S64x256 .f32) (f : Fin 256 → EReal) (h : Fin 4) (r : Fin 64) :
    (∑ l : Fin 256, (heads x (ix2 (ln h r) l) * f l : EReal)) = ∑ i : Fin 64, (x (ix2 r (ln h i)) * f (ln h i) : EReal) := by
  rw [sum_ln, Finset.sum_eq_single h]
  · exact Finset.sum_congr rfl fun i _ => by rw [heads_apply, if_pos rfl]
  · intro h' _ hn
    exact Finset.sum_eq_zero fun i _ => by rw [heads_apply, if_neg (Ne.symm hn), zero_mul]
  · simp

theorem heads_col (x : FVec Ideal S64x256 .f32) (f : Fin 256 → EReal) (h : Fin 4) (i : Fin 64) :
    (∑ l : Fin 256, (f l * heads x (ix2 l (ln h i)) : EReal)) = ∑ r : Fin 64, (f (ln h r) * x (ix2 r (ln h i)) : EReal) := by
  rw [sum_ln, Finset.sum_eq_single h]
  · exact Finset.sum_congr rfl fun r _ => by rw [heads_apply, if_pos rfl]
  · intro h' _ hn
    exact Finset.sum_eq_zero fun i _ => by rw [heads_apply, if_neg hn, mul_zero]
  · simp

theorem hd_ne {t p p' : Fin 2} (hn : p' ≠ p) : hd t p' ≠ hd t p := by
  revert t p p'; decide

theorem heads_row_pair (x : FVec Ideal S64x256 .f32) (f : Fin 128 → EReal) (t p : Fin 2) (r : Fin 64) :
    (∑ u : Fin 128, (heads x (ix2 (pl t (hl p r)) (pl t u)) * f u : EReal)) = ∑ i : Fin 64, (x (ix2 r (ln (hd t p) i)) * f (hl p i) : EReal) := by
  rw [sum_hl, Finset.sum_eq_single p]
  · exact Finset.sum_congr rfl fun i _ => by rw [← ln_hd, ← ln_hd, heads_apply, if_pos rfl]
  · intro p' _ hn
    exact Finset.sum_eq_zero fun i _ => by rw [← ln_hd, ← ln_hd, heads_apply, if_neg (Ne.symm (hd_ne hn)), zero_mul]
  · simp

theorem heads_col_pair (x : FVec Ideal S64x256 .f32) (f : Fin 128 → EReal) (t p : Fin 2) (i : Fin 64) :
    (∑ u : Fin 128, (f u * heads x (ix2 (pl t u) (pl t (hl p i))) : EReal)) = ∑ r : Fin 64, (f (hl p r) * x (ix2 r (ln (hd t p) i)) : EReal) := by
  rw [sum_hl, Finset.sum_eq_single p]
  · exact Finset.sum_congr rfl fun i _ => by rw [← ln_hd, ← ln_hd, heads_apply, if_pos rfl]
  · intro p' _ hn
    exact Finset.sum_eq_zero fun i _ => by rw [← ln_hd, ← ln_hd, heads_apply, if_neg (hd_ne hn), mul_zero]
  · simp

/-! ## The pieces -/

theorem pl_lo (u : Fin 128) (h : u.val < 256) : (⟨u.val, h⟩ : Fin 256) = pl 0 u := Fin.ext (by rw [pl_val]; show u.val = 128 * 0 + u.val; omega)
theorem pl_hi (u : Fin 128) (h : 128 + u.val < 256) : (⟨128 + u.val, h⟩ : Fin 256) = pl 1 u := Fin.ext (by rw [pl_val]; rfl)

theorem pl0_val (u : Fin 128) : (pl 0 u).val = u.val := by rw [pl_val]; show 128 * 0 + u.val = u.val; omega
theorem pl1_val (u : Fin 128) : (pl 1 u).val = 128 + u.val := by rw [pl_val]; rfl
theorem ln_0 (u : Fin 64) (h : u.val < 256) : (⟨u.val, h⟩ : Fin 256) = ln 0 u := Fin.ext (by rw [ln_val]; show u.val = 64 * 0 + u.val; omega)
theorem ln_1 (u : Fin 64) (h : 64 + u.val < 256) : (⟨64 + u.val, h⟩ : Fin 256) = ln 1 u := Fin.ext (by rw [ln_val]; rfl)
theorem ln_2 (u : Fin 64) (h : 128 + u.val < 256) : (⟨128 + u.val, h⟩ : Fin 256) = ln 2 u := Fin.ext (by rw [ln_val]; rfl)
theorem ln_3 (u : Fin 64) (h : 192 + u.val < 256) : (⟨192 + u.val, h⟩ : Fin 256) = ln 3 u := Fin.ext (by rw [ln_val]; rfl)

theorem gv_apply (g : FVec Ideal S64x128 .bf16) (v : FVec Ideal S64x128 .f32) (r c : Fin 64) :
   gv g v (ix2 r c) = ∑ y : Fin 128, (g (ix2 r y) * v (ix2 c y) : EReal) := by
  pointwise [gv]

theorem ag_apply (a : FVec Ideal S64x64 .f32) (g : FVec Ideal S64x128 .bf16) (r : Fin 64) (y : Fin 128) :
   ag a g (ix2 r y) = ∑ c : Fin 64, (a (ix2 c r) * g (ix2 c y) : EReal) := by
  pointwise [ag]

theorem stack4_apply (m : FVec Ideal S64x64 .f32) (h : Fin 4) (r c : Fin 64) : stack4 m (ix2 (ln h r) c) = m (ix2 r c) := by
  pointwise [stack4]
  exact ladder4 (A := EReal) h.val r _ (ln_val h r) (fun a => m (ix2 a c)) (fun a => m (ix2 a c)) (fun a => m (ix2 a c)) (fun a => m (ix2 a c)) _ (m (ix2 r c))
    (fun _ => rfl) (fun _ => rfl) (fun _ => rfl) (fun _ => rfl)

theorem fin2_cases : ∀ t : Fin 2, t = 0 ∨ t = 1 := by decide
theorem fin4 {h : Fin 4} (n : Fin 4) (e : h.val = n.val) : h = n := Fin.ext e
theorem fin2 {h : Fin 2} (n : Fin 2) (e : h.val = n.val) : h = n := Fin.ext e

theorem vl_0 (u : Fin 128) (h : u.val < 512) : (⟨u.val, h⟩ : Fin 512) = vl 0 u := Fin.ext (by rw [vl_val]; show u.val = 128 * 0 + u.val; omega)
theorem vl_1 (u : Fin 128) (h : 128 + u.val < 512) : (⟨128 + u.val, h⟩ : Fin 512) = vl 1 u := Fin.ext (by rw [vl_val]; rfl)
theorem vl_2 (u : Fin 128) (h : 256 + u.val < 512) : (⟨256 + u.val, h⟩ : Fin 512) = vl 2 u := Fin.ext (by rw [vl_val]; rfl)
theorem vl_3 (u : Fin 128) (h : 384 + u.val < 512) : (⟨384 + u.val, h⟩ : Fin 512) = vl 3 u := Fin.ext (by rw [vl_val]; rfl)

theorem gStack_apply (g : FVec Ideal S64x512 .bf16) (h : Fin 4) (r : Fin 64) (y : Fin 128) : gStack g (ix2 (ln h r) y) = g (ix2 r (vl h y)) := by
  pointwise [gStack]
  simp only [vl_0, vl_1, vl_2, vl_3]
  exact ladder4 (A := EReal) h.val r _ (ln_val h r) (fun a => g (ix2 a (vl 0 y))) (fun a => g (ix2 a (vl 1 y))) (fun a => g (ix2 a (vl 2 y))) (fun a => g (ix2 a (vl 3 y))) _ (g (ix2 r (vl h y)))
    (fun e => by rw [fin4 0 e]) (fun e => by rw [fin4 1 e]) (fun e => by rw [fin4 2 e]) (fun e => by rw [fin4 3 e])

theorem vStack_apply (g : FVec Ideal S64x512 .f32) (h : Fin 4) (r : Fin 64) (y : Fin 128) : vStack g (ix2 (ln h r) y) = g (ix2 r (vl h y)) := by
  pointwise [vStack]
  simp only [vl_0, vl_1, vl_2, vl_3]
  exact ladder4 (A := EReal) h.val r _ (ln_val h r) (fun a => g (ix2 a (vl 0 y))) (fun a => g (ix2 a (vl 1 y))) (fun a => g (ix2 a (vl 2 y))) (fun a => g (ix2 a (vl 3 y))) _ (g (ix2 r (vl h y)))
    (fun e => by rw [fin4 0 e]) (fun e => by rw [fin4 1 e]) (fun e => by rw [fin4 2 e]) (fun e => by rw [fin4 3 e])

theorem timesState_pair (x : FVec Ideal S256x128 .bf16) (st : FVec Ideal S128x256 .f32) (t p : Fin 2) (r i : Fin 64) :
    timesState x st (ix2 r (pl t (hl p i))) = ∑ y : Fin 128, (x (ix2 (pl t (hl p r)) y) * st (ix2 y (pl t (hl p i))) : EReal) := by
  pointwise [timesState]
  refine ladder2 (A := EReal) t.val (hl p i) _ (pl_val t _) (fun a => foldPair (F := Ideal) _ (ix2 r a)) (fun a => foldPair (F := Ideal) _ (ix2 r a)) _ _ (fun e => ?_) (fun e => ?_)
  · obtain rfl := fin2 0 e
    show foldPair (F := Ideal) _ (ix2 r (hl p i)) = _
    rw [foldPair_apply]
    pointwise [lanesA]
    simp only [pl_lo]
  · obtain rfl := fin2 1 e
    show foldPair (F := Ideal) _ (ix2 r (hl p i)) = _
    rw [foldPair_apply]
    pointwise [lanesB]
    simp only [pl_hi]

theorem timesState_apply (x : FVec Ideal S256x128 .bf16) (st : FVec Ideal S128x256 .f32) (h : Fin 4) (r i : Fin 64) :
    timesState x st (ix2 r (ln h i)) = ∑ y : Fin 128, (x (ix2 (ln h r) y) * st (ix2 y (ln h i)) : EReal) := by
  obtain ⟨t, p, rfl⟩ := hd_surj h
  rw [ln_hd, ln_hd, timesState_pair]

theorem timesStateF_apply (x : FVec Ideal S256x128 .f32) (st : FVec Ideal S128x256 .f32) (h : Fin 4) (r i : Fin 64) :
    timesStateF x st (ix2 r (ln h i)) = ∑ y : Fin 128, (x (ix2 (ln h r) y) * st (ix2 y (ln h i)) : EReal) := timesState_apply x st h r i

theorem foldHeads_mul (a : FVec Ideal S256x64 .bf16) (b : FVec Ideal S64x256 .bf16) (h : Fin 4) (r i : Fin 64) :
    foldHeads (matmul dot_S256x64_S64x256_S256x256_1_0_0_1_n_n none a b (constant S256x256 .f32 0x00000000#32)) (ix2 r (ln h i))
      = ∑ c : Fin 64, (a (ix2 (ln h r) c) * b (ix2 c (ln h i)) : EReal) := by
  rw [foldHeads_apply]
  pointwise

section
variable (cum : FVec Ideal S64x64 .f32) (q k la : FVec Ideal S64x256 .f32) (v : FVec Ideal S64x512 .f32) (g : FVec Ideal S64x512 .bf16)
variable (s ds : FVec Ideal S128x256 .f32)

theorem dScores_apply (h : Fin 4) (r c : Fin 64) : dScores cum v g (ix2 (ln h r) c) =
    (∑ y : Fin 128, (g (ix2 r (vl h y)) * v (ix2 c (vl h y)) : EReal)) * cum (ix2 r c) := by
  pointwise [dScores]
  rw [stack4_apply]
  refine congrArg (fun z : EReal => z * cum (ix2 r c)) ?_
  refine ladder4 (A := EReal) h.val r _ (ln_val h r)
    (fun a => gv (extractStridedSlice S64x128 ![0, 0] g slices_S64x512_o0_0_S64x128) (extractStridedSlice S64x128 ![0, 0] v slices_S64x512_o0_0_S64x128) (ix2 a c))
    (fun a => gv (extractStridedSlice S64x128 ![0, 128] g slices_S64x512_o0_128_S64x128) (extractStridedSlice S64x128 ![0, 128] v slices_S64x512_o0_128_S64x128) (ix2 a c))
    (fun a => gv (extractStridedSlice S64x128 ![0, 256] g slices_S64x512_o0_256_S64x128) (extractStridedSlice S64x128 ![0, 256] v slices_S64x512_o0_256_S64x128) (ix2 a c))
    (fun a => gv (extractStridedSlice S64x128 ![0, 384] g slices_S64x512_o0_384_S64x128) (extractStridedSlice S64x128 ![0, 384] v slices_S64x512_o0_384_S64x128) (ix2 a c))
    _ _ (fun e => ?_) (fun e => ?_) (fun e => ?_) (fun e => ?_)
  · obtain rfl := fin4 0 e
    refine (gv_apply _ _ r c).trans ?_
    pointwise
    simp only [vl_0]
  · obtain rfl := fin4 1 e
    refine (gv_apply _ _ r c).trans ?_
    pointwise
    simp only [vl_1]
  · obtain rfl := fin4 2 e
    refine (gv_apply _ _ r c).trans ?_
    pointwise
    simp only [vl_2]
  · obtain rfl := fin4 3 e
    refine (gv_apply _ _ r c).trans ?_
    pointwise
    simp only [vl_3]

attribute [local irreducible] qT kT kD dScores scores decay gStack vStack

theorem scores_apply (h : Fin 4) (r c : Fin 64) : scores cum q k la (ix2 (ln h r) c) =
    (∑ x : Fin 64, (qT cum q la (ix2 r (ln h x)) * kT cum k la (ix2 c (ln h x)) : EReal)) * cum (ix2 r c) := by
  pointwise [scores]
  rw [stack4_apply, heads_row]

theorem dqT_apply (h : Fin 4) (r i : Fin 64) : dqT cum k la v g s (ix2 r (ln h i)) =
    (∑ c : Fin 64, (dScores cum v g (ix2 (ln h r) c) * kT cum k la (ix2 c (ln h i)) : EReal))
      + ∑ y : Fin 128, (g (ix2 r (vl h y)) * s (ix2 y (ln h i)) : EReal) := by
  pointwise [dqT]
  rw [timesState_apply, foldHeads_apply]
  simp only [gStack_apply]
  refine congrArg (fun z : EReal => z + _) ?_
  pointwise

theorem dkT_apply (h : Fin 4) (c i : Fin 64) : dkT cum q la v g (ix2 c (ln h i)) =
    (∑ r : Fin 64, (dScores cum v g (ix2 (ln h r) c) * qT cum q la (ix2 r (ln h i)) : EReal)) := by
  pointwise [dkT]
  rw [heads_col]

theorem dvInter_pair (t p : Fin 2) (r : Fin 64) (y : Fin 128) : dvInter cum k la ds (ix2 (pl t (hl p r)) y) =
    ∑ i : Fin 64, (kD cum k la (ix2 r (ln (hd t p) i)) * ds (ix2 y (ln (hd t p) i)) : EReal) := by
  pointwise [dvInter, lanesA, lanesB, rowsA, rowsB]
  rcases fin2_cases t with rfl | rfl
  · rw [dif_pos (by rw [pl0_val]; exact (hl p r).isLt)]
    simp only [pl_lo]
    rw [heads_row_pair]
    simp only [ln_hd]
  · have e : ∀ h, (⟨128 + ((pl 1 (hl p r)).val - 128), h⟩ : Fin 256) = pl 1 (hl p r) := fun h => Fin.ext (by
      show 128 + ((pl 1 (hl p r)).val - 128) = (pl 1 (hl p r)).val
      rw [pl1_val]; omega)
    rw [dif_neg (by rw [pl1_val]; omega)]
    simp only [pl_hi, e]
    rw [heads_row_pair]
    simp only [ln_hd]

theorem dState_pair (t p : Fin 2) (i : Fin 64) (y : Fin 128) : dState cum q la g ds (ix2 y (pl t (hl p i))) =
    decay la (ix2 0 (ln (hd t p) i)) * ds (ix2 y (ln (hd t p) i)) + ∑ r : Fin 64, (g (ix2 r (vl (hd t p) y)) * qT cum q la (ix2 r (ln (hd t p) i)) : EReal) := by
  pointwise [dState, lanesA, lanesB, rowsA, rowsB]
  rw [ln_hd]
  refine congrArg (fun z : EReal => (decay la (ix2 0 (pl t (hl p i))) * ds (ix2 y (pl t (hl p i))) : EReal) + z) ?_
  rcases fin2_cases t with rfl | rfl
  · rw [dif_pos (by rw [pl0_val]; exact (hl p i).isLt)]
    simp only [pl_lo]
    rw [heads_col_pair]
    simp only [← ln_hd, gStack_apply]
  · have e : ∀ h, (⟨128 + ((pl 1 (hl p i)).val - 128), h⟩ : Fin 256) = pl 1 (hl p i) := fun h => Fin.ext (by
      show 128 + ((pl 1 (hl p i)).val - 128) = (pl 1 (hl p i)).val
      rw [pl1_val]; omega)
    rw [dif_neg (by rw [pl1_val]; omega)]
    simp only [pl_hi, e]
    rw [heads_col_pair]
    simp only [← ln_hd, gStack_apply]

attribute [local irreducible] dvInter

theorem dvRaw_apply (h : Fin 4) (r : Fin 64) (y : Fin 128) : dvRaw cum q k la g ds (ix2 r (vl h y)) =
    (∑ c : Fin 64, (scores cum q k la (ix2 (ln h c) r) * g (ix2 c (vl h y)) : EReal)) + dvInter cum k la ds (ix2 (ln h r) y) := by
  pointwise [dvRaw]
  simp only [ln_0, ln_1, ln_2, ln_3]
  refine ladder4w (A := EReal) h.val y _ (vl_val h y)
    (fun a => ag (extractStridedSlice S64x64 ![0, 0] (scores cum q k la) slices_S256x64_o0_0_S64x64) (extractStridedSlice S64x128 ![0, 0] g slices_S64x512_o0_0_S64x128) (ix2 r a) + dvInter cum k la ds (ix2 (ln 0 r) a))
    (fun a => ag (extractStridedSlice S64x64 ![64, 0] (scores cum q k la) slices_S256x64_o64_0_S64x64) (extractStridedSlice S64x128 ![0, 128] g slices_S64x512_o0_128_S64x128) (ix2 r a) + dvInter cum k la ds (ix2 (ln 1 r) a))
    (fun a => ag (extractStridedSlice S64x64 ![128, 0] (scores cum q k la) slices_S256x64_o128_0_S64x64) (extractStridedSlice S64x128 ![0, 256] g slices_S64x512_o0_256_S64x128) (ix2 r a) + dvInter cum k la ds (ix2 (ln 2 r) a))
    (fun a => ag (extractStridedSlice S64x64 ![192, 0] (scores cum q k la) slices_S256x64_o192_0_S64x64) (extractStridedSlice S64x128 ![0, 384] g slices_S64x512_o0_384_S64x128) (ix2 r a) + dvInter cum k la ds (ix2 (ln 3 r) a))
    _ _ (fun e => ?_) (fun e => ?_) (fun e => ?_) (fun e => ?_)
  · obtain rfl := fin4 0 e
    refine congrArg (fun z : EReal => z + _) ((ag_apply _ _ r y).trans ?_)
    pointwise
    simp only [vl_0, ln_0]
  · obtain rfl := fin4 1 e
    refine congrArg (fun z : EReal => z + _) ((ag_apply _ _ r y).trans ?_)
    pointwise
    simp only [vl_1, ln_1]
  · obtain rfl := fin4 2 e
    refine congrArg (fun z : EReal => z + _) ((ag_apply _ _ r y).trans ?_)
    pointwise
    simp only [vl_2, ln_2]
  · obtain rfl := fin4 3 e
    refine congrArg (fun z : EReal => z + _) ((ag_apply _ _ r y).trans ?_)
    pointwise
    simp only [vl_3, ln_3]

end
end Cert.Gla
-- ==== Proof.Read3.lean ====
/- The kernel's results of one chunk, as the derivative of each head's chunk. -/
module

public import proofs.«01_k».proof.Proof.Read2

@[expose] public section

set_option maxRecDepth 16384

noncomputable section

namespace Cert.Gla

open Idealize.ShloMosaic Idealize.SL.Sem
open Cert.KernelIdeal Cert.KernelIdeal.Facts₀ Cert.KernelIdeal.Facts

/-- One head's part of a chunk's inputs. -/
def cut (q k la : FVec Ideal S64x256 .f32) (v : FVec Ideal S64x512 .f32) (g : FVec Ideal S64x512 .bf16) (s : FVec Ideal S128x256 .f32) (h : Fin 4) : Head :=
  ⟨fun r x => q (ix2 r (ln h x)), fun r x => k (ix2 r (ln h x)), fun r x => la (ix2 r (ln h x)), fun r y => v (ix2 r (vl h y)),
    fun r y => g (ix2 r (vl h y)), fun x y => s (ix2 y (ln h x))⟩

/-- One head's part of a state's cotangent. -/
def cutD (ds : FVec Ideal S128x256 .f32) (h : Fin 4) : Fin 64 → Fin 128 → EReal := fun x y => ds (ix2 y (ln h x))

variable (M : Fin 64 → Fin 64 → Prop) [∀ r c, Decidable (M r c)]
variable (cum cumT : FVec Ideal S64x64 .f32) (q k la : FVec Ideal S64x256 .f32) (v : FVec Ideal S64x512 .f32) (g : FVec Ideal S64x512 .bf16)
variable (s ds : FVec Ideal S128x256 .f32) (h : Fin 4)
variable (hcum : ∀ r c, cum (ix2 r c) = if M r c then (1 : EReal) else 0) (hcumT : ∀ r c, cumT (ix2 r c) = if M c r then (1 : EReal) else 0)

theorem mask_mul {p : Prop} [Decidable p] (x : EReal) : (if p then (1 : EReal) else 0) * x = if p then x else 0 := by
  split <;> simp
theorem mul_mask {p : Prop} [Decidable p] (x : EReal) : x * (if p then (1 : EReal) else 0) = if p then x else 0 := by
  split <;> simp

variable (hf : (cut q k la v g s h).Fine)
include hcum hf

attribute [local irreducible] splitDot

theorem cumLog_cut (r x : Fin 64) : cumLog cum la (ix2 r (ln h x)) = (cut q k la v g s h).b M r x := by
  unfold cumLog
  rw [splitDot_apply _ _ _ _ fun c => (hf.la c x).sub_self]
  exact Finset.sum_congr rfl fun c _ => by rw [hcum, mask_mul]; rfl

omit hcum hf in
theorem sumRows_cut (x : Fin 64) : sumRows la (ix2 0 (ln h x)) = (cut q k la v g s h).bl x := sumRows_apply la _

attribute [local irreducible] cumLog sumRows sumState

theorem expLog_cut (r x : Fin 64) : expLog cum la (ix2 r (ln h x)) = (cut q k la v g s h).eb M r x := by
  pointwise [expLog]
  rw [cumLog_cut M cum q k la v g s h hcum hf]; rfl

theorem expNeg_cut (r x : Fin 64) : expNeg cum la (ix2 r (ln h x)) = (cut q k la v g s h).en M r x := by
  pointwise [expNeg]
  rw [cumLog_cut M cum q k la v g s h hcum hf]
  exact congrArg Ideal.exp (zero_sub _)

theorem expEnd_cut (r x : Fin 64) : expEnd cum la (ix2 r (ln h x)) = (cut q k la v g s h).ee M r x := by
  pointwise [expEnd]
  rw [cumLog_cut M cum q k la v g s h hcum hf, sumRows_cut q k la v g s h]; rfl

omit hcum hf in
theorem decay_cut (x : Fin 64) : decay la (ix2 0 (ln h x)) = (cut q k la v g s h).dec x := by
  pointwise [decay]
  rw [sumRows_cut q k la v g s h]; rfl

attribute [local irreducible] expLog expNeg expEnd decay

theorem qT_cut (r x : Fin 64) : qT cum q la (ix2 r (ln h x)) = (cut q k la v g s h).qt M r x := by
  pointwise [qT]
  rw [expLog_cut M cum q k la v g s h hcum hf]; rfl
theorem kT_cut (r x : Fin 64) : kT cum k la (ix2 r (ln h x)) = (cut q k la v g s h).kt M r x := by
  pointwise [kT]
  rw [expNeg_cut M cum q k la v g s h hcum hf]; rfl
theorem kD_cut (r x : Fin 64) : kD cum k la (ix2 r (ln h x)) = (cut q k la v g s h).kd M r x := by
  pointwise [kD]
  rw [expEnd_cut M cum q k la v g s h hcum hf]; rfl

omit hf in
theorem dScores_cut (r c : Fin 64) : dScores cum v g (ix2 (ln h r) c) = (cut q k la v g s h).da M r c := by
  rw [dScores_apply, hcum, mul_mask]; rfl
theorem scores_cut (r c : Fin 64) : scores cum q k la (ix2 (ln h r) c) = (cut q k la v g s h).a M r c := by
  rw [scores_apply, hcum, mul_mask]
  simp only [qT_cut M cum q k la v g s h hcum hf, kT_cut M cum q k la v g s h hcum hf]; rfl

attribute [local irreducible] qT kT kD dScores scores

theorem dqT_cut (r x : Fin 64) : dqT cum k la v g s (ix2 r (ln h x)) = (cut q k la v g s h).dqt M r x := by
  rw [dqT_apply]
  simp only [dScores_cut M cum q k la v g s h hcum, kT_cut M cum q k la v g s h hcum hf]; rfl
theorem dkT_cut (r x : Fin 64) : dkT cum q la v g (ix2 r (ln h x)) = (cut q k la v g s h).dkt M r x := by
  rw [dkT_apply]
  simp only [dScores_cut M cum q k la v g s h hcum, qT_cut M cum q k la v g s h hcum hf]; rfl
omit hcum hf in
theorem dkD_cut (r x : Fin 64) : dkD v ds (ix2 r (ln h x)) = (cut q k la v g s h).dkd (cutD ds h) r x := by
  unfold dkD
  rw [timesStateF_apply]
  simp only [vStack_apply]; rfl

attribute [local irreducible] dqT dkT dkD

theorem tkD_cut (r x : Fin 64) : tkD cum k la v ds (ix2 r (ln h x)) = (cut q k la v g s h).tkd M (cutD ds h) r x := by
  pointwise [tkD]
  rw [dkD_cut q k la v g s ds h, kD_cut M cum q k la v g s h hcum hf]; rfl

attribute [local irreducible] tkD

theorem dCum_cut (r x : Fin 64) : dCum cum q k la v g s ds (ix2 r (ln h x)) = (cut q k la v g s h).db M (cutD ds h) r x := by
  pointwise [dCum]
  rw [dqT_cut M cum q k la v g s h hcum hf, dkT_cut M cum q k la v g s h hcum hf, qT_cut M cum q k la v g s h hcum hf,
    kT_cut M cum q k la v g s h hcum hf, tkD_cut M cum q k la v g s ds h hcum hf]; rfl

theorem dLast_cut (x : Fin 64) : dLast cum k la v s ds (ix2 0 (ln h x)) = (cut q k la v g s h).dbl M (cutD ds h) x := by
  pointwise [dLast]
  rw [sumState_apply, sumRows_apply, decay_cut q k la v g s h]
  simp only [tkD_cut M cum q k la v g s ds h hcum hf]
  pointwise
  rfl

attribute [local irreducible] dCum dLast

theorem dQ_cut (r x : Fin 64) : dQ cum k la v g s (ix2 r (ln h x)) = (cut q k la v g s h).dq M r x := by
  pointwise [dQ]
  rw [dqT_cut M cum q k la v g s h hcum hf, expLog_cut M cum q k la v g s h hcum hf]; rfl

theorem dK_cut (r x : Fin 64) : dK cum q la v g ds (ix2 r (ln h x)) = (cut q k la v g s h).dk M (cutD ds h) r x := by
  pointwise [dK]
  rw [dkT_cut M cum q k la v g s h hcum hf, expNeg_cut M cum q k la v g s h hcum hf, dkD_cut q k la v g s ds h, expEnd_cut M cum q k la v g s h hcum hf]; rfl

theorem dV_cut (r : Fin 64) (y : Fin 128) : dV cum q k la g ds (ix2 r (vl h y)) = (cut q k la v g s h).dv M (cutD ds h) r y := by
  obtain ⟨t, p, rfl⟩ := hd_surj h
  show dvRaw cum q k la g ds (ix2 r (vl (hd t p) y)) = _
  rw [dvRaw_apply, ln_hd, dvInter_pair]
  simp only [scores_cut M cum q k la v g s _ hcum hf, kD_cut M cum q k la v g s _ hcum hf]; rfl

theorem dState_cut (x : Fin 64) (y : Fin 128) : cutD (dState cum q la g ds) h x y = (cut q k la v g s h).dsn M (cutD ds h) x y := by
  obtain ⟨t, p, rfl⟩ := hd_surj h
  unfold cutD
  rw [ln_hd, dState_pair, decay_cut q k la v g s]
  simp only [qT_cut M cum q k la v g s _ hcum hf]; rfl

include hcumT in
theorem dLog_cut (hd : ∀ x y, IsReal (cutD ds h x y)) (r x : Fin 64) :
    dLog cum q k la v g s ds cumT (ix2 r (ln h x)) = (cut q k la v g s h).dla M (cutD ds h) r x := by
  pointwise [dLog]
  rw [splitDot_apply, dLast_cut M cum q k la v g s ds h hcum hf]
  · simp only [dCum_cut M cum q k la v g s ds h hcum hf, hcumT, mask_mul]; rfl
  · intro c
    rw [dCum_cut M cum q k la v g s ds h hcum hf]
    exact (Head.db_real M hf hd c x).sub_self

end Cert.Gla
-- ==== Proof.KerArgs.lean ====
/- The kernel's blocks read chunk by chunk, of the arguments. -/
module

public import proofs.«01_k».proof.Proof.Launch
public import proofs.«01_k».proof.Proof.Args
public import proofs.«01_k».proof.Proof.Read3
public import Idealize.ShloMosaic.Lib.Pipeline.ValueKit

@[expose] public section

set_option maxRecDepth 16384

noncomputable section

namespace Cert.Gla

open Idealize.ShloMosaic Idealize.ShloMosaic.TcCoe Idealize.SL Idealize.SL.Sem
open Args (backAt foreAt)
open Cert.KernelIdeal Cert.KernelIdeal.Gen Cert.KernelIdeal.Facts₀ Cert.KernelIdeal.Facts

variable (m : (ℓ : Loc nD τ sig) → Buf (Elt Ideal) ℓ) (c : Dev nD)

/-- The arguments the kernel finds. -/
def kerArgs : Args where
  q i l := (m ((c.tc : Thread nD τ).loc main_arg0) : FVec Ideal S16384x256 .f32) (ix2 i l)
  k i l := (m ((c.tc : Thread nD τ).loc main_arg1) : FVec Ideal S16384x256 .f32) (ix2 i l)
  v i l := (m ((c.tc : Thread nD τ).loc main_arg2) : FVec Ideal S16384x512 .f32) (ix2 i l)
  la i l := (m ((c.tc : Thread nD τ).loc main_arg3) : FVec Ideal S16384x512 .f32) (ix2 i l)
  g i l := (m ((c.tc : Thread nD τ).loc main_arg4) : FVec Ideal S16384x512 .bf16) (ix2 i l)
  sf t y l := (m ((c.tc : Thread nD τ).loc main_arg5) : FVec Ideal S256x128x256 .f32) (ix3 t y l)
  sb t y l := (m ((c.tc : Thread nD τ).loc main_arg6) : FVec Ideal S256x128x256 .f32) (ix3 t y l)
  ds d y l := (m ((c.tc : Thread nD τ).loc main_arg7) : FVec Ideal S2x128x256 .f32) (ix3 d y l)

theorem points : cfg0.N = 16 := by decide
theorem point_lt (t : Fin cfg0.N) : t.val < 16 := t.isLt.trans_eq points

/-- Chunk `j` of the forward direction's block at point `t`, and of the other's. -/
def chunkF (t : Fin cfg0.N) {j : ℕ} (hj : j < 16) : Fin 256 := ⟨16 * (15 - t.val) + j, by omega⟩
def chunkB (t : Fin cfg0.N) {j : ℕ} (hj : j < 16) : Fin 256 := ⟨16 * t.val + j, by have := point_lt t; omega⟩

theorem embS_eq {j : ℕ} (hj : j < 16) (y : Fin 128) (l : Fin 256) :
    (rectS hj).emb (ix3 0 y l) = (ix3 ⟨j, hj⟩ y l : S16x128x256.Idx) := by
  refine Rect.emb_eq_of_coords _ _ _ fun ax => ?_
  match ax with
  | ⟨0, _⟩ => show j = j + 1 * 0; omega
  | ⟨1, _⟩ => show y.val = 0 + 1 * y.val; omega
  | ⟨2, _⟩ => show l.val = 0 + 1 * l.val; omega

theorem embD_eq {d : ℕ} (hd : d < 2) (y : Fin 128) (l : Fin 256) :
    (rectD hd).emb (ix3 0 y l) = (ix3 ⟨d, hd⟩ y l : S2x128x256.Idx) := by
  refine Rect.emb_eq_of_coords _ _ _ fun ax => ?_
  match ax with
  | ⟨0, _⟩ => show d = d + 1 * 0; omega
  | ⟨1, _⟩ => show y.val = 0 + 1 * y.val; omega
  | ⟨2, _⟩ => show l.val = 0 + 1 * l.val; omega

theorem atS_apply (x : Vec Ideal S16x128x256 .f32) {j : ℕ} (hj : j < 16) (y : Fin 128) (l : Fin 256) :
    atS x hj (ix2 y l) = x (ix3 ⟨j, hj⟩ y l) := by
  rw [← embS_eq hj y l]
  unfold atS
  pointwise

theorem atD_apply (x : Vec Ideal S2x128x256 .f32) {d : ℕ} (hd : d < 2) (y : Fin 128) (l : Fin 256) :
    atD x hd (ix2 y l) = x (ix3 ⟨d, hd⟩ y l) := by
  rw [← embD_eq hd y l]
  unfold atD
  pointwise

theorem idx0 : ∀ t : Fin cfg0.N, win0_0.index t = ![15 - t.val, 0] := by decide +kernel
theorem idx1 : ∀ t : Fin cfg0.N, win0_1.index t = ![15 - t.val, 0] := by decide +kernel
theorem idx2 : ∀ t : Fin cfg0.N, win0_2.index t = ![15 - t.val, 0] := by decide +kernel
theorem idx3 : ∀ t : Fin cfg0.N, win0_3.index t = ![15 - t.val, 0] := by decide +kernel
theorem idx4 : ∀ t : Fin cfg0.N, win0_4.index t = ![15 - t.val, 0] := by decide +kernel
theorem idx5 : ∀ t : Fin cfg0.N, win0_5.index t = ![15 - t.val, 0, 0] := by decide +kernel
theorem idx6 : ∀ t : Fin cfg0.N, win0_6.index t = ![t.val, 0] := by decide +kernel
theorem idx7 : ∀ t : Fin cfg0.N, win0_7.index t = ![t.val, 0] := by decide +kernel
theorem idx8 : ∀ t : Fin cfg0.N, win0_8.index t = ![t.val, 0] := by decide +kernel
theorem idx9 : ∀ t : Fin cfg0.N, win0_9.index t = ![t.val, 1] := by decide +kernel
theorem idx10 : ∀ t : Fin cfg0.N, win0_10.index t = ![t.val, 0] := by decide +kernel
theorem idx11 : ∀ t : Fin cfg0.N, win0_11.index t = ![t.val, 0, 0] := by decide +kernel
theorem idx12 : ∀ t : Fin cfg0.N, win0_12.index t = ![0, 0, 0] := by decide +kernel

theorem qF_at (t : Fin cfg0.N) {j : ℕ} (hj : j < 16) (r : Fin 64) (l : Fin 256) :
    atK (dirF (entry m) c t).q hj (ix2 r l) = (kerArgs m c).q (rowOf (chunkF t hj) r) l := by
  refine (congrArg (dirF (entry m) c t).q (embK_eq hj r l)).trans ?_
  show iblk (entry m) c 0 t (ix2 ⟨64 * j + r.val, by omega⟩ l) = _
  refine (?_ : _ = (m ((c.tc : Thread nD τ).loc main_arg0) : FVec Ideal S16384x256 .f32) (ix2 ⟨1024 * (15 - t.val) + (64 * j + r.val), by omega⟩ l)).trans ?_
  · blk_ext [iblk, entry, idx0 t]
  · exact congrArg (m _) (congrArg (fun a => ix2 a l) (Fin.ext (by rw [rowOf_val]; show 1024 * (15 - t.val) + (64 * j + r.val) = 64 * (16 * (15 - t.val) + j) + r.val; omega)))

theorem kF_at (t : Fin cfg0.N) {j : ℕ} (hj : j < 16) (r : Fin 64) (l : Fin 256) :
    atK (dirF (entry m) c t).k hj (ix2 r l) = (kerArgs m c).k (rowOf (chunkF t hj) r) l := by
  refine (congrArg (dirF (entry m) c t).k (embK_eq hj r l)).trans ?_
  show iblk (entry m) c 1 t (ix2 ⟨64 * j + r.val, by omega⟩ l) = _
  refine (?_ : _ = (m ((c.tc : Thread nD τ).loc main_arg1) : FVec Ideal S16384x256 .f32) (ix2 ⟨1024 * (15 - t.val) + (64 * j + r.val), by omega⟩ l)).trans ?_
  · blk_ext [iblk, entry, idx1 t]
  · exact congrArg (m _) (congrArg (fun a => ix2 a l) (Fin.ext (by rw [rowOf_val]; show 1024 * (15 - t.val) + (64 * j + r.val) = 64 * (16 * (15 - t.val) + j) + r.val; omega)))

theorem vF_at (t : Fin cfg0.N) {j : ℕ} (hj : j < 16) (r : Fin 64) (l : Fin 512) :
    atV (dirF (entry m) c t).v hj (ix2 r l) = (kerArgs m c).v (rowOf (chunkF t hj) r) l := by
  refine (congrArg (dirF (entry m) c t).v (embV_eq hj r l)).trans ?_
  show iblk (entry m) c 2 t (ix2 ⟨64 * j + r.val, by omega⟩ l) = _
  refine (?_ : _ = (m ((c.tc : Thread nD τ).loc main_arg2) : FVec Ideal S16384x512 .f32) (ix2 ⟨1024 * (15 - t.val) + (64 * j + r.val), by omega⟩ l)).trans ?_
  · blk_ext [iblk, entry, idx2 t]
  · exact congrArg (m _) (congrArg (fun a => ix2 a l) (Fin.ext (by rw [rowOf_val]; show 1024 * (15 - t.val) + (64 * j + r.val) = 64 * (16 * (15 - t.val) + j) + r.val; omega)))

theorem laF_at (t : Fin cfg0.N) {j : ℕ} (hj : j < 16) (r : Fin 64) (l : Fin 256) :
    atK (dirF (entry m) c t).la hj (ix2 r l) = (kerArgs m c).la (rowOf (chunkF t hj) r) (wide 0 l) := by
  refine (congrArg (dirF (entry m) c t).la (embK_eq hj r l)).trans ?_
  show iblk (entry m) c 3 t (ix2 ⟨64 * j + r.val, by omega⟩ l) = _
  refine (?_ : _ = (m ((c.tc : Thread nD τ).loc main_arg3) : FVec Ideal S16384x512 .f32) (ix2 ⟨1024 * (15 - t.val) + (64 * j + r.val), by omega⟩ ⟨l.val, by omega⟩)).trans ?_
  · blk_ext [iblk, entry, idx3 t]
  · exact congrArg (m _) (congrArg₂ ix2 (Fin.ext (by rw [rowOf_val]; show 1024 * (15 - t.val) + (64 * j + r.val) = 64 * (16 * (15 - t.val) + j) + r.val; omega)) (Fin.ext (by rw [wide_val]; show l.val = 256 * 0 + l.val; omega)))

theorem gF_at (t : Fin cfg0.N) {j : ℕ} (hj : j < 16) (r : Fin 64) (l : Fin 512) :
    atV (dirF (entry m) c t).g hj (ix2 r l) = (kerArgs m c).g (rowOf (chunkF t hj) r) l := by
  refine (congrArg (dirF (entry m) c t).g (embV_eq hj r l)).trans ?_
  show iblk (entry m) c 4 t (ix2 ⟨64 * j + r.val, by omega⟩ l) = _
  refine (?_ : _ = (m ((c.tc : Thread nD τ).loc main_arg4) : FVec Ideal S16384x512 .bf16) (ix2 ⟨1024 * (15 - t.val) + (64 * j + r.val), by omega⟩ l)).trans ?_
  · blk_ext [iblk, entry, idx4 t]
  · exact congrArg (m _) (congrArg (fun a => ix2 a l) (Fin.ext (by rw [rowOf_val]; show 1024 * (15 - t.val) + (64 * j + r.val) = 64 * (16 * (15 - t.val) + j) + r.val; omega)))

theorem sF_at (t : Fin cfg0.N) {j : ℕ} (hj : j < 16) (y : Fin 128) (l : Fin 256) :
    atS (dirF (entry m) c t).s hj (ix2 y l) = (kerArgs m c).sf (chunkF t hj) y l := by
  rw [atS_apply]
  show iblk (entry m) c 5 t (ix3 ⟨j, hj⟩ y l) = (m ((c.tc : Thread nD τ).loc main_arg5) : FVec Ideal S256x128x256 .f32) (ix3 (chunkF t hj) y l)
  unfold chunkF
  blk_ext [iblk, entry, idx5 t]

theorem qB_at (t : Fin cfg0.N) {j : ℕ} (hj : j < 16) (r : Fin 64) (l : Fin 256) :
    atK (dirB (entry m) c t).q hj (ix2 r l) = (kerArgs m c).q (rowOf (chunkB t hj) r) l := by
  refine (congrArg (dirB (entry m) c t).q (embK_eq hj r l)).trans ?_
  show iblk (entry m) c 6 t (ix2 ⟨64 * j + r.val, by omega⟩ l) = _
  refine (?_ : _ = (m ((c.tc : Thread nD τ).loc main_arg0) : FVec Ideal S16384x256 .f32) (ix2 ⟨1024 * t.val + (64 * j + r.val), by have := point_lt t; omega⟩ l)).trans ?_
  · blk_ext [iblk, entry, idx6 t]
  · exact congrArg (m _) (congrArg (fun a => ix2 a l) (Fin.ext (by rw [rowOf_val]; show 1024 * t.val + (64 * j + r.val) = 64 * (16 * t.val + j) + r.val; omega)))

theorem kB_at (t : Fin cfg0.N) {j : ℕ} (hj : j < 16) (r : Fin 64) (l : Fin 256) :
    atK (dirB (entry m) c t).k hj (ix2 r l) = (kerArgs m c).k (rowOf (chunkB t hj) r) l := by
  refine (congrArg (dirB (entry m) c t).k (embK_eq hj r l)).trans ?_
  show iblk (entry m) c 7 t (ix2 ⟨64 * j + r.val, by omega⟩ l) = _
  refine (?_ : _ = (m ((c.tc : Thread nD τ).loc main_arg1) : FVec Ideal S16384x256 .f32) (ix2 ⟨1024 * t.val + (64 * j + r.val), by have := point_lt t; omega⟩ l)).trans ?_
  · blk_ext [iblk, entry, idx7 t]
  · exact congrArg (m _) (congrArg (fun a => ix2 a l) (Fin.ext (by rw [rowOf_val]; show 1024 * t.val + (64 * j + r.val) = 64 * (16 * t.val + j) + r.val; omega)))

theorem vB_at (t : Fin cfg0.N) {j : ℕ} (hj : j < 16) (r : Fin 64) (l : Fin 512) :
    atV (dirB (entry m) c t).v hj (ix2 r l) = (kerArgs m c).v (rowOf (chunkB t hj) r) l := by
  refine (congrArg (dirB (entry m) c t).v (embV_eq hj r l)).trans ?_
  show iblk (entry m) c 8 t (ix2 ⟨64 * j + r.val, by omega⟩ l) = _
  refine (?_ : _ = (m ((c.tc : Thread nD τ).loc main_arg2) : FVec Ideal S16384x512 .f32) (ix2 ⟨1024 * t.val + (64 * j + r.val), by have := point_lt t; omega⟩ l)).trans ?_
  · blk_ext [iblk, entry, idx8 t]
  · exact congrArg (m _) (congrArg (fun a => ix2 a l) (Fin.ext (by rw [rowOf_val]; show 1024 * t.val + (64 * j + r.val) = 64 * (16 * t.val + j) + r.val; omega)))

theorem laB_at (t : Fin cfg0.N) {j : ℕ} (hj : j < 16) (r : Fin 64) (l : Fin 256) :
    atK (dirB (entry m) c t).la hj (ix2 r l) = (kerArgs m c).la (rowOf (chunkB t hj) r) (wide 1 l) := by
  refine (congrArg (dirB (entry m) c t).la (embK_eq hj r l)).trans ?_
  show iblk (entry m) c 9 t (ix2 ⟨64 * j + r.val, by omega⟩ l) = _
  refine (?_ : _ = (m ((c.tc : Thread nD τ).loc main_arg3) : FVec Ideal S16384x512 .f32) (ix2 ⟨1024 * t.val + (64 * j + r.val), by have := point_lt t; omega⟩ ⟨256 + l.val, by omega⟩)).trans ?_
  · blk_ext [iblk, entry, idx9 t]
  · exact congrArg (m _) (congrArg₂ ix2 (Fin.ext (by rw [rowOf_val]; show 1024 * t.val + (64 * j + r.val) = 64 * (16 * t.val + j) + r.val; omega)) (Fin.ext (by rw [wide_val]; rfl)))

theorem gB_at (t : Fin cfg0.N) {j : ℕ} (hj : j < 16) (r : Fin 64) (l : Fin 512) :
    atV (dirB (entry m) c t).g hj (ix2 r l) = (kerArgs m c).g (rowOf (chunkB t hj) r) l := by
  refine (congrArg (dirB (entry m) c t).g (embV_eq hj r l)).trans ?_
  show iblk (entry m) c 10 t (ix2 ⟨64 * j + r.val, by omega⟩ l) = _
  refine (?_ : _ = (m ((c.tc : Thread nD τ).loc main_arg4) : FVec Ideal S16384x512 .bf16) (ix2 ⟨1024 * t.val + (64 * j + r.val), by have := point_lt t; omega⟩ l)).trans ?_
  · blk_ext [iblk, entry, idx10 t]
  · exact congrArg (m _) (congrArg (fun a => ix2 a l) (Fin.ext (by rw [rowOf_val]; show 1024 * t.val + (64 * j + r.val) = 64 * (16 * t.val + j) + r.val; omega)))

theorem sB_at (t : Fin cfg0.N) {j : ℕ} (hj : j < 16) (y : Fin 128) (l : Fin 256) :
    atS (dirB (entry m) c t).s hj (ix2 y l) = (kerArgs m c).sb (chunkB t hj) y l := by
  rw [atS_apply]
  show iblk (entry m) c 11 t (ix3 ⟨j, hj⟩ y l) = (m ((c.tc : Thread nD τ).loc main_arg6) : FVec Ideal S256x128x256 .f32) (ix3 (chunkB t hj) y l)
  unfold chunkB
  blk_ext [iblk, entry, idx11 t]

theorem ds_at {d : ℕ} (hd : d < 2) (y : Fin 128) (l : Fin 256) :
    atD (dsAt (entry m) c 0 (Nat.zero_le _)) hd (ix2 y l) = (kerArgs m c).ds ⟨d, hd⟩ y l := by
  rw [atD_apply]
  show iblk (entry m) c 12 t0_0 (ix3 ⟨d, hd⟩ y l) = (m ((c.tc : Thread nD τ).loc main_arg7) : FVec Ideal S2x128x256 .f32) (ix3 ⟨d, hd⟩ y l)
  blk_ext [iblk, entry, idx12 t0_0]

/-- One head's part of a chunk's inputs, of the arguments. -/
theorem cut_F (t : Fin cfg0.N) {j : ℕ} (hj : j < 16) (p : Fin 4) :
    cut (atK (dirF (entry m) c t).q hj) (atK (dirF (entry m) c t).k hj) (atK (dirF (entry m) c t).la hj) (atV (dirF (entry m) c t).v hj)
      (atV (dirF (entry m) c t).g hj) (atS (dirF (entry m) c t).s hj) p = (kerArgs m c).headF (chunkF t hj) p :=
  (Head.mk.injEq _ _ _ _ _ _ _ _ _ _ _ _).mpr ⟨funext fun r => funext fun x => qF_at m c t hj r (ln p x),
    funext fun r => funext fun x => kF_at m c t hj r (ln p x), funext fun r => funext fun x => laF_at m c t hj r (ln p x),
    funext fun r => funext fun y => vF_at m c t hj r (vl p y), funext fun r => funext fun y => gF_at m c t hj r (vl p y),
    funext fun x => funext fun y => sF_at m c t hj y (ln p x)⟩

theorem cut_B (t : Fin cfg0.N) {j : ℕ} (hj : j < 16) (p : Fin 4) :
    cut (atK (dirB (entry m) c t).q hj) (atK (dirB (entry m) c t).k hj) (atK (dirB (entry m) c t).la hj) (atV (dirB (entry m) c t).v hj)
      (atV (dirB (entry m) c t).g hj) (atS (dirB (entry m) c t).s hj) p = (kerArgs m c).headB (chunkB t hj) p :=
  (Head.mk.injEq _ _ _ _ _ _ _ _ _ _ _ _).mpr ⟨funext fun r => funext fun x => qB_at m c t hj r (ln p x),
    funext fun r => funext fun x => kB_at m c t hj r (ln p x), funext fun r => funext fun x => laB_at m c t hj r (ln p x),
    funext fun r => funext fun y => vB_at m c t hj r (vl p y), funext fun r => funext fun y => gB_at m c t hj r (vl p y),
    funext fun x => funext fun y => sB_at m c t hj y (ln p x)⟩

end Cert.Gla

end
-- ==== Proof.KerCarry.lean ====
/- The cotangents of the states the kernel carries, and its chunks' results, of the arguments. -/
module

public import proofs.«01_k».proof.Proof.KerArgs

@[expose] public section

set_option maxRecDepth 16384

noncomputable section

namespace Cert.Gla

open Idealize.ShloMosaic Idealize.ShloMosaic.TcCoe Idealize.SL Idealize.SL.Sem
open Args (backAt foreAt)
open Cert.KernelIdeal Cert.KernelIdeal.Gen Cert.KernelIdeal.Facts₀ Cert.KernelIdeal.Facts

/-- Arguments that are real numbers throughout. -/
structure Args.Fine (A : Args) : Prop where
  q : ∀ i l, IsReal (A.q i l)
  k : ∀ i l, IsReal (A.k i l)
  v : ∀ i l, IsReal (A.v i l)
  la : ∀ i l, IsReal (A.la i l)
  g : ∀ i l, IsReal (A.g i l)
  sf : ∀ t y l, IsReal (A.sf t y l)
  sb : ∀ t y l, IsReal (A.sb t y l)
  ds : ∀ d y l, IsReal (A.ds d y l)

namespace Args
variable {A : Args} (hA : A.Fine)
include hA

theorem headF_fine (t : Fin 256) (p : Fin 4) : (A.headF t p).Fine :=
  ⟨fun _ _ => hA.q _ _, fun _ _ => hA.k _ _, fun _ _ => hA.la _ _, fun _ _ => hA.v _ _, fun _ _ => hA.g _ _, fun _ _ => hA.sf _ _ _⟩
theorem headB_fine (t : Fin 256) (p : Fin 4) : (A.headB t p).Fine :=
  ⟨fun _ _ => hA.q _ _, fun _ _ => hA.k _ _, fun _ _ => hA.la _ _, fun _ _ => hA.v _ _, fun _ _ => hA.g _ _, fun _ _ => hA.sb _ _ _⟩

theorem dsF_real (p : Fin 4) : ∀ (n : ℕ) (x : Fin 64) (y : Fin 128), IsReal (A.dsF p n x y)
  | 0, _, _ => hA.ds _ _ _
  | n + 1, x, y => Head.dsn_real Lo (headF_fine hA _ p) (dsF_real p n) x y
theorem dsB_real (p : Fin 4) : ∀ (n : ℕ) (x : Fin 64) (y : Fin 128), IsReal (A.dsB p n x y)
  | 0, _, _ => hA.ds _ _ _
  | n + 1, x, y => Head.dsn_real Up (headB_fine hA _ p) (dsB_real p n) x y
end Args

variable (m : (ℓ : Loc nD τ sig) → Buf (Elt Ideal) ℓ) (c : Dev nD) (hA : (kerArgs m c).Fine)

theorem chunkF_back (t : Fin cfg0.N) (n : ℕ) (h : n < 16) : chunkF t (fwd_lt n) = backAt (16 * t.val + n) :=
  Fin.ext (by have := point_lt t; show 16 * (15 - t.val) + (15 - n) = 255 - (16 * t.val + n); omega)
theorem chunkB_fore (t : Fin cfg0.N) (n : ℕ) (h : n < 16) : chunkB t h = foreAt (16 * t.val + n) :=
  Fin.ext (by have := point_lt t; show 16 * t.val + n = (16 * t.val + n) % 256; omega)

include hA

theorem cutF_fine (t : Fin cfg0.N) {j : ℕ} (hj : j < 16) (p : Fin 4) :
    (cut (atK (dirF (entry m) c t).q hj) (atK (dirF (entry m) c t).k hj) (atK (dirF (entry m) c t).la hj) (atV (dirF (entry m) c t).v hj)
      (atV (dirF (entry m) c t).g hj) (atS (dirF (entry m) c t).s hj) p).Fine := by
  rw [cut_F]; exact Args.headF_fine hA _ _
theorem cutB_fine (t : Fin cfg0.N) {j : ℕ} (hj : j < 16) (p : Fin 4) :
    (cut (atK (dirB (entry m) c t).q hj) (atK (dirB (entry m) c t).k hj) (atK (dirB (entry m) c t).la hj) (atV (dirB (entry m) c t).v hj)
      (atV (dirB (entry m) c t).g hj) (atS (dirB (entry m) c t).s hj) p).Fine := by
  rw [cut_B]; exact Args.headB_fine hA _ _

/-- A chunk's step of the carried cotangents. -/
theorem stateF (t : Fin cfg0.N) {j : ℕ} (hj : j < 16) (D : FVec Ideal S128x256 .f32) (p : Fin 4) :
    cutD (chunkS lowerTri (dirF (entry m) c t) hj D) p = ((kerArgs m c).headF (chunkF t hj) p).dsn Lo (cutD D p) := by
  funext x y
  rw [← cut_F m c t hj p]
  exact dState_cut Lo lowerTri _ _ _ _ _ _ D p lowerTri_apply (cutF_fine m c hA t hj p) x y
theorem stateB (t : Fin cfg0.N) {j : ℕ} (hj : j < 16) (D : FVec Ideal S128x256 .f32) (p : Fin 4) :
    cutD (chunkS upperTri (dirB (entry m) c t) hj D) p = ((kerArgs m c).headB (chunkB t hj) p).dsn Up (cutD D p) := by
  funext x y
  rw [← cut_B m c t hj p]
  exact dState_cut Up upperTri _ _ _ _ _ _ D p upperTri_apply (cutB_fine m c hA t hj p) x y

theorem carryF_at (t : Fin cfg0.N) (D : Vec Ideal S2x128x256 .f32) (p : Fin 4)
    (h0 : cutD (atD D (d := 0) (by decide)) p = (kerArgs m c).dsF p (16 * t.val)) :
    ∀ (n : ℕ) (h : n ≤ 16), cutD (carryF (dirF (entry m) c t) (dirB (entry m) c t) D n h) p = (kerArgs m c).dsF p (16 * t.val + n)
  | 0, _ => h0
  | n + 1, h => by
    rw [carryF_succ, stateF m c hA, carryF_at t D p h0 n (Nat.le_of_succ_le h), chunkF_back t n h]
    rfl
theorem carryB_at (t : Fin cfg0.N) (D : Vec Ideal S2x128x256 .f32) (p : Fin 4)
    (h0 : cutD (atD D (d := 1) (by decide)) p = (kerArgs m c).dsB p (16 * t.val)) :
    ∀ (n : ℕ) (h : n ≤ 16), cutD (carryB (dirF (entry m) c t) (dirB (entry m) c t) D n h) p = (kerArgs m c).dsB p (16 * t.val + n)
  | 0, _ => h0
  | n + 1, h => by
    rw [carryB_succ, stateB m c hA, carryB_at t D p h0 n (Nat.le_of_succ_le h), chunkB_fore t n h]
    rfl

/-- What the kernel carries into each point. -/
theorem dsAt_F (p : Fin 4) : ∀ (i : ℕ) (h : i ≤ cfg0.N), cutD (atD (dsAt (entry m) c i h) (d := 0) (by decide)) p = (kerArgs m c).dsF p (16 * i)
  | 0, _ => funext fun x => funext fun y => ds_at m c (d := 0) (by decide) y (ln p x)
  | i + 1, h => carryF_at m c hA ⟨i, h⟩ _ p (dsAt_F p i (Nat.le_of_succ_le h)) 16 le_rfl
theorem dsAt_B (p : Fin 4) : ∀ (i : ℕ) (h : i ≤ cfg0.N), cutD (atD (dsAt (entry m) c i h) (d := 1) (by decide)) p = (kerArgs m c).dsB p (16 * i)
  | 0, _ => funext fun x => funext fun y => ds_at m c (d := 1) (by decide) y (ln p x)
  | i + 1, h => carryB_at m c hA ⟨i, h⟩ _ p (dsAt_B p i (Nat.le_of_succ_le h)) 16 le_rfl

/-- What the forward direction carries into the step that takes chunk `j`. -/
theorem inF (t : Fin cfg0.N) (j : ℕ) (hj : j < 16) (p : Fin 4) :
    cutD (carryF (dirF (entry m) c t) (dirB (entry m) c t) (dsIn (entry m) c t) (15 - j) (Nat.le_of_lt (fwd_lt j))) p
      = (kerArgs m c).dsF p (255 - (chunkF t hj).val) := by
  rw [carryF_at m c hA t _ p (dsAt_F m c hA p t.val (Nat.le_of_lt t.isLt))]
  have := point_lt t
  exact congrArg _ (show 16 * t.val + (15 - j) = 255 - (16 * (15 - t.val) + j) by omega)
theorem inB (t : Fin cfg0.N) (j : ℕ) (hj : j < 16) (p : Fin 4) :
    cutD (carryB (dirF (entry m) c t) (dirB (entry m) c t) (dsIn (entry m) c t) j (Nat.le_of_lt hj)) p
      = (kerArgs m c).dsB p (chunkB t hj).val :=
  carryB_at m c hA t _ p (dsAt_B m c hA p t.val (Nat.le_of_lt t.isLt)) j _

section Chunks
variable (t : Fin cfg0.N) {j : ℕ} (hj : j < 16) (p : Fin 4) (D : FVec Ideal S128x256 .f32)

theorem chunkFQ (r x : Fin 64) : chunkQ lowerTri (dirF (entry m) c t) hj (ix2 r (ln p x)) = ((kerArgs m c).headF (chunkF t hj) p).dq Lo r x := by
  rw [← cut_F m c t hj p]
  exact dQ_cut Lo lowerTri _ _ _ _ _ _ p lowerTri_apply (cutF_fine m c hA t hj p) r x
theorem chunkBQ (r x : Fin 64) : chunkQ upperTri (dirB (entry m) c t) hj (ix2 r (ln p x)) = ((kerArgs m c).headB (chunkB t hj) p).dq Up r x := by
  rw [← cut_B m c t hj p]
  exact dQ_cut Up upperTri _ _ _ _ _ _ p upperTri_apply (cutB_fine m c hA t hj p) r x
theorem chunkFK (r x : Fin 64) : chunkK lowerTri (dirF (entry m) c t) hj D (ix2 r (ln p x)) = ((kerArgs m c).headF (chunkF t hj) p).dk Lo (cutD D p) r x := by
  rw [← cut_F m c t hj p]
  exact dK_cut Lo lowerTri _ _ _ _ _ _ D p lowerTri_apply (cutF_fine m c hA t hj p) r x
theorem chunkBK (r x : Fin 64) : chunkK upperTri (dirB (entry m) c t) hj D (ix2 r (ln p x)) = ((kerArgs m c).headB (chunkB t hj) p).dk Up (cutD D p) r x := by
  rw [← cut_B m c t hj p]
  exact dK_cut Up upperTri _ _ _ _ _ _ D p upperTri_apply (cutB_fine m c hA t hj p) r x
theorem chunkFV (r : Fin 64) (y : Fin 128) : chunkV lowerTri (dirF (entry m) c t) hj D (ix2 r (vl p y)) = ((kerArgs m c).headF (chunkF t hj) p).dv Lo (cutD D p) r y := by
  rw [← cut_F m c t hj p]
  exact dV_cut Lo lowerTri _ _ _ _ _ _ D p lowerTri_apply (cutF_fine m c hA t hj p) r y
theorem chunkBV (r : Fin 64) (y : Fin 128) : chunkV upperTri (dirB (entry m) c t) hj D (ix2 r (vl p y)) = ((kerArgs m c).headB (chunkB t hj) p).dv Up (cutD D p) r y := by
  rw [← cut_B m c t hj p]
  exact dV_cut Up upperTri _ _ _ _ _ _ D p upperTri_apply (cutB_fine m c hA t hj p) r y
theorem chunkFL (hD : ∀ x y, IsReal (cutD D p x y)) (r x : Fin 64) :
    chunkL lowerTri upperTri (dirF (entry m) c t) hj D (ix2 r (ln p x)) = ((kerArgs m c).headF (chunkF t hj) p).dla Lo (cutD D p) r x := by
  rw [← cut_F m c t hj p]
  exact dLog_cut Lo lowerTri upperTri _ _ _ _ _ _ D p lowerTri_apply (fun r c => upperTri_apply r c) (cutF_fine m c hA t hj p) hD r x
theorem chunkBL (hD : ∀ x y, IsReal (cutD D p x y)) (r x : Fin 64) :
    chunkL upperTri lowerTri (dirB (entry m) c t) hj D (ix2 r (ln p x)) = ((kerArgs m c).headB (chunkB t hj) p).dla Up (cutD D p) r x := by
  rw [← cut_B m c t hj p]
  exact dLog_cut Up upperTri lowerTri _ _ _ _ _ _ D p upperTri_apply (fun r c => lowerTri_apply r c) (cutB_fine m c hA t hj p) hD r x
end Chunks

end Cert.Gla

end
-- ==== Proof.KerOut.lean ====
/- The kernel's nine results, of the arguments. -/
module

public import proofs.«01_k».proof.Proof.KerCarry

@[expose] public section

set_option maxRecDepth 16384

noncomputable section

namespace Cert.Gla

open Idealize.ShloMosaic Idealize.ShloMosaic.TcCoe Idealize.SL Idealize.SL.Sem
open Cert.KernelIdeal Cert.KernelIdeal.Gen Cert.KernelIdeal.Facts₀ Cert.KernelIdeal.Facts

variable (m : (ℓ : Loc nD τ sig) → Buf (Elt Ideal) ℓ) (c : Dev nD) (hA : (kerArgs m c).Fine)

theorem idx13 : ∀ t : Fin cfg0.N, win0_13.index t = ![15 - t.val, 0] := by decide +kernel
theorem idx14 : ∀ t : Fin cfg0.N, win0_14.index t = ![15 - t.val, 0] := by decide +kernel
theorem idx15 : ∀ t : Fin cfg0.N, win0_15.index t = ![15 - t.val, 0] := by decide +kernel
theorem idx16 : ∀ t : Fin cfg0.N, win0_16.index t = ![15 - t.val, 0] := by decide +kernel
theorem idx17 : ∀ t : Fin cfg0.N, win0_17.index t = ![t.val, 0] := by decide +kernel
theorem idx18 : ∀ t : Fin cfg0.N, win0_18.index t = ![t.val, 0] := by decide +kernel
theorem idx19 : ∀ t : Fin cfg0.N, win0_19.index t = ![t.val, 0] := by decide +kernel
theorem idx20 : ∀ t : Fin cfg0.N, win0_20.index t = ![t.val, 0] := by decide +kernel
theorem idx21 : ∀ t : Fin cfg0.N, win0_21.index t = ![0, 0, 0] := by decide +kernel

/-- Every place in a block lies in a chunk, at a row of it and a lane of a head. -/
theorem splitK (y : S1024x256.Idx) : ∃ (j : ℕ) (hj : j < 16) (r : Fin 64) (p : Fin 4) (x : Fin 64), y = (rectK hj).emb (ix2 r (ln p x)) := by
  obtain ⟨j, hj, q, rfl⟩ := coverK y
  obtain ⟨p, x, h⟩ := ln_surj (q 1)
  exact ⟨j, hj, q 0, p, x, congrArg _ ((eq_ix2 q).trans (congrArg (ix2 (q 0)) h))⟩
theorem splitV (y : S1024x512.Idx) : ∃ (j : ℕ) (hj : j < 16) (r : Fin 64) (p : Fin 4) (x : Fin 128), y = (rectV hj).emb (ix2 r (vl p x)) := by
  obtain ⟨j, hj, q, rfl⟩ := coverV y
  obtain ⟨p, x, h⟩ := vl_surj (q 1)
  exact ⟨j, hj, q 0, p, x, congrArg _ ((eq_ix2 q).trans (congrArg (ix2 (q 0)) h))⟩

theorem chunkF_again (t : Fin cfg0.N) {j : ℕ} (hj : j < 16) : chunkF t (fwd_lt (15 - j)) = chunkF t hj :=
  Fin.ext (show 16 * (15 - t.val) + (15 - (15 - j)) = 16 * (15 - t.val) + j by omega)

include hA

theorem out13 (G : FVec Ideal S16384x256 .bf16)
    (hG : ∀ t r p x, G (ix2 (rowOf t r) (ln p x)) = ((kerArgs m c).headF t p).dq Lo r x) :
    (dats (entry m) 0 c).arrAt 13 cfg0.N = G := by
  refine (dats (entry m) 0 c).arrAt_eq_of_covers 13 _ (by decide +kernel) fun t hf y => ?_
  blk_simp
  rw [after_13]
  obtain ⟨j, hj, r, p, x, rfl⟩ := splitK y
  have e : ((cfg0.win 13).blk t).view.emb ((rectK hj).emb (ix2 r (ln p x))) = ix2 (rowOf (chunkF t hj) r) (ln p x) := by
    refine (congrArg _ (embK_eq hj r (ln p x))).trans ?_
    blk_ext [idx13 t, rowOf_val, chunkF]
  refine .trans ?_ (congrArg G e).symm
  rw [hG]
  refine (blockK_emb _ hj (ix2 r (ln p x))).trans ?_
  refine (chunkFQ m c hA t (fwd_lt (15 - j)) p r x).trans ?_
  rw [chunkF_again]

theorem out14 (G : FVec Ideal S16384x256 .bf16)
    (hG : ∀ t r p x, G (ix2 (rowOf t r) (ln p x)) = ((kerArgs m c).headF t p).dk Lo ((kerArgs m c).dsF p (255 - t.val)) r x) :
    (dats (entry m) 0 c).arrAt 14 cfg0.N = G := by
  refine (dats (entry m) 0 c).arrAt_eq_of_covers 14 _ (by decide +kernel) fun t hf y => ?_
  blk_simp
  rw [after_14]
  obtain ⟨j, hj, r, p, x, rfl⟩ := splitK y
  have e : ((cfg0.win 14).blk t).view.emb ((rectK hj).emb (ix2 r (ln p x))) = ix2 (rowOf (chunkF t hj) r) (ln p x) := by
    refine (congrArg _ (embK_eq hj r (ln p x))).trans ?_
    blk_ext [idx14 t, rowOf_val, chunkF]
  refine .trans ?_ (congrArg G e).symm
  rw [hG]
  refine (blockK_emb _ hj (ix2 r (ln p x))).trans ?_
  refine (chunkFK m c hA t (fwd_lt (15 - j)) p (carryF (dirF (entry m) c t) (dirB (entry m) c t) (dsIn (entry m) c t) (15 - j) (Nat.le_of_lt (fwd_lt j))) r x).trans ?_
  rw [inF m c hA t j hj p, chunkF_again t hj]

theorem out15 (G : FVec Ideal S16384x512 .bf16)
    (hG : ∀ t r p x, G (ix2 (rowOf t r) (vl p x)) = ((kerArgs m c).headF t p).dv Lo ((kerArgs m c).dsF p (255 - t.val)) r x) :
    (dats (entry m) 0 c).arrAt 15 cfg0.N = G := by
  refine (dats (entry m) 0 c).arrAt_eq_of_covers 15 _ (by decide +kernel) fun t hf y => ?_
  blk_simp
  rw [after_15]
  obtain ⟨j, hj, r, p, x, rfl⟩ := splitV y
  have e : ((cfg0.win 15).blk t).view.emb ((rectV hj).emb (ix2 r (vl p x))) = ix2 (rowOf (chunkF t hj) r) (vl p x) := by
    refine (congrArg _ (embV_eq hj r (vl p x))).trans ?_
    blk_ext [idx15 t, rowOf_val, chunkF]
  refine .trans ?_ (congrArg G e).symm
  rw [hG]
  refine (blockV_emb _ hj (ix2 r (vl p x))).trans ?_
  refine (chunkFV m c hA t (fwd_lt (15 - j)) p (carryF (dirF (entry m) c t) (dirB (entry m) c t) (dsIn (entry m) c t) (15 - j) (Nat.le_of_lt (fwd_lt j))) r x).trans ?_
  rw [inF m c hA t j hj p, chunkF_again t hj]

theorem out16 (G : FVec Ideal S16384x256 .f32)
    (hG : ∀ t r p x, G (ix2 (rowOf t r) (ln p x)) = ((kerArgs m c).headF t p).dla Lo ((kerArgs m c).dsF p (255 - t.val)) r x) :
    (dats (entry m) 0 c).arrAt 16 cfg0.N = G := by
  refine (dats (entry m) 0 c).arrAt_eq_of_covers 16 _ (by decide +kernel) fun t hf y => ?_
  blk_simp
  rw [after_16]
  obtain ⟨j, hj, r, p, x, rfl⟩ := splitK y
  have e : ((cfg0.win 16).blk t).view.emb ((rectK hj).emb (ix2 r (ln p x))) = ix2 (rowOf (chunkF t hj) r) (ln p x) := by
    refine (congrArg _ (embK_eq hj r (ln p x))).trans ?_
    blk_ext [idx16 t, rowOf_val, chunkF]
  refine .trans ?_ (congrArg G e).symm
  rw [hG]
  refine (blockK_emb _ hj (ix2 r (ln p x))).trans ?_
  refine (chunkFL m c hA t (fwd_lt (15 - j)) p (carryF (dirF (entry m) c t) (dirB (entry m) c t) (dsIn (entry m) c t) (15 - j) (Nat.le_of_lt (fwd_lt j))) (fun x y => by rw [inF m c hA t j hj p]; exact Args.dsF_real hA p _ x y) r x).trans ?_
  rw [inF m c hA t j hj p, chunkF_again t hj]

theorem out17 (G : FVec Ideal S16384x256 .bf16)
    (hG : ∀ t r p x, G (ix2 (rowOf t r) (ln p x)) = ((kerArgs m c).headB t p).dq Up r x) :
    (dats (entry m) 0 c).arrAt 17 cfg0.N = G := by
  refine (dats (entry m) 0 c).arrAt_eq_of_covers 17 _ (by decide +kernel) fun t hf y => ?_
  blk_simp
  rw [after_17]
  obtain ⟨j, hj, r, p, x, rfl⟩ := splitK y
  have e : ((cfg0.win 17).blk t).view.emb ((rectK hj).emb (ix2 r (ln p x))) = ix2 (rowOf (chunkB t hj) r) (ln p x) := by
    refine (congrArg _ (embK_eq hj r (ln p x))).trans ?_
    blk_ext [idx17 t, rowOf_val, chunkB]
  refine .trans ?_ (congrArg G e).symm
  rw [hG]
  refine (blockK_emb _ hj (ix2 r (ln p x))).trans ?_
  exact chunkBQ m c hA t hj p r x

theorem out18 (G : FVec Ideal S16384x256 .bf16)
    (hG : ∀ t r p x, G (ix2 (rowOf t r) (ln p x)) = ((kerArgs m c).headB t p).dk Up ((kerArgs m c).dsB p t.val) r x) :
    (dats (entry m) 0 c).arrAt 18 cfg0.N = G := by
  refine (dats (entry m) 0 c).arrAt_eq_of_covers 18 _ (by decide +kernel) fun t hf y => ?_
  blk_simp
  rw [after_18]
  obtain ⟨j, hj, r, p, x, rfl⟩ := splitK y
  have e : ((cfg0.win 18).blk t).view.emb ((rectK hj).emb (ix2 r (ln p x))) = ix2 (rowOf (chunkB t hj) r) (ln p x) := by
    refine (congrArg _ (embK_eq hj r (ln p x))).trans ?_
    blk_ext [idx18 t, rowOf_val, chunkB]
  refine .trans ?_ (congrArg G e).symm
  rw [hG]
  refine (blockK_emb _ hj (ix2 r (ln p x))).trans ?_
  refine (chunkBK m c hA t hj p (carryB (dirF (entry m) c t) (dirB (entry m) c t) (dsIn (entry m) c t) j (Nat.le_of_lt hj)) r x).trans ?_
  rw [inB m c hA t j hj p]

theorem out19 (G : FVec Ideal S16384x512 .bf16)
    (hG : ∀ t r p x, G (ix2 (rowOf t r) (vl p x)) = ((kerArgs m c).headB t p).dv Up ((kerArgs m c).dsB p t.val) r x) :
    (dats (entry m) 0 c).arrAt 19 cfg0.N = G := by
  refine (dats (entry m) 0 c).arrAt_eq_of_covers 19 _ (by decide +kernel) fun t hf y => ?_
  blk_simp
  rw [after_19]
  obtain ⟨j, hj, r, p, x, rfl⟩ := splitV y
  have e : ((cfg0.win 19).blk t).view.emb ((rectV hj).emb (ix2 r (vl p x))) = ix2 (rowOf (chunkB t hj) r) (vl p x) := by
    refine (congrArg _ (embV_eq hj r (vl p x))).trans ?_
    blk_ext [idx19 t, rowOf_val, chunkB]
  refine .trans ?_ (congrArg G e).symm
  rw [hG]
  refine (blockV_emb _ hj (ix2 r (vl p x))).trans ?_
  refine (chunkBV m c hA t hj p (carryB (dirF (entry m) c t) (dirB (entry m) c t) (dsIn (entry m) c t) j (Nat.le_of_lt hj)) r x).trans ?_
  rw [inB m c hA t j hj p]

theorem out20 (G : FVec Ideal S16384x256 .f32)
    (hG : ∀ t r p x, G (ix2 (rowOf t r) (ln p x)) = ((kerArgs m c).headB t p).dla Up ((kerArgs m c).dsB p t.val) r x) :
    (dats (entry m) 0 c).arrAt 20 cfg0.N = G := by
  refine (dats (entry m) 0 c).arrAt_eq_of_covers 20 _ (by decide +kernel) fun t hf y => ?_
  blk_simp
  rw [after_20]
  obtain ⟨j, hj, r, p, x, rfl⟩ := splitK y
  have e : ((cfg0.win 20).blk t).view.emb ((rectK hj).emb (ix2 r (ln p x))) = ix2 (rowOf (chunkB t hj) r) (ln p x) := by
    refine (congrArg _ (embK_eq hj r (ln p x))).trans ?_
    blk_ext [idx20 t, rowOf_val, chunkB]
  refine .trans ?_ (congrArg G e).symm
  rw [hG]
  refine (blockK_emb _ hj (ix2 r (ln p x))).trans ?_
  refine (chunkBL m c hA t hj p (carryB (dirF (entry m) c t) (dirB (entry m) c t) (dsIn (entry m) c t) j (Nat.le_of_lt hj)) (fun x y => by rw [inB m c hA t j hj p]; exact Args.dsB_real hA p _ x y) r x).trans ?_
  rw [inB m c hA t j hj p]

/-- What the last point leaves of the carried cotangents. -/
theorem out21 (G : FVec Ideal S2x128x256 .f32)
    (h0 : ∀ p x y, G (ix3 0 y (ln p x)) = (kerArgs m c).dsF p 256 x y) (h1 : ∀ p x y, G (ix3 1 y (ln p x)) = (kerArgs m c).dsB p 256 x y) :
    (dats (entry m) 0 c).arrAt 21 cfg0.N = G := by
  refine (dats (entry m) 0 c).arrAt_eq_of_after_last 21 t0_15 (by decide +kernel) _ fun y => ?_
  blk_simp
  rw [after_21]
  obtain ⟨d, a, l, rfl⟩ : ∃ d a l, y = (ix3 d a l : S2x128x256.Idx) := ⟨y 0, y 1, y 2, eq_ix3 y⟩
  obtain ⟨p, x, rfl⟩ := ln_surj l
  match d with
  | ⟨0, _⟩ =>
    refine .trans ?_ (h0 p x a).symm
    rw [← dsAt_F m c hA p 16 (le_of_eq points.symm)]
    exact (atD_apply _ (by decide) a (ln p x)).symm
  | ⟨1, _⟩ =>
    refine .trans ?_ (h1 p x a).symm
    rw [← dsAt_B m c hA p 16 (le_of_eq points.symm)]
    exact (atD_apply _ (by decide) a (ln p x)).symm

end Cert.Gla

end
-- ==== Proof.Window.lean ====
/- Running sums of the reference, read at an entry. -/
module

public import proofs.«01_k».proof.Proof.Gen.ReferenceIdeal
public import Idealize.ShloMosaic.Lib.Pointwise

@[expose] public section

noncomputable section

namespace Cert.Gla

open Idealize.ShloMosaic

/-- The window of 64 rows. -/
abbrev Win : Shape := ⟨4, ![1, 1, 64, 1]⟩

theorem win_numel : Win.numel = 64 := by decide

theorem win_symm (n : Fin Win.numel) : (Win.rowMajor.symm n 0).val = 0 ∧ (Win.rowMajor.symm n 1).val = 0
    ∧ (Win.rowMajor.symm n 2).val = n.val ∧ (Win.rowMajor.symm n 3).val = 0 := by
  have h0 : (Win.rowMajor.symm n 0).val < 1 := (Win.rowMajor.symm n 0).isLt
  have h1 : (Win.rowMajor.symm n 1).val < 1 := (Win.rowMajor.symm n 1).isLt
  have h3 : (Win.rowMajor.symm n 3).val < 1 := (Win.rowMajor.symm n 3).isLt
  have e : (Win.rowMajor (Win.rowMajor.symm n) : Nat) = n.val := by rw [Equiv.apply_symm_apply]
  rw [rowMajor_val4 _ 64 64 1 rfl rfl rfl] at e
  omega

/-- A left fold of additions from zero is the sum. -/
theorem foldl_win (f : Fin Win.numel → EReal) (g : Fin 64 → EReal) (h : ∀ n, f n = g (n.cast win_numel)) :
    (List.finRange Win.numel).foldl (fun r n => r + f n) 0 = ∑ w, g w := by
  have : (List.finRange Win.numel).foldl (fun r n => r + f n) 0 = ∑ n, f n := by
    rw [Fin.sum_univ_def, List.sum_eq_foldl, List.foldl_map]
  rw [this]
  exact Fintype.sum_equiv (finCongr win_numel) _ _ h

theorem sum_upto (f : Fin 64 → EReal) (r : Fin 64) :
    (∑ w : Fin 64, if h : 63 ≤ r.val + w.val then f ⟨r.val + w.val - 63, by omega⟩ else 0) = ∑ c, if c ≤ r then f c else 0 := by
  refine Fintype.sum_equiv (Equiv.addRight (r + 1)) _ _ fun w => ?_
  have e : ((Equiv.addRight (r + 1)) w).val = if 63 ≤ r.val + w.val then r.val + w.val - 63 else r.val + w.val + 1 := by
    show (w + (r + 1)).val = _
    simp only [Fin.val_add]
    have : (1 : Fin 64).val = 1 := rfl
    rw [this]
    split <;> omega
  by_cases h : 63 ≤ r.val + w.val
  · rw [if_pos h] at e
    rw [dif_pos h, if_pos (by show ((Equiv.addRight (r + 1)) w).val ≤ r.val; omega)]
    exact congrArg f (Fin.ext e.symm)
  · rw [if_neg h] at e
    rw [dif_neg h, if_neg (by show ¬ ((Equiv.addRight (r + 1)) w).val ≤ r.val; omega)]

theorem sum_from (f : Fin 64 → EReal) (r : Fin 64) :
    (∑ w : Fin 64, if h : r.val + w.val < 64 then f ⟨r.val + w.val, h⟩ else 0) = ∑ c, if r ≤ c then f c else 0 := by
  refine Fintype.sum_equiv (Equiv.addRight r) _ _ fun w => ?_
  have e : ((Equiv.addRight r) w).val = if r.val + w.val < 64 then r.val + w.val else r.val + w.val - 64 := by
    show (w + r).val = _
    simp only [Fin.val_add]
    split <;> omega
  by_cases h : r.val + w.val < 64
  · rw [if_pos h] at e
    rw [dif_pos h, if_pos (by show r.val ≤ ((Equiv.addRight r) w).val; omega)]
    exact congrArg f (Fin.ext e.symm)
  · rw [if_neg h] at e
    rw [dif_neg h, if_neg (by show ¬ r.val ≤ ((Equiv.addRight r) w).val; omega)]

open Cert.ReferenceIdeal

theorem sum_back (x : FVec Ideal S2x4x64x64 .f32) {u : Shape} (init : u.Idx → Ideal .f32) (hu : 0 < u.numel) (hi : init (Shape.Idx.first hu) = (0 : EReal))
    (h : S2x4x64x64.ReduceWindows ![1, 1, 64, 1] ![1, 1, 1, 1] ![0, 0, 63, 0] ![0, 0, 0, 0] S2x4x64x64) (d : Fin 2) (p : Fin 4) (r i : Fin 64) :
    Host.reduceWindowAdd ![1, 1, 64, 1] ![1, 1, 1, 1] ![0, 0, 63, 0] ![0, 0, 0, 0] x init h hu (ix4 d p r i)
      = ∑ c : Fin 64, if c ≤ r then (x (ix4 d p c i) : EReal) else 0 := by
  rw [← sum_upto (fun c => x (ix4 d p c i)) r]
  show Ideal.hostReduceWindowAdd _ _ _ _ h x (init (Shape.Idx.first hu)) (ix4 d p r i) = _
  rw [hi]
  unfold Ideal.hostReduceWindowAdd Host.reduceWindow
  refine foldl_win _ _ fun n => ?_
  obtain ⟨e0, e1, e2, e3⟩ := win_symm n
  have hd := d.isLt
  have hp := p.isLt
  have hr := r.isLt
  have hii := i.isLt
  have hn : n.val < 64 := (n.cast win_numel).isLt
  by_cases hc : 63 ≤ r.val + n.val
  · rw [dif_pos (show 63 ≤ r.val + (n.cast win_numel).val from hc), dif_pos]
    · refine congrArg x (funext fun a => Fin.ext ?_)
      match a with
      | ⟨0, _⟩ => show d.val * 1 + (Win.rowMajor.symm n 0).val - 0 = d.val; omega
      | ⟨1, _⟩ => show p.val * 1 + (Win.rowMajor.symm n 1).val - 0 = p.val; omega
      | ⟨2, _⟩ => show r.val * 1 + (Win.rowMajor.symm n 2).val - 63 = r.val + n.val - 63; omega
      | ⟨3, _⟩ => show i.val * 1 + (Win.rowMajor.symm n 3).val - 0 = i.val; omega
    · intro a
      match a with
      | ⟨0, _⟩ => show 0 ≤ d.val * 1 + (Win.rowMajor.symm n 0).val ∧ d.val * 1 + (Win.rowMajor.symm n 0).val - 0 < 2; omega
      | ⟨1, _⟩ => show 0 ≤ p.val * 1 + (Win.rowMajor.symm n 1).val ∧ p.val * 1 + (Win.rowMajor.symm n 1).val - 0 < 4; omega
      | ⟨2, _⟩ => show 63 ≤ r.val * 1 + (Win.rowMajor.symm n 2).val ∧ r.val * 1 + (Win.rowMajor.symm n 2).val - 63 < 64; omega
      | ⟨3, _⟩ => show 0 ≤ i.val * 1 + (Win.rowMajor.symm n 3).val ∧ i.val * 1 + (Win.rowMajor.symm n 3).val - 0 < 64; omega
  · rw [dif_neg (show ¬ 63 ≤ r.val + (n.cast win_numel).val from hc), dif_neg]
    intro hin
    have h2 : 63 ≤ r.val * 1 + (Win.rowMajor.symm n 2).val := (hin 2).1
    omega

theorem sum_ahead (x : FVec Ideal S2x4x64x64 .f32) {u : Shape} (init : u.Idx → Ideal .f32) (hu : 0 < u.numel) (hi : init (Shape.Idx.first hu) = (0 : EReal))
    (h : S2x4x64x64.ReduceWindows ![1, 1, 64, 1] ![1, 1, 1, 1] ![0, 0, 0, 0] ![0, 0, 63, 0] S2x4x64x64) (d : Fin 2) (p : Fin 4) (r i : Fin 64) :
    Host.reduceWindowAdd ![1, 1, 64, 1] ![1, 1, 1, 1] ![0, 0, 0, 0] ![0, 0, 63, 0] x init h hu (ix4 d p r i)
      = ∑ c : Fin 64, if r ≤ c then (x (ix4 d p c i) : EReal) else 0 := by
  rw [← sum_from (fun c => x (ix4 d p c i)) r]
  show Ideal.hostReduceWindowAdd _ _ _ _ h x (init (Shape.Idx.first hu)) (ix4 d p r i) = _
  rw [hi]
  unfold Ideal.hostReduceWindowAdd Host.reduceWindow
  refine foldl_win _ _ fun n => ?_
  obtain ⟨e0, e1, e2, e3⟩ := win_symm n
  have hd := d.isLt
  have hp := p.isLt
  have hr := r.isLt
  have hii := i.isLt
  have hn : n.val < 64 := (n.cast win_numel).isLt
  by_cases hc : r.val + n.val < 64
  · rw [dif_pos (show r.val + (n.cast win_numel).val < 64 from hc), dif_pos]
    · refine congrArg x (funext fun a => Fin.ext ?_)
      match a with
      | ⟨0, _⟩ => show d.val * 1 + (Win.rowMajor.symm n 0).val - 0 = d.val; omega
      | ⟨1, _⟩ => show p.val * 1 + (Win.rowMajor.symm n 1).val - 0 = p.val; omega
      | ⟨2, _⟩ => show r.val * 1 + (Win.rowMajor.symm n 2).val - 0 = r.val + n.val; omega
      | ⟨3, _⟩ => show i.val * 1 + (Win.rowMajor.symm n 3).val - 0 = i.val; omega
    · intro a
      match a with
      | ⟨0, _⟩ => show 0 ≤ d.val * 1 + (Win.rowMajor.symm n 0).val ∧ d.val * 1 + (Win.rowMajor.symm n 0).val - 0 < 2; omega
      | ⟨1, _⟩ => show 0 ≤ p.val * 1 + (Win.rowMajor.symm n 1).val ∧ p.val * 1 + (Win.rowMajor.symm n 1).val - 0 < 4; omega
      | ⟨2, _⟩ => show 0 ≤ r.val * 1 + (Win.rowMajor.symm n 2).val ∧ r.val * 1 + (Win.rowMajor.symm n 2).val - 0 < 64; omega
      | ⟨3, _⟩ => show 0 ≤ i.val * 1 + (Win.rowMajor.symm n 3).val ∧ i.val * 1 + (Win.rowMajor.symm n 3).val - 0 < 64; omega
  · rw [dif_neg (show ¬ r.val + (n.cast win_numel).val < 64 from hc), dif_neg]
    intro hin
    have h2 : r.val * 1 + (Win.rowMajor.symm n 2).val - 0 < 64 := (hin 2).2
    omega

end Cert.Gla
-- ==== Proof.Trip.lean ====
/- One trip of the reference's loop, read at an entry. -/
module

public import proofs.«01_k».proof.Proof.Gen.ReferenceIdeal.Run
public import proofs.«01_k».proof.Proof.Window
public import proofs.«01_k».proof.Proof.Args
public import Idealize.ShloMosaic.Lib.WordCmp

@[expose] public section

set_option maxRecDepth 16384

noncomputable section

namespace Cert.Gla

open Idealize.ShloMosaic
open Cert.ReferenceIdeal Cert.ReferenceIdeal.Facts₀ Cert.ReferenceIdeal.Facts Cert.ReferenceIdeal.Value

/-- The contents of the reference's loop buffers. -/
abbrev RVal := Valuation τ sig (Elt Ideal)

/-- Buffer contents read as tensors. -/
abbrev inQ (V : RVal) : FVec Ideal S256x2x4x64x64 .f32 := V (Proc.devRef .tc main_v45_0)
abbrev inK (V : RVal) : FVec Ideal S256x2x4x64x64 .f32 := V (Proc.devRef .tc main_v45_1)
abbrev inV (V : RVal) : FVec Ideal S256x2x4x64x128 .f32 := V (Proc.devRef .tc main_v45_2)
abbrev inL (V : RVal) : FVec Ideal S256x2x4x64x64 .f32 := V (Proc.devRef .tc main_v45_3)
abbrev inS (V : RVal) : FVec Ideal S256x2x4x64x128 .f32 := V (Proc.devRef .tc main_v45_4)
abbrev inG (V : RVal) : FVec Ideal S256x2x4x64x128 .f32 := V (Proc.devRef .tc main_v45_5)
abbrev carryD (V : RVal) : FVec Ideal S2x4x64x128 .f32 := V (Proc.devRef .tc main_v45_7)

/-- The chunk `t` of direction `d` and head `p`. -/
def part (V : RVal) (t : Fin 256) (d : Fin 2) (p : Fin 4) : Head :=
  ⟨fun r x => inQ V (ix5 t d p r x), fun r x => inK V (ix5 t d p r x), fun r x => inL V (ix5 t d p r x), fun r y => inV V (ix5 t d p r y),
    fun r y => inG V (ix5 t d p r y), fun x y => inS V (ix5 t d p x y)⟩

/-- The carried cotangent of direction `d` and head `p`. -/
def partD (V : RVal) (d : Fin 2) (p : Fin 4) : Fin 64 → Fin 128 → EReal := fun x y => carryD V (ix4 d p x y)

variable (V : RVal) (t : Fin 256) (d : Fin 2) (p : Fin 4)
/-- The counter says that the chunk is `t`. -/
def AtChunk : Prop := V (Proc.devRef .tc main_v45_6) = fun _ => BitVec.ofNat 32 (255 - t.val)
variable (ht : AtChunk V t)
include ht

theorem start_eq (a : Fin 5) :
    (fun k => (((![res_main_while0b_v91 V, constantI S_ 32 0#32, constantI S_ 32 0#32, constantI S_ 32 0#32, constantI S_ 32 0#32] : Fin 5 → (⟨S_, .i32⟩ : BufTy).Contents (Elt Ideal))) k (Shape.Idx.first h_S_)).toInt) a
      = (((![t.val, 0, 0, 0, 0] : Fin 5 → ℕ) a : ℕ) : ℤ) := by
  have e : res_main_while0b_v91 V (Shape.Idx.first h_S_) = BitVec.ofNat 32 t.val := by
    unfold res_main_while0b_v91
    rw [ht]
    show (256#32 - BitVec.ofNat 32 (255 - t.val)) - 1#32 = BitVec.ofNat 32 t.val
    clear ht; revert t; decide +kernel
  match a with
  | ⟨0, _⟩ =>
    show (res_main_while0b_v91 V (Shape.Idx.first h_S_)).toInt = (t.val : ℤ)
    rw [e]; clear ht e; revert t; decide +kernel
  | ⟨1, _⟩ => rfl
  | ⟨2, _⟩ => rfl
  | ⟨3, _⟩ => rfl
  | ⟨4, _⟩ => rfl

omit ht in
theorem fits64 (t : Fin 256) : (S256x2x4x64x64 : Shape).Slices ![t.val, 0, 0, 0, 0] S1x2x4x64x64 :=
  ⟨rfl, fun a => by
    have := t.isLt
    match a with
    | ⟨0, _⟩ => show t.val + 1 ≤ 256; omega
    | ⟨1, _⟩ => exact le_refl 2
    | ⟨2, _⟩ => exact le_refl 4
    | ⟨3, _⟩ => exact le_refl 64
    | ⟨4, _⟩ => exact le_refl 64⟩

omit ht in
theorem fits128 (t : Fin 256) : (S256x2x4x64x128 : Shape).Slices ![t.val, 0, 0, 0, 0] S1x2x4x64x128 :=
  ⟨rfl, fun a => by
    have := t.isLt
    match a with
    | ⟨0, _⟩ => show t.val + 1 ≤ 256; omega
    | ⟨1, _⟩ => exact le_refl 2
    | ⟨2, _⟩ => exact le_refl 4
    | ⟨3, _⟩ => exact le_refl 64
    | ⟨4, _⟩ => exact le_refl 128⟩

theorem slice64 (x : FVec Ideal S256x2x4x64x64 .f32) (r i : Fin 64) :
    shapeCast S2x4x64x64 (Host.dynamicSlice S1x2x4x64x64 x (fun k => (((![res_main_while0b_v91 V, constantI S_ 32 0#32, constantI S_ 32 0#32, constantI S_ 32 0#32, constantI S_ 32 0#32] : Fin 5 → (⟨S_, .i32⟩ : BufTy).Contents (Elt Ideal))) k (Shape.Idx.first h_S_)).toInt) sliceFits_S256x2x4x64x64_S1x2x4x64x64) shapeCasts_S1x2x4x64x64_S2x4x64x64 (ix4 d p r i)
      = x (ix5 t d p r i) := by
  rw [WordCmp.dynamicSlice_eq_extract _ _ _ _ ![t.val, 0, 0, 0, 0] (fits64 t) (start_eq V t ht)]
  pointwise

theorem slice128 (x : FVec Ideal S256x2x4x64x128 .f32) (r : Fin 64) (i : Fin 128) :
    shapeCast S2x4x64x128 (Host.dynamicSlice S1x2x4x64x128 x (fun k => (((![res_main_while0b_v91 V, constantI S_ 32 0#32, constantI S_ 32 0#32, constantI S_ 32 0#32, constantI S_ 32 0#32] : Fin 5 → (⟨S_, .i32⟩ : BufTy).Contents (Elt Ideal))) k (Shape.Idx.first h_S_)).toInt) sliceFits_S256x2x4x64x128_S1x2x4x64x128) shapeCasts_S1x2x4x64x128_S2x4x64x128 (ix4 d p r i)
      = x (ix5 t d p r i) := by
  rw [WordCmp.dynamicSlice_eq_extract _ _ _ _ ![t.val, 0, 0, 0, 0] (fits128 t) (start_eq V t ht)]
  pointwise

theorem v93_at (r x : Fin 64) : res_main_while0b_v93 V (ix4 d p r x) = (part V t d p).k r x := by
  exact slice64 V t d p ht _ r x
attribute [local irreducible] res_main_while0b_v93

theorem v94_at (r : Fin 64) (y : Fin 128) : res_main_while0b_v94 V (ix4 d p r y) = (part V t d p).v r y := by
  exact slice128 V t d p ht _ r y
attribute [local irreducible] res_main_while0b_v94

theorem v96_at (x : Fin 64) (y : Fin 128) : res_main_while0b_v96 V (ix4 d p x y) = (part V t d p).s x y := by
  exact slice128 V t d p ht _ x y
attribute [local irreducible] res_main_while0b_v96

theorem v97_at (r : Fin 64) (y : Fin 128) : res_main_while0b_v97 V (ix4 d p r y) = (part V t d p).g r y := by
  exact slice128 V t d p ht _ r y
attribute [local irreducible] res_main_while0b_v97

theorem v98_at (r x : Fin 64) : res_main_while0b_v98 V (ix4 d p r x) = (part V t d p).b Lo r x := by
  unfold res_main_while0b_v98
  rw [sum_back _ _ _ (by pointwise)]
  exact Finset.sum_congr (M := EReal) rfl fun c _ => if_congr Iff.rfl (slice64 V t d p ht _ c x) rfl
attribute [local irreducible] res_main_while0b_v98

omit ht in
theorem b_last (x : Fin 64) : (part V t d p).b Lo 63 x = (part V t d p).bl x := by
  unfold Head.b Head.bl
  exact Finset.sum_congr rfl fun c _ => if_pos (by show c.val ≤ 63; omega)

theorem v99_at (x : Fin 64) : res_main_while0b_v99 V (ix4 d p 0 x) = (part V t d p).bl x := by
  pointwise [res_main_while0b_v99]
  rw [← b_last]
  exact v98_at V t d p ht 63 x
attribute [local irreducible] res_main_while0b_v99

theorem v102_at (r x : Fin 64) : res_main_while0b_v102 V (ix4 d p r x) = (part V t d p).ee Lo r x := by
  pointwise [res_main_while0b_v102]
  rw [v99_at V t d p ht, v98_at V t d p ht]; rfl
attribute [local irreducible] res_main_while0b_v102

theorem v103_at (r x : Fin 64) : res_main_while0b_v103 V (ix4 d p r x) = (part V t d p).kd Lo r x := by
  pointwise [res_main_while0b_v103]
  rw [v93_at V t d p ht, v102_at V t d p ht]; rfl
attribute [local irreducible] res_main_while0b_v103

theorem v106_at (x : Fin 64) : res_main_while0b_v106 V (ix3 d p x) = (part V t d p).dec x := by
  pointwise [res_main_while0b_v106]
  rw [v99_at V t d p ht]; rfl
attribute [local irreducible] res_main_while0b_v106

theorem v107_at (x : Fin 64) : res_main_while0b_v107 V (ix4 d p x 0) = (part V t d p).dec x := by
  pointwise [res_main_while0b_v107]
  rw [v106_at V t d p ht]
attribute [local irreducible] res_main_while0b_v107

theorem v112_at (r x : Fin 64) : res_main_while0b_v112 V (ix4 d p r x) = (part V t d p).q r x * scale := by
  unfold res_main_while0b_v112
  exact congrArg₂ (fun a b : EReal => a * b) (slice64 V t d p ht _ r x) (by pointwise; rfl)
attribute [local irreducible] res_main_while0b_v112

theorem v113_at (r x : Fin 64) : res_main_while0b_v113 V (ix4 d p r x) = (part V t d p).eb Lo r x := by
  pointwise [res_main_while0b_v113]
  rw [v98_at V t d p ht]; rfl
attribute [local irreducible] res_main_while0b_v113

theorem v114_at (r x : Fin 64) : res_main_while0b_v114 V (ix4 d p r x) = (part V t d p).qt Lo r x := by
  pointwise [res_main_while0b_v114]
  rw [v112_at V t d p ht, v113_at V t d p ht]; rfl
attribute [local irreducible] res_main_while0b_v114

theorem v116_at (r x : Fin 64) : res_main_while0b_v116 V (ix4 d p r x) = (part V t d p).en Lo r x := by
  pointwise [res_main_while0b_v116]
  rw [v98_at V t d p ht]; rfl
attribute [local irreducible] res_main_while0b_v116

theorem v117_at (r x : Fin 64) : res_main_while0b_v117 V (ix4 d p r x) = (part V t d p).kt Lo r x := by
  pointwise [res_main_while0b_v117]
  rw [v93_at V t d p ht, v116_at V t d p ht]; rfl
attribute [local irreducible] res_main_while0b_v117

omit ht in
theorem v121_1_at (r c : Fin 64) : res_main_while0b_v121_1 V (ix4 d p r c) = if c ≤ r then 1#1 else 0#1 := by
  pointwise [res_main_while0b_v121_1]
  revert r c; decide +kernel
attribute [local irreducible] res_main_while0b_v121_1

theorem v121_0_at (r c : Fin 64) : res_main_while0b_v121_0 V (ix4 d p r c) = (part V t d p).a Lo r c := by
  pointwise [res_main_while0b_v121_0]
  rw [v121_1_at]
  simp only [v114_at V t d p ht, v117_at V t d p ht]
  unfold Head.a
  by_cases h : c ≤ r
  · rw [if_pos h, if_pos (show Lo r c from h)]; rfl
  · rw [if_neg h, if_neg (show ¬ Lo r c from h)]
    show (constant S_ FTy.f32 0#32 : FVec Ideal S_ .f32) ix0 = (0 : EReal)
    pointwise
attribute [local irreducible] res_main_while0b_v121_0

theorem v131_at (r c : Fin 64) : res_main_while0b_v131 V (ix4 d p r c) = (part V t d p).da Lo r c := by
  pointwise [res_main_while0b_v131]
  rw [v121_1_at]
  simp only [v94_at V t d p ht, v97_at V t d p ht]
  unfold Head.da
  by_cases h : c ≤ r
  · rw [if_pos h, if_pos (show Lo r c from h)]; rfl
  · rw [if_neg h, if_neg (show ¬ Lo r c from h)]; rfl
attribute [local irreducible] res_main_while0b_v131

theorem v132_at (r x : Fin 64) : res_main_while0b_v132 V (ix4 d p r x) = (part V t d p).dkt Lo r x := by
  pointwise [res_main_while0b_v132]
  simp only [v131_at V t d p ht, v114_at V t d p ht]; rfl
attribute [local irreducible] res_main_while0b_v132

theorem v134_at (r x : Fin 64) : res_main_while0b_v134 V (ix4 d p r x) = (part V t d p).dqt Lo r x := by
  pointwise [res_main_while0b_v134]
  simp only [v131_at V t d p ht, v117_at V t d p ht, v97_at V t d p ht, v96_at V t d p ht]
  exact add_comm (G := EReal) _ _
attribute [local irreducible] res_main_while0b_v134

theorem v158_at (r x : Fin 64) : res_main_while0b_v158 V (ix4 d p r x) = (part V t d p).dkd (partD V d p) r x := by
  pointwise [res_main_while0b_v158]
  simp only [v94_at V t d p ht]
  exact Finset.sum_congr (M := EReal) rfl fun y _ => mul_comm (G := EReal) _ _
attribute [local irreducible] res_main_while0b_v158

theorem v162_at (r x : Fin 64) : res_main_while0b_v162 V (ix4 d p r x) = (part V t d p).tkd Lo (partD V d p) r x := by
  pointwise [res_main_while0b_v162]
  rw [v93_at V t d p ht, v158_at V t d p ht, v102_at V t d p ht]
  show _ = (part V t d p).dkd (partD V d p) r x * ((part V t d p).k r x * (part V t d p).ee Lo r x)
  rw [mul_comm ((part V t d p).k r x), mul_assoc]
attribute [local irreducible] res_main_while0b_v162

omit ht in
theorem put64 (x : FVec Ideal S256x2x4x64x64 .f32) (u : FVec Ideal S1x2x4x64x64 .f32) (t' : Fin 256) (r : Fin 64) (i : Fin 64) :
    updateSlice x u ![t.val, 0, 0, 0, 0] (fits64 t) (ix5 t' d p r i) = if t' = t then u (ix5 0 d p r i) else x (ix5 t' d p r i) := by
  rw [updateSlice_apply]
  by_cases h : t' = t
  · subst h
    rw [if_pos rfl, dif_pos (fun a => by
      match a with
      | ⟨0, _⟩ => exact ⟨le_refl _, Nat.lt_succ_self _⟩
      | ⟨1, _⟩ => exact ⟨Nat.zero_le _, by show d.val < 0 + 2; omega⟩
      | ⟨2, _⟩ => exact ⟨Nat.zero_le _, by show p.val < 0 + 4; omega⟩
      | ⟨3, _⟩ => exact ⟨Nat.zero_le _, by show r.val < 0 + 64; omega⟩
      | ⟨4, _⟩ => exact ⟨Nat.zero_le _, by show i.val < 0 + 64; omega⟩)]
    refine congrArg u (funext fun a => Fin.ext ?_)
    match a with
    | ⟨0, _⟩ => exact Nat.sub_self _
    | ⟨1, _⟩ => rfl
    | ⟨2, _⟩ => rfl
    | ⟨3, _⟩ => rfl
    | ⟨4, _⟩ => rfl
  · rw [if_neg h, dif_neg]
    intro hin
    have := hin ⟨0, by decide⟩
    have h1 : t.val ≤ t'.val := this.1
    have h2 : t'.val < t.val + 1 := this.2
    exact h (Fin.ext (by omega))

theorem written64 (x : FVec Ideal S256x2x4x64x64 .f32) (u : FVec Ideal S2x4x64x64 .f32) (t' : Fin 256) (r : Fin 64) (i : Fin 64) :
    Host.dynamicUpdateSlice x (broadcastInDim S1x2x4x64x64 ![1, 2, 3, 4] bcast_S2x4x64x64_S1x2x4x64x64_1_2_3_4 u) (fun k => (((![res_main_while0b_v91 V, constantI S_ 32 0#32, constantI S_ 32 0#32, constantI S_ 32 0#32, constantI S_ 32 0#32] : Fin 5 → (⟨S_, .i32⟩ : BufTy).Contents (Elt Ideal))) k (Shape.Idx.first h_S_)).toInt) updateFits_S256x2x4x64x64_S1x2x4x64x64 (ix5 t' d p r i)
      = if t' = t then u (ix4 d p r i) else x (ix5 t' d p r i) := by
  rw [WordCmp.dynamicUpdateSlice_eq_update _ _ _ _ ![t.val, 0, 0, 0, 0] (fits64 t) (start_eq V t ht), put64]
  refine if_congr Iff.rfl ?_ rfl
  pointwise

omit ht in
theorem put128 (x : FVec Ideal S256x2x4x64x128 .f32) (u : FVec Ideal S1x2x4x64x128 .f32) (t' : Fin 256) (r : Fin 64) (i : Fin 128) :
    updateSlice x u ![t.val, 0, 0, 0, 0] (fits128 t) (ix5 t' d p r i) = if t' = t then u (ix5 0 d p r i) else x (ix5 t' d p r i) := by
  rw [updateSlice_apply]
  by_cases h : t' = t
  · subst h
    rw [if_pos rfl, dif_pos (fun a => by
      match a with
      | ⟨0, _⟩ => exact ⟨le_refl _, Nat.lt_succ_self _⟩
      | ⟨1, _⟩ => exact ⟨Nat.zero_le _, by show d.val < 0 + 2; omega⟩
      | ⟨2, _⟩ => exact ⟨Nat.zero_le _, by show p.val < 0 + 4; omega⟩
      | ⟨3, _⟩ => exact ⟨Nat.zero_le _, by show r.val < 0 + 64; omega⟩
      | ⟨4, _⟩ => exact ⟨Nat.zero_le _, by show i.val < 0 + 128; omega⟩)]
    refine congrArg u (funext fun a => Fin.ext ?_)
    match a with
    | ⟨0, _⟩ => exact Nat.sub_self _
    | ⟨1, _⟩ => rfl
    | ⟨2, _⟩ => rfl
    | ⟨3, _⟩ => rfl
    | ⟨4, _⟩ => rfl
  · rw [if_neg h, dif_neg]
    intro hin
    have := hin ⟨0, by decide⟩
    have h1 : t.val ≤ t'.val := this.1
    have h2 : t'.val < t.val + 1 := this.2
    exact h (Fin.ext (by omega))

theorem written128 (x : FVec Ideal S256x2x4x64x128 .f32) (u : FVec Ideal S2x4x64x128 .f32) (t' : Fin 256) (r : Fin 64) (i : Fin 128) :
    Host.dynamicUpdateSlice x (broadcastInDim S1x2x4x64x128 ![1, 2, 3, 4] bcast_S2x4x64x128_S1x2x4x64x128_1_2_3_4 u) (fun k => (((![res_main_while0b_v91 V, constantI S_ 32 0#32, constantI S_ 32 0#32, constantI S_ 32 0#32, constantI S_ 32 0#32] : Fin 5 → (⟨S_, .i32⟩ : BufTy).Contents (Elt Ideal))) k (Shape.Idx.first h_S_)).toInt) updateFits_S256x2x4x64x128_S1x2x4x64x128 (ix5 t' d p r i)
      = if t' = t then u (ix4 d p r i) else x (ix5 t' d p r i) := by
  rw [WordCmp.dynamicUpdateSlice_eq_update _ _ _ _ ![t.val, 0, 0, 0, 0] (fits128 t) (start_eq V t ht), put128]
  refine if_congr Iff.rfl ?_ rfl
  pointwise

theorem step7_at (x : Fin 64) (y : Fin 128) : step_main_v45_7 V (ix4 d p x y) = (part V t d p).dsn Lo (partD V d p) x y := by
  unfold step_main_v45_7
  rw [id_eq]
  pointwise
  simp only [v97_at V t d p ht, v114_at V t d p ht]
  rw [v107_at V t d p ht]
  exact add_comm (G := EReal) _ _

theorem step8_at (t' : Fin 256) (r x : Fin 64) :
    step_main_v45_8 V (ix5 t' d p r x)
      = if t' = t then (part V t d p).dq Lo r x else (V (Proc.devRef .tc main_v45_8) : FVec Ideal S256x2x4x64x64 .f32) (ix5 t' d p r x) := by
  refine (written64 V t d p ht _ _ t' r x).trans (if_congr Iff.rfl ?_ rfl)
  pointwise
  rw [v134_at V t d p ht, v113_at V t d p ht]
  rfl

theorem step9_at (t' : Fin 256) (r x : Fin 64) :
    step_main_v45_9 V (ix5 t' d p r x)
      = if t' = t then (part V t d p).dk Lo (partD V d p) r x else (V (Proc.devRef .tc main_v45_9) : FVec Ideal S256x2x4x64x64 .f32) (ix5 t' d p r x) := by
  refine (written64 V t d p ht _ _ t' r x).trans (if_congr Iff.rfl ?_ rfl)
  pointwise
  rw [v132_at V t d p ht, v116_at V t d p ht, v158_at V t d p ht, v102_at V t d p ht]
  rfl

theorem step10_at (t' : Fin 256) (r : Fin 64) (y : Fin 128) :
    step_main_v45_10 V (ix5 t' d p r y)
      = if t' = t then (part V t d p).dv Lo (partD V d p) r y else (V (Proc.devRef .tc main_v45_10) : FVec Ideal S256x2x4x64x128 .f32) (ix5 t' d p r y) := by
  refine (written128 V t d p ht _ _ t' r y).trans (if_congr Iff.rfl ?_ rfl)
  pointwise
  simp only [v97_at V t d p ht, v121_0_at V t d p ht, v103_at V t d p ht]
  exact congrArg₂ (fun a b : EReal => a + b) (Finset.sum_congr (M := EReal) rfl fun c _ => mul_comm (G := EReal) _ _)
    (Finset.sum_congr (M := EReal) rfl fun x _ => mul_comm (G := EReal) _ _)

theorem padded (z : FVec Ideal S2x4x1x64 .f32) (r x : Fin 64) :
    (pad S2x4x64x64 ![0, 0, 63, 0] ![0, 0, 0, 0] ![0, 0, 0, 0] z (constant S_ .f32 0x00000000#32) pads_S2x4x1x64_S2x4x64x64_000_000_6300_000 h_S_ : FVec Ideal S2x4x64x64 .f32) (ix4 d p r x)
      = if r = 63 then z (ix4 d p 0 x) else (0 : EReal) := by
  pointwise
  by_cases h : r = 63
  · subst h
    rw [if_pos rfl, dif_pos ⟨le_refl _, by decide⟩]
    rfl
  · rw [if_neg h, dif_neg]
    intro hh
    exact h (Fin.ext (by have := hh.1; have := r.isLt; show r.val = 63; omega))

/-- The last row's share of the running sum's cotangent, the other rows empty. -/
def lastRow : FVec Ideal S2x4x64x64 .f32 :=
  pad S2x4x64x64 ![0, 0, 63, 0] ![0, 0, 0, 0] ![0, 0, 0, 0] (addf (broadcastInDim S2x4x1x64 ![0, 1, 3] bcast_S2x4x64_S2x4x1x64_0_1_3 (mulf (Host.reduceAdd (shapeCast S2x4x64x1 (Host.reduceAdd (mulf (V (Proc.devRef .tc main_v45_7)) (res_main_while0b_v96 V)) (constant S_ .f32 0x00000000#32) reducesTo_S2x4x64x128_S2x4x64_d3 h_S_) shapeCasts_S2x4x64_S2x4x64x1) (constant S_ .f32 0x00000000#32) reducesTo_S2x4x64x1_S2x4x64_d3 h_S_) (res_main_while0b_v106 V))) (shapeCast S2x4x1x64 (Host.reduceAdd (res_main_while0b_v162 V) (constant S_ .f32 0x00000000#32) reducesTo_S2x4x64x64_S2x4x64_d2 h_S_) shapeCasts_S2x4x64_S2x4x1x64)) (constant S_ .f32 0x00000000#32) pads_S2x4x1x64_S2x4x64x64_000_000_6300_000 h_S_

theorem lastRow_at (r x : Fin 64) : lastRow V (ix4 d p r x) = if r = 63 then (part V t d p).dbl Lo (partD V d p) x else 0 := by
  unfold lastRow
  rw [padded V t d p ht]
  refine if_congr Iff.rfl ?_ rfl
  pointwise
  simp only [v96_at V t d p ht, v162_at V t d p ht, v106_at V t d p ht]
  rw [Fin.sum_univ_one]
  rfl

omit ht in
/-- A term of the last row reaches every row through the sum over the rows from one's own on. -/
theorem split_last (f : Fin 64 → EReal) (z : EReal) (r : Fin 64) :
    (∑ c, if Lo c r then f c else 0) + z = ∑ c, if r ≤ c then f c + (if c = 63 then z else 0) else 0 := by
  have e : ∀ c : Fin 64, (if r ≤ c then f c + (if c = 63 then z else 0) else 0) = (if Lo c r then f c else 0) + if c = 63 then z else 0 := by
    intro c
    by_cases h : r ≤ c
    · rw [if_pos h, if_pos (show Lo c r from h)]
    · rw [if_neg h, if_neg (show ¬ Lo c r from h), if_neg (fun h' => h (by subst h'; show r.val ≤ 63; omega)), add_zero]
  rw [Finset.sum_congr rfl fun c _ => e c, Finset.sum_add_distrib]
  exact congrArg (fun a : EReal => (∑ c, if Lo c r then f c else 0) + a) (by simp)

theorem step11_at (t' : Fin 256) (r x : Fin 64) :
    step_main_v45_11 V (ix5 t' d p r x)
      = if t' = t then (part V t d p).dla Lo (partD V d p) r x else (V (Proc.devRef .tc main_v45_11) : FVec Ideal S256x2x4x64x64 .f32) (ix5 t' d p r x) := by
  refine (written64 V t d p ht _ _ t' r x).trans (if_congr Iff.rfl ?_ rfl)
  rw [sum_ahead _ _ _ (by pointwise)]
  have e : ∀ c : Fin 64, (addf (addf (addf (Host.negf (mulf (mulf (res_main_while0b_v93 V) (res_main_while0b_v132 V)) (res_main_while0b_v116 V)))
      (mulf (mulf (res_main_while0b_v112 V) (res_main_while0b_v134 V)) (res_main_while0b_v113 V))) (Host.negf (res_main_while0b_v162 V))) (lastRow V) : FVec Ideal S2x4x64x64 .f32) (ix4 d p c x)
      = (part V t d p).db Lo (partD V d p) c x + if c = 63 then (part V t d p).dbl Lo (partD V d p) x else 0 := fun c => by
    show (_ : EReal) + _ = _
    refine congrArg₂ (fun a b : EReal => a + b) ?_ (lastRow_at V t d p ht c x)
    pointwise
    rw [v93_at V t d p ht, v132_at V t d p ht, v116_at V t d p ht, v112_at V t d p ht, v134_at V t d p ht, v113_at V t d p ht, v162_at V t d p ht]
    generalize hK : (part V t d p).dkt Lo c x = K
    generalize hQ : (part V t d p).dqt Lo c x = Q
    generalize hT : (part V t d p).tkd Lo (partD V d p) c x = T
    show _ = (part V t d p).dqt Lo c x * ((part V t d p).q c x * scale * (part V t d p).eb Lo c x)
      - (part V t d p).dkt Lo c x * ((part V t d p).k c x * (part V t d p).en Lo c x) - (part V t d p).tkd Lo (partD V d p) c x
    rw [hK, hQ, hT, sub_eq_add_neg, sub_eq_add_neg]
    refine congrArg (fun z : EReal => z + -T) ?_
    rw [add_comm]
    refine congrArg₂ (fun a b : EReal => a + -b) ?_ ?_
    · rw [mul_comm ((part V t d p).q c x * scale) Q, mul_assoc]
    · rw [mul_comm ((part V t d p).k c x) K, mul_assoc]
  refine (Finset.sum_congr (M := EReal) rfl fun c _ => if_congr Iff.rfl (e c) rfl).trans ?_
  unfold Head.dla
  rw [← split_last]

end Cert.Gla
-- ==== Proof.Loop.lean ====
/- The reference's loop: what its 256 trips leave, of what it starts from. -/
module

public import proofs.«01_k».proof.Proof.Trip

@[expose] public section

set_option maxRecDepth 16384

noncomputable section

namespace Cert.Gla

open Idealize.ShloMosaic
open Args (backAt)
open Cert.ReferenceIdeal Cert.ReferenceIdeal.Value

/-- Buffer contents read as tensors. -/
abbrev outQ (V : RVal) : FVec Ideal S256x2x4x64x64 .f32 := V (Proc.devRef .tc main_v45_8)
abbrev outK (V : RVal) : FVec Ideal S256x2x4x64x64 .f32 := V (Proc.devRef .tc main_v45_9)
abbrev outV (V : RVal) : FVec Ideal S256x2x4x64x128 .f32 := V (Proc.devRef .tc main_v45_10)
abbrev outL (V : RVal) : FVec Ideal S256x2x4x64x64 .f32 := V (Proc.devRef .tc main_v45_11)

/-- The state cotangent after `n` trips. -/
def iterD (V : RVal) (d : Fin 2) (p : Fin 4) : ℕ → Fin 64 → Fin 128 → EReal
  | 0 => partD V d p
  | n + 1 => (part V (backAt n) d p).dsn Lo (iterD V d p n)

/-- What holds before the trip `n`. -/
structure Reached (V W : RVal) (n : ℕ) : Prop where
  ctr : W (Proc.devRef .tc main_v45_6) = fun _ => BitVec.ofNat 32 n
  part_eq : ∀ t d p, part W t d p = part V t d p
  carry : ∀ d p, partD W d p = iterD V d p n
  q : ∀ (t : Fin 256) d p r x, 256 ≤ t.val + n → outQ W (ix5 t d p r x) = (part V t d p).dq Lo r x
  k : ∀ (t : Fin 256) d p r x, 256 ≤ t.val + n → outK W (ix5 t d p r x) = (part V t d p).dk Lo (iterD V d p (255 - t.val)) r x
  v : ∀ (t : Fin 256) d p r y, 256 ≤ t.val + n → outV W (ix5 t d p r y) = (part V t d p).dv Lo (iterD V d p (255 - t.val)) r y
  l : ∀ (t : Fin 256) d p r x, 256 ≤ t.val + n → outL W (ix5 t d p r x) = (part V t d p).dla Lo (iterD V d p (255 - t.val)) r x

theorem reached_zero (V : RVal) (h : V (Proc.devRef .tc main_v45_6) = fun _ => 0#32) : Reached V V 0 where
  ctr := h
  part_eq _ _ _ := rfl
  carry _ _ := rfl
  q t _ _ _ _ h := absurd h (by have := t.isLt; omega)
  k t _ _ _ _ h := absurd h (by have := t.isLt; omega)
  v t _ _ _ _ h := absurd h (by have := t.isLt; omega)
  l t _ _ _ _ h := absurd h (by have := t.isLt; omega)

theorem atChunk_of {V W : RVal} {n : ℕ} (hn : n < 256) (R : Reached V W n) : AtChunk W (backAt n) := by
  unfold AtChunk
  rw [R.ctr]
  refine funext fun _ => congrArg (BitVec.ofNat 32) ?_
  show n = 255 - (255 - n)
  omega

theorem part_step (W : RVal) (t : Fin 256) (d : Fin 2) (p : Fin 4) : part (STEP W) t d p = part W t d p := by
  have e0 : inQ (STEP W) = inQ W := STEP_main_v45_0 W
  have e1 : inK (STEP W) = inK W := STEP_main_v45_1 W
  have e2 : inV (STEP W) = inV W := STEP_main_v45_2 W
  have e3 : inL (STEP W) = inL W := STEP_main_v45_3 W
  have e4 : inS (STEP W) = inS W := STEP_main_v45_4 W
  have e5 : inG (STEP W) = inG W := STEP_main_v45_5 W
  unfold part
  rw [e0, e1, e2, e3, e4, e5]

/-- A chunk not the one the trip takes was written before it. -/
theorem before_of {t : Fin 256} {n : ℕ} (h : 256 ≤ t.val + (n + 1)) (hne : ¬ t = backAt n) : 256 ≤ t.val + n := by
  by_contra hc
  exact hne (Fin.ext (by show t.val = 255 - n; omega))

theorem reached_succ {V W : RVal} {n : ℕ} (hn : n < 256) (R : Reached V W n) : Reached V (STEP W) (n + 1) where
  ctr := by
    rw [STEP_main_v45_6]
    unfold step_main_v45_6
    rw [id_eq, R.ctr]
    refine funext fun _ => ?_
    show BitVec.ofNat 32 n + 1#32 = BitVec.ofNat 32 (n + 1)
    rw [BitVec.ofNat_add]
  part_eq t d p := (part_step W t d p).trans (R.part_eq t d p)
  carry d p := by
    refine funext fun x => funext fun y => ?_
    show carryD (STEP W) (ix4 d p x y) = _
    unfold carryD
    rw [STEP_main_v45_7]
    refine (step7_at W (backAt n) d p (atChunk_of hn R) x y).trans ?_
    rw [R.part_eq, R.carry]
    rfl
  q t d p r x h := by
    unfold outQ
    rw [STEP_main_v45_8]
    refine (step8_at W (backAt n) d p (atChunk_of hn R) t r x).trans ?_
    by_cases e : t = backAt n
    · rw [if_pos e, R.part_eq, e]
    · rw [if_neg e]; exact R.q t d p r x (before_of h e)
  k t d p r x h := by
    unfold outK
    rw [STEP_main_v45_9]
    refine (step9_at W (backAt n) d p (atChunk_of hn R) t r x).trans ?_
    by_cases e : t = backAt n
    · rw [if_pos e, R.part_eq, R.carry, e, show 255 - (backAt n).val = n by show 255 - (255 - n) = n; omega]
    · rw [if_neg e]; exact R.k t d p r x (before_of h e)
  v t d p r y h := by
    unfold outV
    rw [STEP_main_v45_10]
    refine (step10_at W (backAt n) d p (atChunk_of hn R) t r y).trans ?_
    by_cases e : t = backAt n
    · rw [if_pos e, R.part_eq, R.carry, e, show 255 - (backAt n).val = n by show 255 - (255 - n) = n; omega]
    · rw [if_neg e]; exact R.v t d p r y (before_of h e)
  l t d p r x h := by
    unfold outL
    rw [STEP_main_v45_11]
    refine (step11_at W (backAt n) d p (atChunk_of hn R) t r x).trans ?_
    by_cases e : t = backAt n
    · rw [if_pos e, R.part_eq, R.carry, e, show 255 - (backAt n).val = n by show 255 - (255 - n) = n; omega]
    · rw [if_neg e]; exact R.l t d p r x (before_of h e)

/-- What the loop has left when it ends. -/
theorem reached (V : RVal) (h : V (Proc.devRef .tc main_v45_6) = fun _ => 0#32) : ∀ n, n ≤ 256 → Reached V (STEP^[n] V) n
  | 0, _ => reached_zero V h
  | n + 1, hn => by
    rw [Function.iterate_succ_apply']
    exact reached_succ hn (reached V h n (Nat.le_of_succ_le hn))

end Cert.Gla

end
-- ==== Proof.Entry.lean ====
/- The arrays the reference's loop starts from, of the arguments. -/
module

public import proofs.«01_k».proof.Proof.Loop

@[expose] public section

set_option maxRecDepth 16384

noncomputable section

namespace Cert.Gla

open Idealize.ShloMosaic Idealize.ShloMosaic.TcCoe Idealize.ShloMosaic.Tactic Idealize.SL.Sem Idealize.ShloMosaic.StableHlo
open Cert.ReferenceIdeal Cert.ReferenceIdeal.Gen Cert.ReferenceIdeal.Facts₀ Cert.ReferenceIdeal.Facts Cert.ReferenceIdeal.Value

variable (m : (ℓ : Loc nD τ sig) → Buf (Elt Ideal) ℓ) (c : Dev nD)

/-- The arguments the reference finds. -/
def refArgs : Args where
  q i l := (m ((c.tc : Thread nD τ).loc main_arg0) : FVec Ideal S16384x256 .f32) (ix2 i l)
  k i l := (m ((c.tc : Thread nD τ).loc main_arg1) : FVec Ideal S16384x256 .f32) (ix2 i l)
  v i l := (m ((c.tc : Thread nD τ).loc main_arg2) : FVec Ideal S16384x512 .f32) (ix2 i l)
  la i l := (m ((c.tc : Thread nD τ).loc main_arg3) : FVec Ideal S16384x512 .f32) (ix2 i l)
  g i l := (m ((c.tc : Thread nD τ).loc main_arg4) : FVec Ideal S16384x512 .bf16) (ix2 i l)
  sf t y l := (m ((c.tc : Thread nD τ).loc main_arg5) : FVec Ideal S256x128x256 .f32) (ix3 t y l)
  sb t y l := (m ((c.tc : Thread nD τ).loc main_arg6) : FVec Ideal S256x128x256 .f32) (ix3 t y l)
  ds d y l := (m ((c.tc : Thread nD τ).loc main_arg7) : FVec Ideal S2x128x256 .f32) (ix3 d y l)

theorem start_inQ_0 (t : Fin 256) (p : Fin 4) (r x : Fin 64) :
    inQ (entryContents preI m c) (ix5 t 0 p r x) = (refArgs m c).q (rowOf t r) (ln p x) := by
  unfold inQ
  simp only [entryContents, preI, afterL_cons, afterL_nil]
  after_reads_simp
  rw [id_eq]
  pointwise
  after_reads_simp
  try simp only [TRef.toBuf, TRef.ofBuf, cast_eq]
  pointwise
  refine congrArg (m _) (congrArg₂ ix2 (Fin.ext ?_) (Fin.ext ?_))
  all_goals simp only [rowOf_val, ln_val, vl_val, wide_val, Fin.val_rev, Fin.val_zero, Fin.val_one]
  all_goals first
    | rfl
    | omega
    | (simp [Fin.val_rev]; done)
    | (simp [Fin.val_rev]; omega)

theorem start_inK_0 (t : Fin 256) (p : Fin 4) (r x : Fin 64) :
    inK (entryContents preI m c) (ix5 t 0 p r x) = (refArgs m c).k (rowOf t r) (ln p x) := by
  unfold inK
  simp only [entryContents, preI, afterL_cons, afterL_nil]
  after_reads_simp
  rw [id_eq]
  pointwise
  after_reads_simp
  try simp only [TRef.toBuf, TRef.ofBuf, cast_eq]
  pointwise
  refine congrArg (m _) (congrArg₂ ix2 (Fin.ext ?_) (Fin.ext ?_))
  all_goals simp only [rowOf_val, ln_val, vl_val, wide_val, Fin.val_rev, Fin.val_zero, Fin.val_one]
  all_goals first
    | rfl
    | omega
    | (simp [Fin.val_rev]; done)
    | (simp [Fin.val_rev]; omega)

theorem start_inV_0 (t : Fin 256) (p : Fin 4) (r : Fin 64) (y : Fin 128) :
    inV (entryContents preI m c) (ix5 t 0 p r y) = (refArgs m c).v (rowOf t r) (vl p y) := by
  unfold inV
  simp only [entryContents, preI, afterL_cons, afterL_nil]
  after_reads_simp
  rw [id_eq]
  pointwise
  after_reads_simp
  try simp only [TRef.toBuf, TRef.ofBuf, cast_eq]
  pointwise
  refine congrArg (m _) (congrArg₂ ix2 (Fin.ext ?_) (Fin.ext ?_))
  all_goals simp only [rowOf_val, ln_val, vl_val, wide_val, Fin.val_rev, Fin.val_zero, Fin.val_one]
  all_goals first
    | rfl
    | omega
    | (simp [Fin.val_rev]; done)
    | (simp [Fin.val_rev]; omega)

theorem start_inL_0 (t : Fin 256) (p : Fin 4) (r x : Fin 64) :
    inL (entryContents preI m c) (ix5 t 0 p r x) = (refArgs m c).la (rowOf t r) (wide 0 (ln p x)) := by
  unfold inL
  simp only [entryContents, preI, afterL_cons, afterL_nil]
  after_reads_simp
  rw [id_eq]
  pointwise
  after_reads_simp
  try simp only [TRef.toBuf, TRef.ofBuf, cast_eq]
  pointwise
  refine congrArg (m _) (congrArg₂ ix2 (Fin.ext ?_) (Fin.ext ?_))
  all_goals simp only [rowOf_val, ln_val, vl_val, wide_val, Fin.val_rev, Fin.val_zero, Fin.val_one]
  all_goals first
    | rfl
    | omega
    | (simp [Fin.val_rev]; done)
    | (simp [Fin.val_rev]; omega)

theorem start_inS_0 (t : Fin 256) (p : Fin 4) (x : Fin 64) (y : Fin 128) :
    inS (entryContents preI m c) (ix5 t 0 p x y) = (refArgs m c).sf t y (ln p x) := by
  unfold inS
  simp only [entryContents, preI, afterL_cons, afterL_nil]
  after_reads_simp
  rw [id_eq]
  pointwise
  after_reads_simp
  try simp only [TRef.toBuf, TRef.ofBuf, cast_eq]
  pointwise
  refine congrArg (m _) (congr (congrArg (fun a b => ix3 a y b) (Fin.ext ?_)) (Fin.ext ?_))
  all_goals simp only [rowOf_val, ln_val, vl_val, wide_val, Fin.val_rev, Fin.val_zero, Fin.val_one]
  all_goals first
    | rfl
    | omega
    | (simp [Fin.val_rev]; done)
    | (simp [Fin.val_rev]; omega)

theorem start_inG_0 (t : Fin 256) (p : Fin 4) (r : Fin 64) (y : Fin 128) :
    inG (entryContents preI m c) (ix5 t 0 p r y) = (refArgs m c).g (rowOf t r) (vl p y) := by
  unfold inG
  simp only [entryContents, preI, afterL_cons, afterL_nil]
  after_reads_simp
  rw [id_eq]
  pointwise
  after_reads_simp
  try simp only [TRef.toBuf, TRef.ofBuf, cast_eq]
  pointwise
  refine congrArg (m _) (congrArg₂ ix2 (Fin.ext ?_) (Fin.ext ?_))
  all_goals simp only [rowOf_val, ln_val, vl_val, wide_val, Fin.val_rev, Fin.val_zero, Fin.val_one]
  all_goals first
    | rfl
    | omega
    | (simp [Fin.val_rev]; done)
    | (simp [Fin.val_rev]; omega)

theorem start_inQ_1 (t : Fin 256) (p : Fin 4) (r x : Fin 64) :
    inQ (entryContents preI m c) (ix5 t 1 p r x) = (refArgs m c).q (rowOf t.rev r.rev) (ln p x) := by
  unfold inQ
  simp only [entryContents, preI, afterL_cons, afterL_nil]
  after_reads_simp
  rw [id_eq]
  pointwise
  after_reads_simp
  try simp only [TRef.toBuf, TRef.ofBuf, cast_eq]
  pointwise
  refine congrArg (m _) (congrArg₂ ix2 (Fin.ext ?_) (Fin.ext ?_))
  all_goals simp only [rowOf_val, ln_val, vl_val, wide_val, Fin.val_rev, Fin.val_zero, Fin.val_one]
  all_goals first
    | rfl
    | omega
    | (simp [Fin.val_rev]; done)
    | (simp [Fin.val_rev]; omega)

theorem start_inK_1 (t : Fin 256) (p : Fin 4) (r x : Fin 64) :
    inK (entryContents preI m c) (ix5 t 1 p r x) = (refArgs m c).k (rowOf t.rev r.rev) (ln p x) := by
  unfold inK
  simp only [entryContents, preI, afterL_cons, afterL_nil]
  after_reads_simp
  rw [id_eq]
  pointwise
  after_reads_simp
  try simp only [TRef.toBuf, TRef.ofBuf, cast_eq]
  pointwise
  refine congrArg (m _) (congrArg₂ ix2 (Fin.ext ?_) (Fin.ext ?_))
  all_goals simp only [rowOf_val, ln_val, vl_val, wide_val, Fin.val_rev, Fin.val_zero, Fin.val_one]
  all_goals first
    | rfl
    | omega
    | (simp [Fin.val_rev]; done)
    | (simp [Fin.val_rev]; omega)

theorem start_inV_1 (t : Fin 256) (p : Fin 4) (r : Fin 64) (y : Fin 128) :
    inV (entryContents preI m c) (ix5 t 1 p r y) = (refArgs m c).v (rowOf t.rev r.rev) (vl p y) := by
  unfold inV
  simp only [entryContents, preI, afterL_cons, afterL_nil]
  after_reads_simp
  rw [id_eq]
  pointwise
  after_reads_simp
  try simp only [TRef.toBuf, TRef.ofBuf, cast_eq]
  pointwise
  refine congrArg (m _) (congrArg₂ ix2 (Fin.ext ?_) (Fin.ext ?_))
  all_goals simp only [rowOf_val, ln_val, vl_val, wide_val, Fin.val_rev, Fin.val_zero, Fin.val_one]
  all_goals first
    | rfl
    | omega
    | (simp [Fin.val_rev]; done)
    | (simp [Fin.val_rev]; omega)

theorem start_inL_1 (t : Fin 256) (p : Fin 4) (r x : Fin 64) :
    inL (entryContents preI m c) (ix5 t 1 p r x) = (refArgs m c).la (rowOf t.rev r.rev) (wide 1 (ln p x)) := by
  unfold inL
  simp only [entryContents, preI, afterL_cons, afterL_nil]
  after_reads_simp
  rw [id_eq]
  pointwise
  after_reads_simp
  try simp only [TRef.toBuf, TRef.ofBuf, cast_eq]
  pointwise
  refine congrArg (m _) (congrArg₂ ix2 (Fin.ext ?_) (Fin.ext ?_))
  all_goals simp only [rowOf_val, ln_val, vl_val, wide_val, Fin.val_rev, Fin.val_zero, Fin.val_one]
  all_goals first
    | rfl
    | omega
    | (simp [Fin.val_rev]; done)
    | (simp [Fin.val_rev]; omega)

theorem start_inS_1 (t : Fin 256) (p : Fin 4) (x : Fin 64) (y : Fin 128) :
    inS (entryContents preI m c) (ix5 t 1 p x y) = (refArgs m c).sb t.rev y (ln p x) := by
  unfold inS
  simp only [entryContents, preI, afterL_cons, afterL_nil]
  after_reads_simp
  rw [id_eq]
  pointwise
  after_reads_simp
  try simp only [TRef.toBuf, TRef.ofBuf, cast_eq]
  pointwise
  refine congrArg (m _) (congr (congrArg (fun a b => ix3 a y b) (Fin.ext ?_)) (Fin.ext ?_))
  all_goals simp only [rowOf_val, ln_val, vl_val, wide_val, Fin.val_rev, Fin.val_zero, Fin.val_one]
  all_goals first
    | rfl
    | omega
    | (simp [Fin.val_rev]; done)
    | (simp [Fin.val_rev]; omega)

theorem start_inG_1 (t : Fin 256) (p : Fin 4) (r : Fin 64) (y : Fin 128) :
    inG (entryContents preI m c) (ix5 t 1 p r y) = (refArgs m c).g (rowOf t.rev r.rev) (vl p y) := by
  unfold inG
  simp only [entryContents, preI, afterL_cons, afterL_nil]
  after_reads_simp
  rw [id_eq]
  pointwise
  after_reads_simp
  try simp only [TRef.toBuf, TRef.ofBuf, cast_eq]
  pointwise
  refine congrArg (m _) (congrArg₂ ix2 (Fin.ext ?_) (Fin.ext ?_))
  all_goals simp only [rowOf_val, ln_val, vl_val, wide_val, Fin.val_rev, Fin.val_zero, Fin.val_one]
  all_goals first
    | rfl
    | omega
    | (simp [Fin.val_rev]; done)
    | (simp [Fin.val_rev]; omega)

theorem start_carry (d : Fin 2) (p : Fin 4) (x : Fin 64) (y : Fin 128) :
    carryD (entryContents preI m c) (ix4 d p x y) = (refArgs m c).ds d y (ln p x) := by
  unfold carryD
  simp only [entryContents, preI, afterL_cons, afterL_nil]
  after_reads_simp
  rw [id_eq]
  pointwise
  refine congrArg (m _) (congrArg (fun b => ix3 d y b) (Fin.ext ?_))
  simp only [ln_val]
  omega

end Cert.Gla

end
-- ==== Proof.Out.lean ====
/- The reference's results read at an entry of what its loop leaves. -/
module

public import proofs.«01_k».proof.Proof.Loop

@[expose] public section

set_option maxRecDepth 16384

noncomputable section

namespace Cert.Gla

open Idealize.ShloMosaic
open Cert.ReferenceIdeal Cert.ReferenceIdeal.Value

variable (V : RVal) (t : Fin 256) (p : Fin 4) (r : Fin 64)

theorem ix5_val {s0 s1 s2 s3 s4 : ℕ} {a a' : Fin s0} {b b' : Fin s1} {c c' : Fin s2} {d d' : Fin s3} {e e' : Fin s4}
    (ha : a.val = a'.val) (hb : b.val = b'.val) (hc : c.val = c'.val) (hd : d.val = d'.val) (he : e.val = e'.val) :
    ix5 a b c d e = ix5 a' b' c' d' e' := by
  rw [Fin.ext ha, Fin.ext hb, Fin.ext hc, Fin.ext hd, Fin.ext he]

theorem v50_at (x : Fin 64) : out_main_v50 V (ix2 (rowOf t r) (ln p x)) = outQ V (ix5 t 0 p r x) := by
  unfold out_main_v50
  pointwise
  refine congrArg (V _) (ix5_val ?_ ?_ ?_ ?_ ?_)
  all_goals simp only [rowOf_val, ln_val, vl_val, Fin.val_rev, Fin.val_zero, Fin.val_one]
  all_goals first
    | rfl
    | omega
    | (simp [Fin.val_rev, rowOf_val, ln_val, vl_val]; done)
    | (simp [Fin.val_rev, rowOf_val, ln_val, vl_val]; omega)

theorem v55_at (x : Fin 64) : out_main_v55 V (ix2 (rowOf t r) (ln p x)) = outK V (ix5 t 0 p r x) := by
  unfold out_main_v55
  pointwise
  refine congrArg (V _) (ix5_val ?_ ?_ ?_ ?_ ?_)
  all_goals simp only [rowOf_val, ln_val, vl_val, Fin.val_rev, Fin.val_zero, Fin.val_one]
  all_goals first
    | rfl
    | omega
    | (simp [Fin.val_rev, rowOf_val, ln_val, vl_val]; done)
    | (simp [Fin.val_rev, rowOf_val, ln_val, vl_val]; omega)

theorem v60_at (y : Fin 128) : out_main_v60 V (ix2 (rowOf t r) (vl p y)) = outV V (ix5 t 0 p r y) := by
  unfold out_main_v60
  pointwise
  refine congrArg (V _) (ix5_val ?_ ?_ ?_ ?_ ?_)
  all_goals simp only [rowOf_val, ln_val, vl_val, Fin.val_rev, Fin.val_zero, Fin.val_one]
  all_goals first
    | rfl
    | omega
    | (simp [Fin.val_rev, rowOf_val, ln_val, vl_val]; done)
    | (simp [Fin.val_rev, rowOf_val, ln_val, vl_val]; omega)

theorem v64_at (x : Fin 64) : out_main_v64 V (ix2 (rowOf t r) (ln p x)) = outL V (ix5 t 0 p r x) := by
  unfold out_main_v64
  pointwise
  refine congrArg (V _) (ix5_val ?_ ?_ ?_ ?_ ?_)
  all_goals simp only [rowOf_val, ln_val, vl_val, Fin.val_rev, Fin.val_zero, Fin.val_one]
  all_goals first
    | rfl
    | omega
    | (simp [Fin.val_rev, rowOf_val, ln_val, vl_val]; done)
    | (simp [Fin.val_rev, rowOf_val, ln_val, vl_val]; omega)

theorem v70_at (x : Fin 64) : out_main_v70 V (ix2 (rowOf t r) (ln p x)) = outQ V (ix5 t.rev 1 p r.rev x) := by
  unfold out_main_v70
  pointwise
  refine congrArg (V _) (ix5_val ?_ ?_ ?_ ?_ ?_)
  all_goals simp only [rowOf_val, ln_val, vl_val, Fin.val_rev, Fin.val_zero, Fin.val_one]
  all_goals first
    | rfl
    | omega
    | (simp [Fin.val_rev, rowOf_val, ln_val, vl_val]; done)
    | (simp [Fin.val_rev, rowOf_val, ln_val, vl_val]; omega)

theorem v76_at (x : Fin 64) : out_main_v76 V (ix2 (rowOf t r) (ln p x)) = outK V (ix5 t.rev 1 p r.rev x) := by
  unfold out_main_v76
  pointwise
  refine congrArg (V _) (ix5_val ?_ ?_ ?_ ?_ ?_)
  all_goals simp only [rowOf_val, ln_val, vl_val, Fin.val_rev, Fin.val_zero, Fin.val_one]
  all_goals first
    | rfl
    | omega
    | (simp [Fin.val_rev, rowOf_val, ln_val, vl_val]; done)
    | (simp [Fin.val_rev, rowOf_val, ln_val, vl_val]; omega)

theorem v82_at (y : Fin 128) : out_main_v82 V (ix2 (rowOf t r) (vl p y)) = outV V (ix5 t.rev 1 p r.rev y) := by
  unfold out_main_v82
  pointwise
  refine congrArg (V _) (ix5_val ?_ ?_ ?_ ?_ ?_)
  all_goals simp only [rowOf_val, ln_val, vl_val, Fin.val_rev, Fin.val_zero, Fin.val_one]
  all_goals first
    | rfl
    | omega
    | (simp [Fin.val_rev, rowOf_val, ln_val, vl_val]; done)
    | (simp [Fin.val_rev, rowOf_val, ln_val, vl_val]; omega)

theorem v87_at (x : Fin 64) : out_main_v87 V (ix2 (rowOf t r) (ln p x)) = outL V (ix5 t.rev 1 p r.rev x) := by
  unfold out_main_v87
  pointwise
  refine congrArg (V _) (ix5_val ?_ ?_ ?_ ?_ ?_)
  all_goals simp only [rowOf_val, ln_val, vl_val, Fin.val_rev, Fin.val_zero, Fin.val_one]
  all_goals first
    | rfl
    | omega
    | (simp [Fin.val_rev, rowOf_val, ln_val, vl_val]; done)
    | (simp [Fin.val_rev, rowOf_val, ln_val, vl_val]; omega)

theorem v89_at (d : Fin 2) (x : Fin 64) (y : Fin 128) : out_main_v89 V (ix3 d y (ln p x)) = carryD V (ix4 d p x y) := by
  unfold out_main_v89
  pointwise
  refine congrArg (V _) (congrArg₂ (fun a b => ix4 d a b y) (Fin.ext ?_) (Fin.ext ?_))
  · show (ln p x).val / 64 = p.val
    rw [ln_val]; omega
  · show (ln p x).val % 64 = x.val
    rw [ln_val]; omega

end Cert.Gla

end
-- ==== Proof.RefValue.lean ====
/- The reference's results at an entry, of the arguments. -/
module

public import proofs.«01_k».proof.Proof.Entry
public import proofs.«01_k».proof.Proof.Out

@[expose] public section

set_option maxRecDepth 16384

noncomputable section

namespace Cert.Gla

open Idealize.ShloMosaic Idealize.SL.Sem Idealize.ShloMosaic.TcCoe Idealize.ShloMosaic.StableHlo
open Args (backAt foreAt)
open Cert.ReferenceIdeal Cert.ReferenceIdeal.Gen Cert.ReferenceIdeal.Value

variable (m : (ℓ : Loc nD τ sig) → Buf (Elt Ideal) ℓ) (c : Dev nD)

/-- What the loop starts from, and what it leaves. -/
def begun : RVal := entryContents preI m c
def ended : RVal := STEP^[256] (begun m c)

theorem begun_zero : begun m c (Proc.devRef .tc main_v45_6) = fun _ => 0#32 := ctr_entry m c

theorem reached_end : Reached (begun m c) (ended m c) 256 := reached (begun m c) (begun_zero m c) 256 le_rfl

theorem part_zero (t : Fin 256) (p : Fin 4) : part (begun m c) t 0 p = (refArgs m c).headF t p :=
  (Head.mk.injEq _ _ _ _ _ _ _ _ _ _ _ _).mpr ⟨funext fun r => funext fun x => start_inQ_0 m c t p r x,
    funext fun r => funext fun x => start_inK_0 m c t p r x, funext fun r => funext fun x => start_inL_0 m c t p r x,
    funext fun r => funext fun y => start_inV_0 m c t p r y, funext fun r => funext fun y => start_inG_0 m c t p r y,
    funext fun x => funext fun y => start_inS_0 m c t p x y⟩

theorem part_one (t : Fin 256) (p : Fin 4) : part (begun m c) t 1 p = ((refArgs m c).headB t.rev p).flip :=
  (Head.mk.injEq _ _ _ _ _ _ _ _ _ _ _ _).mpr ⟨funext fun r => funext fun x => start_inQ_1 m c t p r x,
    funext fun r => funext fun x => start_inK_1 m c t p r x, funext fun r => funext fun x => start_inL_1 m c t p r x,
    funext fun r => funext fun y => start_inV_1 m c t p r y, funext fun r => funext fun y => start_inG_1 m c t p r y,
    funext fun x => funext fun y => start_inS_1 m c t p x y⟩

theorem iter_zero (p : Fin 4) : ∀ n, iterD (begun m c) 0 p n = (refArgs m c).dsF p n
  | 0 => funext fun x => funext fun y => start_carry m c 0 p x y
  | n + 1 => by
    show (part (begun m c) (backAt n) 0 p).dsn Lo (iterD (begun m c) 0 p n) = _
    rw [part_zero, iter_zero p n]
    rfl

theorem iter_one (p : Fin 4) : ∀ n, n ≤ 256 → iterD (begun m c) 1 p n = (refArgs m c).dsB p n
  | 0, _ => funext fun x => funext fun y => start_carry m c 1 p x y
  | n + 1, h => by
    show (part (begun m c) (backAt n) 1 p).dsn Lo (iterD (begun m c) 1 p n) = _
    rw [part_one, iter_one p n (Nat.le_of_succ_le h)]
    have e : (backAt n).rev = foreAt n := Fin.ext (by
      rw [Fin.val_rev]
      show 256 - (255 - n + 1) = n % 256
      omega)
    rw [e]
    exact funext fun x => funext fun y => Head.flip_dsn Up Lo _ _ up_flip x y

variable (t : Fin 256) (p : Fin 4) (r : Fin 64)

theorem iter_one_rev : iterD (begun m c) 1 p (255 - t.rev.val) = (refArgs m c).dsB p t.val := by
  have : 255 - t.rev.val = t.val := by rw [Fin.val_rev]; omega
  rw [this]
  exact iter_one m c p t.val (Nat.le_of_lt t.isLt)

theorem ref_v50 (x : Fin 64) :
    out_main_v50 (ended m c) (ix2 (rowOf t r) (ln p x)) = ((refArgs m c).headF t p).dq Lo r x := by
  refine (v50_at (ended m c) t p r x).trans (((reached_end m c).q t 0 p r x (Nat.le_add_left _ _)).trans ?_)
  rw [part_zero]

theorem ref_v55 (x : Fin 64) :
    out_main_v55 (ended m c) (ix2 (rowOf t r) (ln p x)) = ((refArgs m c).headF t p).dk Lo ((refArgs m c).dsF p (255 - t.val)) r x := by
  refine (v55_at (ended m c) t p r x).trans (((reached_end m c).k t 0 p r x (Nat.le_add_left _ _)).trans ?_)
  rw [part_zero, iter_zero]

theorem ref_v60 (y : Fin 128) :
    out_main_v60 (ended m c) (ix2 (rowOf t r) (vl p y)) = ((refArgs m c).headF t p).dv Lo ((refArgs m c).dsF p (255 - t.val)) r y := by
  refine (v60_at (ended m c) t p r y).trans (((reached_end m c).v t 0 p r y (Nat.le_add_left _ _)).trans ?_)
  rw [part_zero, iter_zero]

theorem ref_v64 (x : Fin 64) :
    out_main_v64 (ended m c) (ix2 (rowOf t r) (ln p x)) = ((refArgs m c).headF t p).dla Lo ((refArgs m c).dsF p (255 - t.val)) r x := by
  refine (v64_at (ended m c) t p r x).trans (((reached_end m c).l t 0 p r x (Nat.le_add_left _ _)).trans ?_)
  rw [part_zero, iter_zero]

theorem ref_v70 (x : Fin 64) :
    out_main_v70 (ended m c) (ix2 (rowOf t r) (ln p x)) = ((refArgs m c).headB t p).dq Up r x := by
  refine (v70_at (ended m c) t p r x).trans (((reached_end m c).q t.rev 1 p r.rev x (Nat.le_add_left _ _)).trans ?_)
  rw [part_one, Fin.rev_rev]
  refine (Head.flip_dq Up Lo _ up_flip r.rev x).trans ?_
  rw [Fin.rev_rev]

theorem ref_v76 (x : Fin 64) :
    out_main_v76 (ended m c) (ix2 (rowOf t r) (ln p x)) = ((refArgs m c).headB t p).dk Up ((refArgs m c).dsB p t.val) r x := by
  refine (v76_at (ended m c) t p r x).trans (((reached_end m c).k t.rev 1 p r.rev x (Nat.le_add_left _ _)).trans ?_)
  rw [part_one, iter_one_rev, Fin.rev_rev]
  refine (Head.flip_dk Up Lo _ _ up_flip r.rev x).trans ?_
  rw [Fin.rev_rev]

theorem ref_v82 (y : Fin 128) :
    out_main_v82 (ended m c) (ix2 (rowOf t r) (vl p y)) = ((refArgs m c).headB t p).dv Up ((refArgs m c).dsB p t.val) r y := by
  refine (v82_at (ended m c) t p r y).trans (((reached_end m c).v t.rev 1 p r.rev y (Nat.le_add_left _ _)).trans ?_)
  rw [part_one, iter_one_rev, Fin.rev_rev]
  refine (Head.flip_dv Up Lo _ _ up_flip r.rev y).trans ?_
  rw [Fin.rev_rev]

theorem ref_v87 (x : Fin 64) :
    out_main_v87 (ended m c) (ix2 (rowOf t r) (ln p x)) = ((refArgs m c).headB t p).dla Up ((refArgs m c).dsB p t.val) r x := by
  refine (v87_at (ended m c) t p r x).trans (((reached_end m c).l t.rev 1 p r.rev x (Nat.le_add_left _ _)).trans ?_)
  rw [part_one, iter_one_rev, Fin.rev_rev]
  refine (Head.flip_dla Up Lo _ _ up_flip r.rev x).trans ?_
  rw [Fin.rev_rev]

theorem ref_v89_zero (x : Fin 64) (y : Fin 128) : out_main_v89 (ended m c) (ix3 0 y (ln p x)) = (refArgs m c).dsF p 256 x y := by
  refine (v89_at (ended m c) p 0 x y).trans ((congrFun (congrFun ((reached_end m c).carry 0 p) x) y).trans ?_)
  rw [iter_zero]

theorem ref_v89_one (x : Fin 64) (y : Fin 128) : out_main_v89 (ended m c) (ix3 1 y (ln p x)) = (refArgs m c).dsB p 256 x y := by
  refine (v89_at (ended m c) p 1 x y).trans ((congrFun (congrFun ((reached_end m c).carry 1 p) x) y).trans ?_)
  rw [iter_one m c p 256 le_rfl]

/-- The reference's run. -/
theorem ref_run (ρ : Dev nD → PrngReg) : θ_run (defs (F := Ideal)) (onTc (τ := τ) (main (F := Ideal))) ⟨m, fun _ => 0, ρ⟩ fun r => ∀ c : Dev nD,
      r.2.mem ((c.tc : Thread nD τ).loc main_v50) = out_main_v50 (ended m c)
      ∧ r.2.mem ((c.tc : Thread nD τ).loc main_v55) = out_main_v55 (ended m c)
      ∧ r.2.mem ((c.tc : Thread nD τ).loc main_v60) = out_main_v60 (ended m c)
      ∧ r.2.mem ((c.tc : Thread nD τ).loc main_v64) = out_main_v64 (ended m c)
      ∧ r.2.mem ((c.tc : Thread nD τ).loc main_v70) = out_main_v70 (ended m c)
      ∧ r.2.mem ((c.tc : Thread nD τ).loc main_v76) = out_main_v76 (ended m c)
      ∧ r.2.mem ((c.tc : Thread nD τ).loc main_v82) = out_main_v82 (ended m c)
      ∧ r.2.mem ((c.tc : Thread nD τ).loc main_v87) = out_main_v87 (ended m c)
      ∧ r.2.mem ((c.tc : Thread nD τ).loc main_v89) = out_main_v89 (ended m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Cert.ReferenceIdeal.Value.run m ρ

end Cert.Gla

end
-- ==== Proof.Real.lean ====
/- What the precondition says: every entry of every argument is a real number. -/
module

public import proofs.«01_k».proof.Defs
public import proofs.«01_k».proof.Proof.KerCarry
public import Idealize.ShloMosaic.Lib.ReduceAll

@[expose] public section

set_option maxRecDepth 16384

noncomputable section

namespace Cert.Gla

open Idealize.ShloMosaic Idealize.ShloMosaic.TcCoe Idealize.SL Idealize.SL.Sem

/-- The shape relations the precondition's text takes. -/
instance finiteFacts : Cert.Pre_finite.Facts where
  bcast_S_S16384x256 := by decide
  reducesTo_S16384x256_S_d0_1 := by decide
  h_S_ := by decide
  bcast_S_S16384x512 := by decide
  reducesTo_S16384x512_S_d0_1 := by decide
  bitsLt_bf16_f32 := by decide
  bcast_S_S256x128x256 := by decide
  reducesTo_S256x128x256_S_d0_1_2 := by decide
  bcast_S_S2x128x256 := by decide
  reducesTo_S2x128x256_S_d0_1_2 := by decide

/-- A magnitude below infinity is a real number's. -/
theorem real_of_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  refine ⟨x.toReal, EReal.coe_toReal (ne_of_lt hlt.1) fun hb => ?_⟩
  rw [hb] at hlt
  simp at hlt

instance : Subsingleton Cert.Pre_finite.S_.Idx := ⟨fun a b => funext fun i => i.elim0⟩

/-- One argument's conjunct. -/
theorem real_of_reduce {s : Shape} {axes : List (Fin s.rank)} (x : FVec Ideal s .f32) (y : FVec Ideal s .f32) (i0 : IVec Cert.Pre_finite.S_ 1)
    (h : s.ReducesTo axes Cert.Pre_finite.S_) (hu : 0 < Cert.Pre_finite.S_.numel) (j : Cert.Pre_finite.S_.Idx)
    (hy : ∀ i, y i = Ideal.ofBits .f32 0x7F800000#32)
    (e : Host.reduce IntOp.andi (cmpf .olt (Host.absf x) y) i0 h hu j = 1#1) (i : s.Idx) : IsReal (x i) := by
  have := Host.reduce_andi_all _ i0 h hu j e i
  refine real_of_lt _ ?_
  rw [← hy i]
  exact this

open Cert.KernelIdeal in
theorem kerArgs_fine (m : (ℓ : Loc nD τ sig) → Buf (Elt Ideal) ℓ) (hm : Pre_KernelIdeal_finite m) (c : Dev nD) : (kerArgs m c).Fine := by
  have h := congrFun (hm c) (fun i => i.elim0)
  unfold Cert.Pre_finite.fn Cert.Pre_finite.fn_part1 Cert.Pre_finite.fn_part2 at h
  dsimp only at h
  simp only [andi, IntOp.andi_eq_one] at h
  obtain ⟨⟨⟨⟨⟨⟨⟨h0, h1⟩, h2⟩, h3⟩, h4⟩, h5⟩, h6⟩, h7⟩ := h
  exact ⟨fun i l => real_of_reduce _ _ _ _ _ _ (fun _ => rfl) h0 _, fun i l => real_of_reduce _ _ _ _ _ _ (fun _ => rfl) h1 _,
    fun i l => real_of_reduce _ _ _ _ _ _ (fun _ => rfl) h2 _, fun i l => real_of_reduce _ _ _ _ _ _ (fun _ => rfl) h3 _,
    fun i l => real_of_reduce _ _ _ _ _ _ (fun _ => rfl) h4 _, fun t y l => real_of_reduce _ _ _ _ _ _ (fun _ => rfl) h5 _,
    fun t y l => real_of_reduce _ _ _ _ _ _ (fun _ => rfl) h6 _, fun d y l => real_of_reduce _ _ _ _ _ _ (fun _ => rfl) h7 _⟩

end Cert.Gla

end
-- ==== Proof.Frames.lean ====
/- The frames: each program ends, leaves its arguments as they were and every semaphore counter at zero. -/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent
public import Idealize.ShloMosaic.Lib.Exec

@[expose] public section

set_option maxRecDepth 16384

noncomputable section

namespace Cert.Gla

open Idealize.ShloMosaic Idealize.ShloMosaic.TcCoe Idealize.SL Idealize.SL.Sem

variable {F : FTy → Type} [FloatOps F]

section
open Cert.KernelIdeal Cert.KernelIdeal.Gen
variable (m : (ℓ : Loc nD τ sig) → Buf (Elt F) ℓ) (ρ : Dev nD → PrngReg)

/-- An argument's array after the run. -/
theorem arg_kept {r : PUnit × MemSt nD τ sig (Elt F)} (h : Pipeline.FramePost cfgs (dats (entry m)) 0 (entry m) r) (c : Dev nD)
    (w : Fin cfg0.W) (hw : (cfg0.win w).isOut = false) :
    r.2.mem ((c : Thread nD τ).loc (Pipeline.arrRef spec0 w)) = m ((c : Thread nD τ).loc (Pipeline.arrRef spec0 w)) :=
  ((h c).1 w).trans (input_kept m c w hw)

/-- The kernel's arguments after the run, at any float values. -/
theorem kernel_frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨arg_kept m h.1 c 6 rfl, arg_kept m h.1 c 7 rfl, arg_kept m h.1 c 8 rfl,
    arg_kept m h.1 c 9 rfl, arg_kept m h.1 c 10 rfl, arg_kept m h.1 c 5 rfl, arg_kept m h.1 c 11 rfl, arg_kept m h.1 c 12 rfl⟩, h.2⟩) (run m ρ)
end

theorem frame_ideal : Cert.quiescent_KernelIdeal := fun m ρ _ => kernel_frame m ρ

/-- The printed kernel and its idealization have the same text, so what is run is the same. -/
theorem frame_kernel : Cert.quiescent_Kernel := by
  intro m ρ _
  refine Eq.mp ?_ (kernel_frame (F := Bits) m ρ)
  sl_kernel_rfl

theorem frame_reference : Cert.quiescent_ReferenceIdeal := fun m ρ _ =>
  (θ_run Cert.ReferenceIdeal.defs _ _).mono (fun r h => ⟨fun c => (h c).2.2.2.2.2.2.2.2.2, sem_eq_zero_of_no_sems rfl r.2⟩)
    (Cert.ReferenceIdeal.Value.run m ρ)

theorem kept_preserves : Cert.preserves_Kernel_KernelIdeal := trivial

end Cert.Gla

end
-- ==== Proof.Value.lean ====
/- The kernel's results are the reference's. -/
module

public import proofs.«01_k».proof.Proof.KerOut
public import proofs.«01_k».proof.Proof.RefValue
public import proofs.«01_k».proof.Proof.Real
public import proofs.«01_k».proof.Proof.Frames

@[expose] public section

set_option maxRecDepth 16384

noncomputable section

namespace Cert.Gla

open Idealize.ShloMosaic Idealize.ShloMosaic.TcCoe Idealize.SL Idealize.SL.Sem
open Cert.KernelIdeal Cert.KernelIdeal.Gen
open Cert.ReferenceIdeal.Value (out_main_v50 out_main_v55 out_main_v60 out_main_v64 out_main_v70 out_main_v76 out_main_v82 out_main_v87 out_main_v89)

attribute [local irreducible] ended out_main_v50 out_main_v55 out_main_v60 out_main_v64 out_main_v70 out_main_v76 out_main_v82 out_main_v87
  out_main_v89

theorem value : Cert.algebraic_KernelIdeal_ReferenceIdeal_pre_finite := by
  intro m g m' g' hm hargs
  have hA := kerArgs_fine m hm
  have hR : ∀ c : Dev nD, refArgs m' c = kerArgs m c := fun c => by
    obtain ⟨h0, h1, h2, h3, h4, h5, h6, h7⟩ := hargs c
    unfold refArgs kerArgs
    rw [Args.mk.injEq]
    exact ⟨funext fun i => funext fun l => congrFun h0 (ix2 i l), funext fun i => funext fun l => congrFun h1 (ix2 i l),
      funext fun i => funext fun l => congrFun h2 (ix2 i l), funext fun i => funext fun l => congrFun h3 (ix2 i l),
      funext fun i => funext fun l => congrFun h4 (ix2 i l), funext fun t => funext fun y => funext fun l => congrFun h5 (ix3 t y l),
      funext fun t => funext fun y => funext fun l => congrFun h6 (ix3 t y l), funext fun d => funext fun y => funext fun l => congrFun h7 (ix3 d y l)⟩
  have k0 (c : Dev nD) := out13 m c (hA c) (out_main_v50 (ended m' c)) fun t r p x => hR c ▸ ref_v50 m' c t p r x
  have k1 (c : Dev nD) := out14 m c (hA c) (out_main_v55 (ended m' c)) fun t r p x => hR c ▸ ref_v55 m' c t p r x
  have k2 (c : Dev nD) := out15 m c (hA c) (out_main_v60 (ended m' c)) fun t r p x => hR c ▸ ref_v60 m' c t p r x
  have k3 (c : Dev nD) := out16 m c (hA c) (out_main_v64 (ended m' c)) fun t r p x => hR c ▸ ref_v64 m' c t p r x
  have k4 (c : Dev nD) := out17 m c (hA c) (out_main_v70 (ended m' c)) fun t r p x => hR c ▸ ref_v70 m' c t p r x
  have k5 (c : Dev nD) := out18 m c (hA c) (out_main_v76 (ended m' c)) fun t r p x => hR c ▸ ref_v76 m' c t p r x
  have k6 (c : Dev nD) := out19 m c (hA c) (out_main_v82 (ended m' c)) fun t r p x => hR c ▸ ref_v82 m' c t p r x
  have k7 (c : Dev nD) := out20 m c (hA c) (out_main_v87 (ended m' c)) fun t r p x => hR c ▸ ref_v87 m' c t p r x
  have k8 (c : Dev nD) := out21 m c (hA c) (out_main_v89 (ended m' c)) (fun p x y => hR c ▸ ref_v89_zero m' c p x y)
    (fun p x y => hR c ▸ ref_v89_one m' c p x y)
  refine ⟨fun c => out_main_v50 (ended m' c), fun c => out_main_v55 (ended m' c), fun c => out_main_v60 (ended m' c),
    fun c => out_main_v64 (ended m' c), fun c => out_main_v70 (ended m' c), fun c => out_main_v76 (ended m' c),
    fun c => out_main_v82 (ended m' c), fun c => out_main_v87 (ended m' c), fun c => out_main_v89 (ended m' c), ?_, ?_⟩
  · exact (θ_run defs _ _).mono (fun _ h c => ⟨((h.1 c).1 13).trans (k0 c), ((h.1 c).1 14).trans (k1 c), ((h.1 c).1 15).trans (k2 c),
      ((h.1 c).1 16).trans (k3 c), ((h.1 c).1 17).trans (k4 c), ((h.1 c).1 18).trans (k5 c), ((h.1 c).1 19).trans (k6 c),
      ((h.1 c).1 20).trans (k7 c), ((h.1 c).1 21).trans (k8 c),
      arg_kept m h.1 c 6 rfl, arg_kept m h.1 c 7 rfl, arg_kept m h.1 c 8 rfl, arg_kept m h.1 c 9 rfl, arg_kept m h.1 c 10 rfl,
      arg_kept m h.1 c 5 rfl, arg_kept m h.1 c 11 rfl, arg_kept m h.1 c 12 rfl⟩) (run m g)
  · exact ref_run m' g'

end Cert.Gla

end
-- ==== Proof.Grad.lean ====
/- The weight gradient: the kernel adds up its blocks of tokens to the reference's product. -/
module

public import proofs.«01_k».proof.Defs
public import proofs.«01_k».proof.Proof.Gen.GradKernel.Frame
public import proofs.«01_k».proof.Proof.Gen.GradKernelIdeal.Value
public import proofs.«01_k».proof.Proof.Gen.GradReferenceIdeal.Run
public import Idealize.ShloMosaic.Lib.Quiescent
public import Idealize.ShloMosaic.Lib.Pipeline.ValueKit

@[expose] public section

set_option maxRecDepth 16384

noncomputable section

namespace Cert.Grad

open Idealize.ShloMosaic Idealize.ShloMosaic.TcCoe Idealize.SL.Sem
open Idealize.ShloMosaic.Pipeline (Dat)
open Cert.GradKernelIdeal Cert.GradKernelIdeal.Gen

variable (m : (ℓ : Loc nD τ sig) → Buf (Elt Ideal) ℓ)

/-- The reference's weight gradient of the arrays `A` (tokens by outputs of the transposed weight) and `B`. -/
abbrev grad (A : FVec Ideal S16384x2816 .bf16) (B : FVec Ideal S16384x1024 .bf16) : FVec Ideal S2816x1024 .f32 :=
  transpose S2816x1024 [1, 0]
    (Host.dotGeneral Cert.GradReferenceIdeal.dot_S16384x1024_S16384x2816_S1024x2816_0_0_1_1_n_n none
      (extf .f32 B Cert.GradReferenceIdeal.Gen.bitsLt_bf16_f32) (extf .f32 A Cert.GradReferenceIdeal.Gen.bitsLt_bf16_f32))
    Cert.GradReferenceIdeal.Gen.transposes_S1024x2816_S2816x1024_1_0

theorem zero_at (j : S1408x1024.Idx) : k0_pay1 (F := Ideal) j = 0 := by
  pointwise [k0_pay1]

theorem part_at (acc : Vec Ideal S1408x1024 .f32) (x : Vec Ideal S2048x1408 .bf16) (y : Vec Ideal S2048x1024 .bf16) (j : S1408x1024.Idx) :
    k0_pay2 (F := Ideal) acc x y j = acc j + ∑ k : Fin 2048, x (ix2 k (j 0)) * y (ix2 k (j 1)) := by
  pointwise [k0_pay2]

theorem kept_at (acc : Vec Ideal S1408x1024 .f32) (j : S1408x1024.Idx) : k0_pay3 (F := Ideal) acc j = acc j := by
  pointwise [k0_pay3]

theorem grad_at (A : FVec Ideal S16384x2816 .bf16) (B : FVec Ideal S16384x1024 .bf16) (j : S2816x1024.Idx) :
    grad A B j = ∑ l : Fin 16384, A (ix2 l (j 0)) * B (ix2 l (j 1)) := by
  pointwise [grad]
  exact Fin.sum_fin_congr fun k => mul_comm _ _

theorem idx : ∀ t : Fin cfg0.N, win0_0.index t = ![t.val % 8, t.val / 8] ∧ win0_1.index t = ![t.val % 8, 0]
    ∧ win0_2.index t = ![t.val / 8, 0] ∧ win0_3.index t = ![t.val / 8, 0] :=
  (by decide +kernel : ∀ t : Fin grid0.N, _)

/-- The first output's block after a run of eight token blocks: the sum of their parts. -/
theorem acc_sum (c : Dev nD) (t : Fin cfg0.N) (h : t.val % 8 = 8 - 1) (j : S1408x1024.Idx) :
    (outsAt0 m c t.val t.isLt).1 j
      = ∑ s : Fin 8, ∑ k : Fin 2048,
          (show FVec Ideal S2048x1408 .bf16 from iblk m c 0 ⟨8 * (t.val / 8) + s.val, Pipeline.run_point_lt_of_flush t h s⟩) (ix2 k (j 0))
            * (show FVec Ideal S2048x1024 .bf16 from iblk m c 1 ⟨8 * (t.val / 8) + s.val, Pipeline.run_point_lt_of_flush t h s⟩) (ix2 k (j 1)) := by
  refine (Pipeline.eq_sum_fin_of_reset_step_apply_of_flush (fun n h => (outsAt0 m c n h).1) 8 (fun _ => (0 : EReal))
    (fun p j => ∑ k : Fin 2048, (show FVec Ideal S2048x1408 .bf16 from iblk m c 0 p) (ix2 k (j 0))
      * (show FVec Ideal S2048x1024 .bf16 from iblk m c 1 p) (ix2 k (j 1)))
    (fun t h j => ?_) (fun t h j => ?_) t h j).trans (zero_add _)
  · rw [outsAt0_A m c t h (by omega)]
    frame_out
    rw [part_at, zero_at]
  · by_cases h1 : t.val % 8 = 7
    · rw [outsAt0_C m c t h h1]
      frame_out
      rw [part_at]
    · rw [outsAt0_B m c t h h1]
      frame_out
      rw [part_at]

theorem acc_eq (c : Dev nD) (t : Fin cfg0.N) (h : t.val % 8 = 8 - 1) (j : S1408x1024.Idx) (i : S2816x1024.Idx)
    (h0 : (i 0 : ℕ) = t.val / 8 * 1408 + (j 0 : ℕ)) (h1 : (i 1 : ℕ) = j 1) :
    (outsAt0 m c t.val t.isLt).1 j = grad (m ((c : Thread nD τ).loc main_arg0)) (m ((c : Thread nD τ).loc main_arg1)) i := by
  rw [acc_sum m c t h j, grad_at]
  refine Fin.sum_mul_add_congr fun s k hl => ?_
  have hs := idx ⟨_, Pipeline.run_point_lt_of_flush t h s⟩
  blk_point [iblk, V, hs]

theorem final2 (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  refine acc_eq m c t ((flush0_2 t).mp hf) y _ ?_ ?_ <;> blk_simp [idx t]

theorem final3 (c : Dev nD) : (dats m 0 c).arrAt 3 cfg0.N
    = truncf .bf16 (grad (m ((c : Thread nD τ).loc main_arg0)) (m ((c : Thread nD τ).loc main_arg1))) Cert.GradReferenceIdeal.Gen.bitsLt_bf16_f32 := by
  refine (dats m 0 c).arrAt_eq_of_covers 3 _ (by decide +kernel) fun t hf y => ?_
  have h := (flush0_3 t).mp hf
  blk_simp
  have e := acc_eq m c t h y (((cfg0.win 3).blk t).view.emb y) (by blk_simp [idx t]) (by blk_simp [idx t])
  refine Eq.trans ?_ e
  rw [after0_3]
  rw [outsAt0_C m c t (by omega) h]
  frame_out
  rw [kept_at]

theorem value : Cert.algebraic_GradKernelIdeal_GradReferenceIdeal := by
  intro m g m' g' _ hargs
  refine ⟨fun c => grad (m ((c : Thread nD τ).loc main_arg0)) (m ((c : Thread nD τ).loc main_arg1)),
    fun c => truncf .bf16 (grad (m ((c : Thread nD τ).loc main_arg0)) (m ((c : Thread nD τ).loc main_arg1)))
      Cert.GradReferenceIdeal.Gen.bitsLt_bf16_f32, ?_, ?_⟩
  · refine (θ_run _ _ _).mono (fun r h c => ?_) (Cert.GradKernelIdeal.Value.run_blocks m g)
    obtain ⟨h2, h3, ha, hb⟩ := h c
    exact ⟨h2.trans (final2 m c), h3.trans (final3 m c), ha, hb⟩
  · refine (θ_run _ _ _).mono (fun r h c => ?_) (Cert.GradReferenceIdeal.Value.run m' g')
    obtain ⟨h5, h6, ha, hb⟩ := h c
    obtain ⟨e0, e1⟩ := hargs c
    rw [e0, e1] at h5 h6
    exact ⟨h5, h6, ha, hb⟩

theorem frame_reference : Cert.quiescent_GradReferenceIdeal := fun m g _ =>
  (θ_run _ _ _).mono (fun r h => ⟨fun c => (h c).2.2, sem_eq_zero_of_no_sems rfl r.2⟩)
    (Cert.GradReferenceIdeal.Value.run m g)

end Cert.Grad

end
-- ==== Proof.FfnArrays.lean ====
/- The feed-forward layer's backward pass up to its two products: what the two kernel calls leave in their arrays. -/
module

public import proofs.«01_k».proof.Proof.Gen.FfnKernelIdeal.Frame
public import Idealize.ShloMosaic.Lib.Pipeline.ValueKit

@[expose] public section

set_option maxRecDepth 16384

noncomputable section

namespace Cert.Ffn

open Idealize.ShloMosaic Idealize.ShloMosaic.TcCoe Idealize.SL Idealize.SL.Sem
open Idealize.ShloMosaic.Pipeline (Dat)
open Cert.FfnKernelIdeal Cert.FfnKernelIdeal.Gen

/-- The product of the tokens `h` and a transposed weight. -/
def dots (h : FVec Ideal S16384x1024 .bf16) (w : FVec Ideal S2816x1024 .bf16) (i : S16384x2816.Idx) : EReal :=
  ∑ k : Fin 1024, h (ix2 (i 0) k) * w (ix2 (i 1) k)

/-- The logistic function, as the kernel writes it. -/
def logistic (x : EReal) : EReal := Ideal.div 1 (1 + Ideal.exp (0 - x))

/-- The gate's activation. -/
def act (h : FVec Ideal S16384x1024 .bf16) (wg : FVec Ideal S2816x1024 .bf16) : FVec Ideal S16384x2816 .bf16 :=
  fun i => dots h wg i * logistic (dots h wg i)

/-- The activation's derivative times the up product. -/
def dact (h : FVec Ideal S16384x1024 .bf16) (wg wu : FVec Ideal S2816x1024 .bf16) : FVec Ideal S16384x2816 .bf16 :=
  fun i => dots h wu i * (logistic (dots h wg i) * (1 + dots h wg i * (1 - logistic (dots h wg i))))

/-- The hidden values. -/
def hid (h : FVec Ideal S16384x1024 .bf16) (wg wu : FVec Ideal S2816x1024 .bf16) : FVec Ideal S16384x2816 .bf16 :=
  fun i => act h wg i * dots h wu i

/-- The hidden values' cotangent times `f`. -/
def scaled (d : FVec Ideal S16384x1024 .bf16) (wd : FVec Ideal S2816x1024 .bf16) (f : FVec Ideal S16384x2816 .bf16) :
    FVec Ideal S16384x2816 .bf16 :=
  fun i => dots d wd i * f i

theorem act_at (x : Vec Ideal S1024x1024 .bf16) (y : Vec Ideal S1408x1024 .bf16) (j : S1024x1408.Idx) (g : EReal)
    (hg : ∑ k : Fin 1024, x (ix2 (j 0) k) * y (ix2 (j 1) k) = g) :
    k0_pay5 (F := Ideal) x y j = g * logistic g := by
  subst hg
  pointwise [k0_pay5, k0_pay4, k0_pay3, k0_pay1, logistic]

theorem dact_at (x : Vec Ideal S1024x1024 .bf16) (y z : Vec Ideal S1408x1024 .bf16) (j : S1024x1408.Idx) (g u : EReal)
    (hg : ∑ k : Fin 1024, x (ix2 (j 0) k) * y (ix2 (j 1) k) = g) (hu : ∑ k : Fin 1024, x (ix2 (j 0) k) * z (ix2 (j 1) k) = u) :
    k0_pay6 (F := Ideal) x y z j = u * (logistic g * (1 + g * (1 - logistic g))) := by
  subst hg hu
  pointwise [k0_pay6, k0_pay2, k0_pay4, k0_pay3, k0_pay1, logistic]

theorem hid_at (x : Vec Ideal S1024x1024 .bf16) (y z : Vec Ideal S1408x1024 .bf16) (j : S1024x1408.Idx) (g u : EReal)
    (hg : ∑ k : Fin 1024, x (ix2 (j 0) k) * y (ix2 (j 1) k) = g) (hu : ∑ k : Fin 1024, x (ix2 (j 0) k) * z (ix2 (j 1) k) = u) :
    k0_pay7 (F := Ideal) x y z j = g * logistic g * u := by
  subst hg hu
  pointwise [k0_pay7, k0_pay2, k0_pay4, k0_pay3, k0_pay1, logistic]

theorem up_at (x : Vec Ideal S1024x1024 .bf16) (y : Vec Ideal S1408x1024 .bf16) (f : Vec Ideal S1024x1408 .bf16) (j : S1024x1408.Idx)
    (p e : EReal) (hp : ∑ k : Fin 1024, x (ix2 (j 0) k) * y (ix2 (j 1) k) = p) (he : f j = e) :
    k1_pay3 (F := Ideal) x y f j = p * e := by
  subst hp he
  pointwise [k1_pay3, k1_pay1]

theorem gate_at (x : Vec Ideal S1024x1024 .bf16) (y : Vec Ideal S1408x1024 .bf16) (f : Vec Ideal S1024x1408 .bf16) (j : S1024x1408.Idx)
    (p e : EReal) (hp : ∑ k : Fin 1024, x (ix2 (j 0) k) * y (ix2 (j 1) k) = p) (he : f j = e) :
    k1_pay2 (F := Ideal) x y f j = p * e := by
  subst hp he
  pointwise [k1_pay2, k1_pay1]

theorem idx0 : ∀ t : Fin cfg0.N, win0_0.index t = ![t.val % 16, 0] ∧ win0_1.index t = ![t.val / 16, 0]
    ∧ win0_2.index t = ![t.val / 16, 0] ∧ win0_3.index t = ![t.val % 16, t.val / 16] ∧ win0_4.index t = ![t.val % 16, t.val / 16]
    ∧ win0_5.index t = ![t.val % 16, t.val / 16] :=
  (by decide +kernel : ∀ t : Fin grid0.N, _)

theorem idx1 : ∀ t : Fin cfg1.N, win1_0.index t = ![t.val % 16, 0] ∧ win1_1.index t = ![t.val % 16, t.val / 16]
    ∧ win1_2.index t = ![t.val % 16, t.val / 16] ∧ win1_3.index t = ![t.val / 16, 0] ∧ win1_4.index t = ![t.val % 16, t.val / 16]
    ∧ win1_5.index t = ![t.val % 16, t.val / 16] :=
  (by decide +kernel : ∀ t : Fin grid1.N, _)

section Regions
variable (V : (c : Dev nD) → (b : Ref sig .tc) → Buf (Elt Ideal) ((c : Thread nD τ).loc b)) (c : Dev nD)

theorem dots0_1 (t : Fin cfg0.N) (j : S1024x1408.Idx) (i : S16384x2816.Idx) (h0 : (i 0 : ℕ) = t.val % 16 * 1024 + (j 0 : ℕ))
    (h1 : (i 1 : ℕ) = t.val / 16 * 1408 + (j 1 : ℕ)) :
    ∑ k : Fin 1024, (show FVec Ideal S1024x1024 .bf16 from iblk0 V c 0 t) (ix2 (j 0) k)
        * (show FVec Ideal S1408x1024 .bf16 from iblk0 V c 1 t) (ix2 (j 1) k)
      = dots (V c main_arg0) (V c main_arg1) i := by
  refine Finset.sum_congr rfl fun k _ => ?_
  blk_point [iblk0, idx0 t]

theorem dots0_2 (t : Fin cfg0.N) (j : S1024x1408.Idx) (i : S16384x2816.Idx) (h0 : (i 0 : ℕ) = t.val % 16 * 1024 + (j 0 : ℕ))
    (h1 : (i 1 : ℕ) = t.val / 16 * 1408 + (j 1 : ℕ)) :
    ∑ k : Fin 1024, (show FVec Ideal S1024x1024 .bf16 from iblk0 V c 0 t) (ix2 (j 0) k)
        * (show FVec Ideal S1408x1024 .bf16 from iblk0 V c 2 t) (ix2 (j 1) k)
      = dots (V c main_arg0) (V c main_arg2) i := by
  refine Finset.sum_congr rfl fun k _ => ?_
  blk_point [iblk0, idx0 t]

theorem dots1 (t : Fin cfg1.N) (j : S1024x1408.Idx) (i : S16384x2816.Idx) (h0 : (i 0 : ℕ) = t.val % 16 * 1024 + (j 0 : ℕ))
    (h1 : (i 1 : ℕ) = t.val / 16 * 1408 + (j 1 : ℕ)) :
    ∑ k : Fin 1024, (show FVec Ideal S1024x1024 .bf16 from iblk1 V c 0 t) (ix2 (j 0) k)
        * (show FVec Ideal S1408x1024 .bf16 from iblk1 V c 3 t) (ix2 (j 1) k)
      = dots (V c main_arg4) (V c main_arg3) i := by
  refine Finset.sum_congr rfl fun k _ => ?_
  blk_point [iblk1, idx1 t]

theorem final0_3 : (dat0 V c).arrAt 3 cfg0.N = act (V c main_arg0) (V c main_arg1) := by
  refine (dat0 V c).arrAt_eq_of_covers 3 _ (by decide +kernel) fun t hf y => ?_
  have e := dots0_1 V c t y (((cfg0.win 3).blk t).view.emb y) (by blk_simp [idx0 t]) (by blk_simp [idx0 t])
  blk_simp
  rw [after0_3]
  frame_out
  exact act_at _ _ _ _ e

theorem final0_4 : (dat0 V c).arrAt 4 cfg0.N = dact (V c main_arg0) (V c main_arg1) (V c main_arg2) := by
  refine (dat0 V c).arrAt_eq_of_covers 4 _ (by decide +kernel) fun t hf y => ?_
  have e := dots0_1 V c t y (((cfg0.win 4).blk t).view.emb y) (by blk_simp [idx0 t]) (by blk_simp [idx0 t])
  have f := dots0_2 V c t y (((cfg0.win 4).blk t).view.emb y) (by blk_simp [idx0 t]) (by blk_simp [idx0 t])
  blk_simp
  rw [after0_4]
  frame_out
  exact dact_at _ _ _ _ _ _ e f

theorem final0_5 : (dat0 V c).arrAt 5 cfg0.N = hid (V c main_arg0) (V c main_arg1) (V c main_arg2) := by
  refine (dat0 V c).arrAt_eq_of_covers 5 _ (by decide +kernel) fun t hf y => ?_
  have e := dots0_1 V c t y (((cfg0.win 5).blk t).view.emb y) (by blk_simp [idx0 t]) (by blk_simp [idx0 t])
  have f := dots0_2 V c t y (((cfg0.win 5).blk t).view.emb y) (by blk_simp [idx0 t]) (by blk_simp [idx0 t])
  blk_simp
  rw [after0_5]
  frame_out
  exact hid_at _ _ _ _ _ _ e f

theorem final1_4 : (dat1 V c).arrAt 4 cfg1.N = scaled (V c main_arg4) (V c main_arg3) (V c main_v0_1) := by
  refine (dat1 V c).arrAt_eq_of_covers 4 _ (by decide +kernel) fun t hf y => ?_
  have e := dots1 V c t y (((cfg1.win 4).blk t).view.emb y) (by blk_simp [idx1 t]) (by blk_simp [idx1 t])
  have f : (show FVec Ideal S1024x1408 .bf16 from iblk1 V c 2 t) y
      = (show FVec Ideal S16384x2816 .bf16 from V c main_v0_1) (((cfg1.win 4).blk t).view.emb y) := by
    blk_point [iblk1, idx1 t]
  blk_simp
  rw [after1_4]
  frame_out
  exact gate_at _ _ _ _ _ _ e f

theorem final1_5 : (dat1 V c).arrAt 5 cfg1.N = scaled (V c main_arg4) (V c main_arg3) (V c main_v0_0) := by
  refine (dat1 V c).arrAt_eq_of_covers 5 _ (by decide +kernel) fun t hf y => ?_
  have e := dots1 V c t y (((cfg1.win 5).blk t).view.emb y) (by blk_simp [idx1 t]) (by blk_simp [idx1 t])
  have f : (show FVec Ideal S1024x1408 .bf16 from iblk1 V c 1 t) y
      = (show FVec Ideal S16384x2816 .bf16 from V c main_v0_0) (((cfg1.win 5).blk t).view.emb y) := by
    blk_point [iblk1, idx1 t]
  blk_simp
  rw [after1_5]
  frame_out
  exact up_at _ _ _ _ _ _ e f

end Regions

end Cert.Ffn

end
-- ==== Proof.FfnRun.lean ====
/- The feed-forward layer's backward kernel ends with its results as its two calls leave them. -/
module

public import proofs.«01_k».proof.Proof.Gen.FfnKernelIdeal.Frame
public import Idealize.ShloMosaic.PureOps.Ideal.Laws

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)
open Cert.FfnKernelIdeal Cert.FfnKernelIdeal.Gen

variable (m : (ℓ : Loc nD τ sig) → Buf (Elt Ideal) ℓ) (ρ : Dev nD → PrngReg)

set_option backward.isDefEq.respectTransparency.types false in
/-- The kernel ends with its results as the two calls leave them, and its arguments as launched. -/
theorem run_results : θ_run defs (onTc (τ := τ) (main (F := Ideal))) ⟨m, fun _ => 0, ρ⟩ (fun r => ∀ c : Dev nD,
      r.2.mem ((c.tc : Thread nD τ).loc main_v0_2) = W2 m ρ c (Proc.devRef .tc main_v0_2)
      ∧ r.2.mem ((c.tc : Thread nD τ).loc main_v1_0) = W2 m ρ c (Proc.devRef .tc main_v1_0)
      ∧ r.2.mem ((c.tc : Thread nD τ).loc main_v1_1) = W2 m ρ c (Proc.devRef .tc main_v1_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => fun c =>
      ⟨h c _ (mem_uc main_v0_2 (by decide)), h c _ (mem_uc main_v1_0 (by decide)), h c _ (mem_uc main_v1_1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c)⟩)

end Cert.Ffn

end
-- ==== Proof.Fields.lean ====
/- Division and inverse square roots of real numbers among the extended reals. -/
module

public import proofs.«01_k».proof.Proof.Spec

@[expose] public section

noncomputable section

namespace Cert.Gla

open Idealize.ShloMosaic

theorem IsReal.coe (r : ℝ) : IsReal (r : EReal) := ⟨r, rfl⟩

theorem IsReal.one : IsReal 1 := ⟨1, rfl⟩

/-- Division by a real number other than zero. -/
theorem IsReal.div {x : EReal} (hx : IsReal x) {y : ℝ} (hy : y ≠ 0) : IsReal (Ideal.div x (y : EReal)) := by
  rw [Ideal.div_coe hy]
  exact hx.mul (IsReal.coe _)

end Cert.Gla

end
-- ==== Proof.Ffn.lean ====
/- The feed-forward layer's backward pass up to its two products: the kernel's results are the reference's. -/
module

public import proofs.«01_k».proof.Proof.FfnArrays
public import proofs.«01_k».proof.Proof.FfnRun
public import proofs.«01_k».proof.Proof.Fields
public import proofs.«01_k».proof.Proof.Real
public import proofs.«01_k».proof.Proof.Gen.FfnReferenceIdeal.Run
public import proofs.«01_k».proof.Proof.Gen.FfnKernel.Frame
public import Idealize.ShloMosaic.Lib.Quiescent

@[expose] public section

set_option maxRecDepth 16384

noncomputable section

namespace Cert.Ffn

open Idealize.ShloMosaic Idealize.ShloMosaic.TcCoe Idealize.SL Idealize.SL.Sem Idealize.SL.BI
open scoped Idealize.SL.BI
open Idealize.ShloMosaic.Pipeline (Dat)
open Cert.Gla (IsReal)
open Cert.FfnKernelIdeal Cert.FfnKernelIdeal.Gen

variable (m : (ℓ : Loc nD τ sig) → Buf (Elt Ideal) ℓ) (ρ : Dev nD → PrngReg)

/-- The shape relations the precondition's text takes. -/
instance facts : Cert.Pre_finite_ffn.Facts where
  bitsLt_bf16_f32 := by decide
  bcast_S_S16384x1024 := by decide
  reducesTo_S16384x1024_S_d0_1 := by decide
  h_S_ := by decide
  bcast_S_S2816x1024 := by decide
  reducesTo_S2816x1024_S_d0_1 := by decide

/-- What the precondition says: every entry of the arguments is a real number. -/
structure Fine (h : FVec Ideal S16384x1024 .bf16) (wg wu wd : FVec Ideal S2816x1024 .bf16) (d : FVec Ideal S16384x1024 .bf16) : Prop where
  h : ∀ i, IsReal (h i)
  wg : ∀ i, IsReal (wg i)
  wu : ∀ i, IsReal (wu i)
  wd : ∀ i, IsReal (wd i)
  d : ∀ i, IsReal (d i)

theorem fine (hm : Cert.Pre_FfnKernelIdeal_finite_ffn m) (c : Dev nD) :
    Fine (m ((c : Thread nD τ).loc main_arg0)) (m ((c : Thread nD τ).loc main_arg1)) (m ((c : Thread nD τ).loc main_arg2))
      (m ((c : Thread nD τ).loc main_arg3)) (m ((c : Thread nD τ).loc main_arg4)) := by
  have h := congrFun (hm c) (fun i => i.elim0)
  unfold Cert.Pre_finite_ffn.fn Cert.Pre_finite_ffn.fn_part1 at h
  dsimp only at h
  simp only [andi, IntOp.andi_eq_one] at h
  obtain ⟨⟨⟨⟨h0, h1⟩, h2⟩, h3⟩, h4⟩ := h
  exact ⟨fun i => Cert.Gla.real_of_reduce _ _ _ _ _ _ (fun _ => rfl) h0 i, fun i => Cert.Gla.real_of_reduce _ _ _ _ _ _ (fun _ => rfl) h1 i,
    fun i => Cert.Gla.real_of_reduce _ _ _ _ _ _ (fun _ => rfl) h2 i, fun i => Cert.Gla.real_of_reduce _ _ _ _ _ _ (fun _ => rfl) h3 i,
    fun i => Cert.Gla.real_of_reduce _ _ _ _ _ _ (fun _ => rfl) h4 i⟩

/-! ## The kernel's run -/

theorem result_hid (c : Dev nD) : W2 m ρ c (Proc.devRef .tc main_v0_2)
    = hid (m ((c : Thread nD τ).loc main_arg0)) (m ((c : Thread nD τ).loc main_arg1)) (m ((c : Thread nD τ).loc main_arg2)) :=
  (W2_of_ne m ρ c main_v0_2 (by decide)).trans ((W1_arr m ρ c 5).trans (final0_5 (V0 m ρ) c))

theorem result_gate (c : Dev nD) : W2 m ρ c (Proc.devRef .tc main_v1_0)
    = scaled (m ((c : Thread nD τ).loc main_arg4)) (m ((c : Thread nD τ).loc main_arg3))
        (dact (m ((c : Thread nD τ).loc main_arg0)) (m ((c : Thread nD τ).loc main_arg1)) (m ((c : Thread nD τ).loc main_arg2))) := by
  refine (W2_arr m ρ c 4).trans ((final1_4 (V1 m ρ) c).trans ?_)
  have e : V1 m ρ c main_v0_1 = dact (m ((c : Thread nD τ).loc main_arg0)) (m ((c : Thread nD τ).loc main_arg1))
      (m ((c : Thread nD τ).loc main_arg2)) := (W1_arr m ρ c 4).trans (final0_4 (V0 m ρ) c)
  have h4 : V1 m ρ c main_arg4 = m ((c : Thread nD τ).loc main_arg4) := W1_of_ne m ρ c main_arg4 (by decide)
  have h3 : V1 m ρ c main_arg3 = m ((c : Thread nD τ).loc main_arg3) := W1_of_ne m ρ c main_arg3 (by decide)
  rw [e, h4, h3]

theorem result_up (c : Dev nD) : W2 m ρ c (Proc.devRef .tc main_v1_1)
    = scaled (m ((c : Thread nD τ).loc main_arg4)) (m ((c : Thread nD τ).loc main_arg3))
        (act (m ((c : Thread nD τ).loc main_arg0)) (m ((c : Thread nD τ).loc main_arg1))) := by
  refine (W2_arr m ρ c 5).trans ((final1_5 (V1 m ρ) c).trans ?_)
  have e : V1 m ρ c main_v0_0 = act (m ((c : Thread nD τ).loc main_arg0)) (m ((c : Thread nD τ).loc main_arg1)) :=
    (W1_arr m ρ c 3).trans (final0_3 (V0 m ρ) c)
  have h4 : V1 m ρ c main_arg4 = m ((c : Thread nD τ).loc main_arg4) := W1_of_ne m ρ c main_arg4 (by decide)
  have h3 : V1 m ρ c main_arg3 = m ((c : Thread nD τ).loc main_arg3) := W1_of_ne m ρ c main_arg3 (by decide)
  rw [e, h4, h3]

/-! ## The reference -/

/-- The reference's gate product. -/
abbrev refGate (h : FVec Ideal S16384x1024 .bf16) (w : FVec Ideal S2816x1024 .bf16) : FVec Ideal S16384x2816 .f32 :=
  Host.dotGeneral Cert.FfnReferenceIdeal.dot_S16384x1024_S1024x2816_S16384x2816_1_0_0_1_n_n none (extf .f32 h Cert.FfnReferenceIdeal.Gen.bitsLt_bf16_f32)
    (transpose Cert.FfnReferenceIdeal.S1024x2816 [1, 0] (extf .f32 w Cert.FfnReferenceIdeal.Gen.bitsLt_bf16_f32) Cert.FfnReferenceIdeal.Gen.transposes_S2816x1024_S1024x2816_1_0)

abbrev refOut (d : FVec Ideal S16384x1024 .bf16) (w : FVec Ideal S2816x1024 .bf16) : FVec Ideal S16384x2816 .f32 :=
  Host.dotGeneral Cert.FfnReferenceIdeal.dot_S16384x1024_S2816x1024_S16384x2816_1_1_0_0_n_n none (extf .f32 d Cert.FfnReferenceIdeal.Gen.bitsLt_bf16_f32)
    (extf .f32 w Cert.FfnReferenceIdeal.Gen.bitsLt_bf16_f32)

abbrev refOne : FVec Ideal S16384x2816 .f32 := broadcastInDim S16384x2816 ![] Cert.FfnReferenceIdeal.Gen.bcast_S_S16384x2816 (constant Cert.FfnReferenceIdeal.S_ .f32 0x3F800000#32)

abbrev refLogistic (g : FVec Ideal S16384x2816 .f32) : FVec Ideal S16384x2816 .f32 :=
  Host.divf refOne (addf refOne (Host.exp (Host.negf g)))

/-- The reference's hidden values. -/
abbrev refHid (h : FVec Ideal S16384x1024 .bf16) (wg wu : FVec Ideal S2816x1024 .bf16) : FVec Ideal S16384x2816 .bf16 :=
  truncf .bf16 (mulf (mulf (refGate h wg) (refLogistic (refGate h wg))) (refGate h wu)) Cert.FfnReferenceIdeal.Gen.bitsLt_bf16_f32

/-- The reference's cotangent of the gate product. -/
abbrev refDGate (h : FVec Ideal S16384x1024 .bf16) (wg wu wd : FVec Ideal S2816x1024 .bf16) (d : FVec Ideal S16384x1024 .bf16) :
    FVec Ideal S16384x2816 .bf16 :=
  truncf .bf16 (addf (mulf (mulf (refOut d wd) (refGate h wu)) (refLogistic (refGate h wg)))
    (mulf (mulf (refGate h wg) (mulf (refOut d wd) (refGate h wu)))
      (mulf (refLogistic (refGate h wg)) (subf refOne (refLogistic (refGate h wg)))))) Cert.FfnReferenceIdeal.Gen.bitsLt_bf16_f32

/-- The reference's cotangent of the up product. -/
abbrev refDUp (h : FVec Ideal S16384x1024 .bf16) (wg wd : FVec Ideal S2816x1024 .bf16) (d : FVec Ideal S16384x1024 .bf16) :
    FVec Ideal S16384x2816 .bf16 :=
  truncf .bf16 (mulf (mulf (refGate h wg) (refLogistic (refGate h wg))) (refOut d wd)) Cert.FfnReferenceIdeal.Gen.bitsLt_bf16_f32

theorem refGate_at (h : FVec Ideal S16384x1024 .bf16) (w : FVec Ideal S2816x1024 .bf16) (i : S16384x2816.Idx) :
    refGate h w i = dots h w i := by
  pointwise [refGate, dots]

theorem refOut_at (h : FVec Ideal S16384x1024 .bf16) (w : FVec Ideal S2816x1024 .bf16) (i : S16384x2816.Idx) :
    refOut h w i = dots h w i := by
  pointwise [refOut, dots]

theorem refOne_at (i : S16384x2816.Idx) : refOne i = 1 := by
  pointwise [refOne]

theorem refLogistic_at (g : FVec Ideal S16384x2816 .f32) (i : S16384x2816.Idx) : refLogistic g i = logistic (g i) := by
  have e : refLogistic g i = Ideal.div 1 (1 + Ideal.exp (-(g i))) := by pointwise [refLogistic]
  rw [e, logistic, sub_eq_add_neg, zero_add]

theorem logistic_real {x : EReal} (hx : IsReal x) : IsReal (logistic x) := by
  obtain ⟨r, rfl⟩ := hx
  have e : (1 : EReal) + Ideal.exp (0 - (r : EReal)) = ((1 + Real.exp (0 - r) : ℝ) : EReal) := by
    rw [← EReal.coe_zero, ← EReal.coe_sub, Ideal.exp_coe, EReal.coe_add]
    rfl
  rw [logistic, e]
  exact IsReal.one.div (by positivity)

theorem dots_real {h : FVec Ideal S16384x1024 .bf16} {w : FVec Ideal S2816x1024 .bf16} (hh : ∀ i, IsReal (h i)) (hw : ∀ i, IsReal (w i))
    (i : S16384x2816.Idx) : IsReal (dots h w i) :=
  IsReal.sum _ fun k => (hh _).mul (hw _)

theorem hid_eq (h : FVec Ideal S16384x1024 .bf16) (wg wu : FVec Ideal S2816x1024 .bf16) : hid h wg wu = refHid h wg wu := by
  funext i
  refine Eq.trans ?_ (show (refGate h wg i * refLogistic (refGate h wg) i) * refGate h wu i = refHid h wg wu i from rfl)
  rw [refLogistic_at, refGate_at, refGate_at]
  rfl

theorem up_eq (h : FVec Ideal S16384x1024 .bf16) (wg wd : FVec Ideal S2816x1024 .bf16) (d : FVec Ideal S16384x1024 .bf16) :
    scaled d wd (act h wg) = refDUp h wg wd d := by
  funext i
  refine Eq.trans ?_ (show (refGate h wg i * refLogistic (refGate h wg) i) * refOut d wd i = refDUp h wg wd d i from rfl)
  rw [refLogistic_at, refGate_at, refOut_at]
  exact mul_comm _ _

/-- The product rule's two terms, gathered. -/
theorem gather {p u g s : EReal} (hp : IsReal p) (hu : IsReal u) (hg : IsReal g) (hs : IsReal s) :
    p * (u * (s * (1 + g * (1 - s)))) = p * u * s + g * (p * u) * (s * (1 - s)) := by
  obtain ⟨p, rfl⟩ := hp
  obtain ⟨u, rfl⟩ := hu
  obtain ⟨g, rfl⟩ := hg
  obtain ⟨s, rfl⟩ := hs
  rw [← EReal.coe_one]
  simp only [← EReal.coe_mul, ← EReal.coe_add, ← EReal.coe_sub]
  congr 1
  ring

theorem gate_eq {h : FVec Ideal S16384x1024 .bf16} {wg wu wd : FVec Ideal S2816x1024 .bf16} {d : FVec Ideal S16384x1024 .bf16}
    (hf : Fine h wg wu wd d) : scaled d wd (dact h wg wu) = refDGate h wg wu wd d := by
  funext i
  refine Eq.trans ?_ (show refOut d wd i * refGate h wu i * refLogistic (refGate h wg) i
    + refGate h wg i * (refOut d wd i * refGate h wu i) * (refLogistic (refGate h wg) i * (refOne i - refLogistic (refGate h wg) i))
      = refDGate h wg wu wd d i from rfl)
  rw [refLogistic_at, refGate_at, refGate_at, refOut_at, refOne_at]
  exact gather (dots_real hf.d hf.wd i) (dots_real hf.h hf.wu i) (dots_real hf.h hf.wg i) (logistic_real (dots_real hf.h hf.wg i))

theorem value : Cert.algebraic_FfnKernelIdeal_FfnReferenceIdeal_pre_finite_ffn := by
  intro m g m' g' hm hargs
  refine ⟨fun c => refHid (m ((c : Thread nD τ).loc main_arg0)) (m ((c : Thread nD τ).loc main_arg1)) (m ((c : Thread nD τ).loc main_arg2)),
    fun c => refDGate (m ((c : Thread nD τ).loc main_arg0)) (m ((c : Thread nD τ).loc main_arg1)) (m ((c : Thread nD τ).loc main_arg2))
      (m ((c : Thread nD τ).loc main_arg3)) (m ((c : Thread nD τ).loc main_arg4)),
    fun c => refDUp (m ((c : Thread nD τ).loc main_arg0)) (m ((c : Thread nD τ).loc main_arg1)) (m ((c : Thread nD τ).loc main_arg3))
      (m ((c : Thread nD τ).loc main_arg4)), ?_, ?_⟩
  · refine (θ_run _ _ _).mono (fun r h c => ?_) (run_results m g)
    obtain ⟨h0, h1, h2, ha⟩ := h c
    exact ⟨h0.trans ((result_hid m g c).trans (hid_eq _ _ _)), h1.trans ((result_gate m g c).trans (gate_eq (fine m hm c))),
      h2.trans ((result_up m g c).trans (up_eq _ _ _ _)), ha⟩
  · refine (θ_run _ _ _).mono (fun r h c => ?_) (Cert.FfnReferenceIdeal.Value.run m' g')
    obtain ⟨h0, h1, h2, ha⟩ := h c
    obtain ⟨e0, e1, e2, e3, e4⟩ := hargs c
    rw [e0, e1, e2] at h0
    rw [e0, e1, e2, e3, e4] at h1
    rw [e0, e1, e3, e4] at h2
    exact ⟨h0, h1, h2, ha⟩

theorem frame_reference : Cert.quiescent_FfnReferenceIdeal := fun m g _ =>
  (θ_run _ _ _).mono (fun r h => ⟨fun c => (h c).2.2.2, sem_eq_zero_of_no_sems rfl r.2⟩)
    (Cert.FfnReferenceIdeal.Value.run m g)

end Cert.Ffn

end
-- ==== Proof.NormRows.lean ====
/- The derivative of a row's division by its root mean square, as the kernel and as the reference write it. -/
module

public import proofs.«01_k».proof.Proof.Fields

@[expose] public section

noncomputable section

namespace Cert.Norm

open Idealize.ShloMosaic
open Cert.Gla (IsReal)

/-- The row's length. -/
def width : EReal := Ideal.ofBits .f32 0x44800000#32

/-- The factor of an inverse square root's derivative. -/
def minusHalf : EReal := Ideal.ofBits .f32 0xBF000000#32

/-- The norm's small constant. -/
def eps : EReal := Ideal.ofBits .f32 0x358637BD#32

theorem width_eq : width = ((1024 : ℝ) : EReal) := by
  have h : BitVec.extractLsb' 31 1 0x44800000#32 = 0#1 := by decide
  rw [width]
  simp [Ideal.ofBits, Ideal.ieee, h, Nat.shiftRight_eq_div_pow]
  norm_num
  rw [← EReal.coe_mul]
  norm_num

theorem minusHalf_eq : minusHalf = ((-1 / 2 : ℝ) : EReal) := by
  have h : BitVec.extractLsb' 31 1 0xBF000000#32 = 1#1 := by decide
  rw [minusHalf]
  simp [Ideal.ofBits, Ideal.ieee, h, Nat.shiftRight_eq_div_pow]
  norm_num
  rw [← EReal.coe_mul]
  norm_num

theorem eps_eq : ∃ e : ℝ, 0 < e ∧ eps = (e : EReal) := by
  have h : BitVec.extractLsb' 31 1 0x358637BD#32 = 0#1 := by decide
  rw [eps]
  simp only [Ideal.ofBits, Ideal.ieee]
  refine ⟨_, ?_, rfl⟩
  simp [h, Nat.shiftRight_eq_div_pow]

/-- The row's mean square, and `e`. -/
def meanSq (e : EReal) (x : Fin 1024 → EReal) : EReal := Ideal.div (∑ j, x j * x j) width + e

/-- The factor of the row. -/
def inv (e : EReal) (x : Fin 1024 → EReal) : EReal := Ideal.rsqrt (meanSq e x)

/-- The row's cotangent from the normed row's cotangent `d`, as the kernel writes it. -/
def back (e : EReal) (x d : Fin 1024 → EReal) (q : Fin 1024) : EReal :=
  inv e x * (d q - x q * inv e x * Ideal.div (∑ j, d j * (x j * inv e x)) width)

/-- Half of what the mean square's cotangent gives an entry, over the entry. -/
def refHalf (e : EReal) (x d : Fin 1024 → EReal) : EReal :=
  Ideal.div ((∑ j, x j * d j) * (minusHalf * Ideal.div (inv e x) (meanSq e x))) width

/-- The same, as the reference writes it. -/
def refBack (e : EReal) (x d : Fin 1024 → EReal) (q : Fin 1024) : EReal :=
  d q * inv e x + x q * refHalf e x d + refHalf e x d * x q

theorem coe_sum {n : ℕ} (f : Fin n → ℝ) : ((∑ i, f i : ℝ) : EReal) = ∑ i, (f i : EReal) :=
  map_sum (⟨⟨Real.toEReal, EReal.coe_zero⟩, EReal.coe_add⟩ : ℝ →+ EReal) f _

theorem meanSq_coe (e : ℝ) (x : Fin 1024 → ℝ) : meanSq e (fun j => (x j : EReal)) = (((∑ j, x j * x j) * (1 / 1024) + e : ℝ) : EReal) := by
  rw [meanSq, width_eq, Ideal.div_coe (by norm_num)]
  simp only [← EReal.coe_mul, ← coe_sum, ← EReal.coe_add]

theorem meanSq_pos {e : ℝ} (he : 0 < e) (x : Fin 1024 → ℝ) : 0 < (∑ j, x j * x j) * (1 / 1024) + e := by
  have h : 0 ≤ ∑ j, x j * x j := Finset.sum_nonneg fun j _ => mul_self_nonneg _
  positivity

theorem rsqrt_pos {s : ℝ} (hs : 0 < s) : Ideal.rsqrt (s : EReal) = (((Real.sqrt s)⁻¹ : ℝ) : EReal) := by
  rw [Ideal.rsqrt_coe, if_neg (not_lt.mpr hs.le), if_neg hs.ne']

theorem inv_real {e : ℝ} (he : 0 < e) {x : Fin 1024 → EReal} (hx : ∀ j, IsReal (x j)) : IsReal (inv e x) := by
  choose y hy using hx
  obtain rfl : (fun j => (y j : EReal)) = x := funext hy
  rw [inv, meanSq_coe, rsqrt_pos (meanSq_pos he y)]
  exact IsReal.coe _

theorem back_eq {e : ℝ} (he : 0 < e) {x d : Fin 1024 → EReal} (hx : ∀ j, IsReal (x j)) (hd : ∀ j, IsReal (d j)) (q : Fin 1024) :
    back e x d q = refBack e x d q := by
  choose y hy using hx
  choose c hc using hd
  obtain rfl : (fun j => (y j : EReal)) = x := funext hy
  obtain rfl : (fun j => (c j : EReal)) = d := funext hc
  rw [back, refBack, refHalf, inv, width_eq, minusHalf_eq, meanSq_coe, rsqrt_pos (meanSq_pos he y)]
  have hs := meanSq_pos he y
  generalize (∑ j, y j * y j) * (1 / 1024) + e = s at hs ⊢
  rw [Ideal.div_coe (by norm_num), Ideal.div_coe (by norm_num), Ideal.div_coe hs.ne']
  simp only [← EReal.coe_mul, ← coe_sum, ← EReal.coe_add, ← EReal.coe_sub]
  congr 1
  have hr : (Real.sqrt s)⁻¹ * (Real.sqrt s)⁻¹ = 1 / s := by
    rw [← mul_inv, Real.mul_self_sqrt hs.le, one_div]
  have h1 : ∑ j, c j * (y j * (Real.sqrt s)⁻¹) = (∑ j, y j * c j) * (Real.sqrt s)⁻¹ := by
    rw [Finset.sum_mul]
    exact Finset.sum_congr rfl fun j _ => by ring
  rw [h1, ← hr]
  ring

end Cert.Norm

end
-- ==== Proof.NormArrays.lean ====
/- The gradient through the norm and the modulation: what the kernel leaves in its arrays, by entries. -/
module

public import proofs.«01_k».proof.Proof.NormRows
public import proofs.«01_k».proof.Proof.Gen.NormKernelIdeal.Value
public import Idealize.ShloMosaic.Lib.Pipeline.ValueKit

@[expose] public section

set_option maxRecDepth 16384

noncomputable section

namespace Cert.Norm

open Idealize.ShloMosaic Idealize.ShloMosaic.TcCoe Idealize.SL.Sem
open Idealize.ShloMosaic.Pipeline (Dat)
open Cert.NormKernelIdeal Cert.NormKernelIdeal.Gen

variable (m : (ℓ : Loc nD τ sig) → Buf (Elt Ideal) ℓ)

theorem cot_at (p : Vec Ideal S512x2816 .bf16) (u : Vec Ideal S2816x1024 .bf16) (q : Vec Ideal S512x2816 .bf16) (v : Vec Ideal S2816x1024 .bf16)
    (j : S512x1024.Idx) : k0_pay4 (F := Ideal) p u q v j
      = ∑ k : Fin 2816, p (ix2 (j 0) k) * u (ix2 k (j 1)) + ∑ k : Fin 2816, q (ix2 (j 0) k) * v (ix2 k (j 1)) := by
  pointwise [k0_pay4]

theorem factor_at (x : Vec Ideal S512x1024 .f32) (j : S512x1.Idx) : k0_pay5 (F := Ideal) x j = inv eps (fun l => x (ix2 (j 0) l)) := by
  pointwise [k0_pay5, inv, meanSq, width, eps]

theorem normed_at (x : Vec Ideal S512x1024 .f32) (j : S512x1024.Idx) :
    k0_pay6 (F := Ideal) x j = x j * inv eps (fun l => x (ix2 (j 0) l)) := by
  have e : k0_pay6 (F := Ideal) x j = x j * k0_pay5 (F := Ideal) x (ix2 (j 0) 0) := by pointwise [k0_pay6]
  rw [e, factor_at]
  rfl

theorem scaled_at (p : Vec Ideal S512x2816 .bf16) (u : Vec Ideal S2816x1024 .bf16) (q : Vec Ideal S512x2816 .bf16) (v : Vec Ideal S2816x1024 .bf16)
    (s : Vec Ideal S1x1024 .f32) (j : S512x1024.Idx) :
    k0_pay9 (F := Ideal) p u q v s j = k0_pay4 (F := Ideal) p u q v j * (1 + s (ix2 0 (j 1))) := by
  pointwise [k0_pay9]

theorem row_at (g : Vec Ideal S1x1024 .f32) (x : Vec Ideal S512x1024 .f32) (d : FVec Ideal S512x1024 .f32) (y : Vec Ideal S512x1024 .f32)
    (j : S512x1024.Idx) :
    k0_pay1 (F := Ideal) g (k0_pay5 (F := Ideal) x) (k0_pay6 (F := Ideal) x) d y j
      = y j + back eps (fun l => x (ix2 (j 0) l)) (fun l => d (ix2 (j 0) l) * g (ix2 0 l)) (j 1) := by
  have e : k0_pay1 (F := Ideal) g (k0_pay5 (F := Ideal) x) (k0_pay6 (F := Ideal) x) d y j
      = y j + k0_pay5 (F := Ideal) x (ix2 (j 0) 0) * (d j * g (ix2 0 (j 1)) - k0_pay6 (F := Ideal) x j
        * Ideal.div (∑ l, d (ix2 (j 0) l) * g (ix2 0 l) * k0_pay6 (F := Ideal) x (ix2 (j 0) l)) width) := by
    pointwise [k0_pay1, width]
  rw [e, factor_at]
  simp only [normed_at]
  obtain ⟨r, q, rfl⟩ : ∃ (r : Fin 512) (q : Fin 1024), j = ix2 r q := ⟨j 0, j 1, by funext k; fin_cases k <;> rfl⟩
  rfl

/-- The accumulator's eight rows, of the sums that one block of tokens gives. -/
theorem acc_at (x d : FVec Ideal S512x1024 .f32) (a b : FVec Ideal S1x1024 .f32) (o : Vec Ideal S8x1024 .f32) (j : S8x1024.Idx) :
    k0_pay2 (F := Ideal) x a b d o j = o j + (if (j 0 : ℕ) = 0 then a (ix2 0 (j 1)) else if (j 0 : ℕ) = 1 then b (ix2 0 (j 1))
      else if (j 0 : ℕ) = 2 then ∑ t : Fin 512, d (ix2 t (j 1)) * x (ix2 t (j 1)) else 0) := by
  obtain ⟨r, q, rfl⟩ : ∃ (r : Fin 8) (q : Fin 1024), j = ix2 r q := ⟨j 0, j 1, by funext k; fin_cases k <;> rfl⟩
  pointwise [k0_pay2]
  fin_cases r <;> rfl

theorem zero_at (j : S8x1024.Idx) : k0_pay3 (F := Ideal) j = 0 := by
  pointwise [k0_pay3]

theorem shift_at (p : Vec Ideal S512x2816 .bf16) (u : Vec Ideal S2816x1024 .bf16) (q : Vec Ideal S512x2816 .bf16) (v : Vec Ideal S2816x1024 .bf16)
    (j : S1x1024.Idx) : k0_pay7 (F := Ideal) p u q v j = ∑ t : Fin 512, k0_pay4 (F := Ideal) p u q v (ix2 t (j 1)) := by
  pointwise [k0_pay7]

theorem scale_at (p : Vec Ideal S512x2816 .bf16) (u : Vec Ideal S2816x1024 .bf16) (q : Vec Ideal S512x2816 .bf16) (v : Vec Ideal S2816x1024 .bf16)
    (g : Vec Ideal S1x1024 .f32) (x : Vec Ideal S512x1024 .f32) (j : S1x1024.Idx) : k0_pay8 (F := Ideal) p u q v g x j
      = ∑ t : Fin 512, k0_pay4 (F := Ideal) p u q v (ix2 t (j 1)) * (k0_pay6 (F := Ideal) x (ix2 t (j 1)) * g (ix2 0 (j 1))) := by
  pointwise [k0_pay8]

theorem idx : ∀ t : Fin cfg0.N, win0_0.index t = ![t.val, 0] ∧ win0_1.index t = ![t.val, 0]
    ∧ win0_2.index t = ![t.val, 0] ∧ win0_3.index t = ![t.val, 0] ∧ win0_4.index t = ![0, 0] ∧ win0_5.index t = ![0, 0]
    ∧ win0_6.index t = ![0, 0] ∧ win0_7.index t = ![t.val, 0] ∧ win0_8.index t = ![0, 0] :=
  (by decide +kernel : ∀ t : Fin grid0.N, _)

/-- The modulated rows' cotangent. -/
def cot (P Q : FVec Ideal S16384x2816 .bf16) (U V : FVec Ideal S2816x1024 .bf16) (t : Fin 16384) (l : Fin 1024) : EReal :=
  ∑ k : Fin 2816, P (ix2 t k) * U (ix2 k l) + ∑ k : Fin 2816, Q (ix2 t k) * V (ix2 k l)

/-- The normed rows. -/
def normed (X : FVec Ideal S16384x1024 .f32) (t : Fin 16384) (l : Fin 1024) : EReal := X (ix2 t l) * inv eps (fun j => X (ix2 t j))

/-- What one token gives to the accumulator's row `r`. -/
def part (P Q : FVec Ideal S16384x2816 .bf16) (X : FVec Ideal S16384x1024 .f32) (W : FVec Ideal S8x1024 .f32) (U V : FVec Ideal S2816x1024 .bf16)
    (r : ℕ) (l : Fin 1024) (t : Fin 16384) : EReal :=
  if r = 0 then cot P Q U V t l else if r = 1 then cot P Q U V t l * (normed X t l * W (ix2 0 l))
    else if r = 2 then cot P Q U V t l * (1 + W (ix2 2 l)) * normed X t l else 0

/-- The first output. -/
def through (P Q : FVec Ideal S16384x2816 .bf16) (X Y : FVec Ideal S16384x1024 .f32) (W : FVec Ideal S8x1024 .f32)
    (U V : FVec Ideal S2816x1024 .bf16) : FVec Ideal S16384x1024 .f32 :=
  fun i => Y i + back eps (fun l => X (ix2 (i 0) l)) (fun l => cot P Q U V (i 0) l * (1 + W (ix2 2 l)) * W (ix2 0 l)) (i 1)

/-- The second output. -/
def sums (P Q : FVec Ideal S16384x2816 .bf16) (X : FVec Ideal S16384x1024 .f32) (W : FVec Ideal S8x1024 .f32)
    (U V : FVec Ideal S2816x1024 .bf16) : FVec Ideal S8x1024 .f32 :=
  fun i => ∑ t : Fin 16384, part P Q X W U V (i 0) (i 1) t

theorem sums_at (P Q : FVec Ideal S16384x2816 .bf16) (X : FVec Ideal S16384x1024 .f32) (W : FVec Ideal S8x1024 .f32)
    (U V : FVec Ideal S2816x1024 .bf16) (i : S8x1024.Idx) {r : ℕ} {l : Fin 1024} (h0 : (i 0 : ℕ) = r) (h1 : i 1 = l) :
    sums P Q X W U V i = ∑ t : Fin 16384, part P Q X W U V r l t := by
  subst h0 h1
  rfl

section Blocks
variable (c : Dev nD) (t : Fin cfg0.N)

theorem point_lt : t.val < 32 := lt_of_lt_of_eq t.isLt (by decide +kernel)

/-- The token that row `k` of the point's blocks holds. -/
def tok (k : Fin 512) : Fin 16384 := ⟨t.val * 512 + k.val, by have := point_lt t; omega⟩

theorem cot_block (k : Fin 512) (l : Fin 1024) :
    k0_pay4 (F := Ideal) (iblk m c 0 t) (iblk m c 5 t) (iblk m c 1 t) (iblk m c 6 t) (ix2 k l)
      = cot (m ((c : Thread nD τ).loc main_arg0)) (m ((c : Thread nD τ).loc main_arg1)) (m ((c : Thread nD τ).loc main_arg5))
        (m ((c : Thread nD τ).loc main_arg6)) (tok t k) l := by
  have h0 : (tok t k : ℕ) = t.val * 512 + k.val := rfl
  rw [cot_at]
  unfold cot
  congr 1
  · refine Finset.sum_congr rfl fun n _ => ?_
    blk_point [iblk, V, idx t]
  · refine Finset.sum_congr rfl fun n _ => ?_
    blk_point [iblk, V, idx t]

theorem x_block (k : Fin 512) (l : Fin 1024) : (show FVec Ideal S512x1024 .f32 from iblk m c 2 t) (ix2 k l)
    = (show FVec Ideal S16384x1024 .f32 from m ((c : Thread nD τ).loc main_arg2)) (ix2 (tok t k) l) := by
  have h0 : (tok t k : ℕ) = t.val * 512 + k.val := rfl
  blk_point [iblk, V, idx t]

theorem gain_block (l : Fin 1024) :
    (show FVec Ideal S1x1024 .f32 from View.ld (iblk m c 4 t) (Rect.unit ![0, 0] ![1, 1024] inb_S8x1024_S1x1024_0_0)) (ix2 0 l)
    = (show FVec Ideal S8x1024 .f32 from m ((c : Thread nD τ).loc main_arg4)) (ix2 0 l) := by
  blk_point [iblk, V, idx t]

theorem scale_block (l : Fin 1024) :
    (show FVec Ideal S1x1024 .f32 from View.ld (iblk m c 4 t) (Rect.unit ![2, 0] ![1, 1024] inb_S8x1024_S1x1024_2_0)) (ix2 0 l)
    = (show FVec Ideal S8x1024 .f32 from m ((c : Thread nD τ).loc main_arg4)) (ix2 2 l) := by
  blk_point [iblk, V, idx t]

theorem inv_block (k : Fin 512) : inv eps (fun l => (show FVec Ideal S512x1024 .f32 from iblk m c 2 t) (ix2 k l))
    = inv eps (fun l => (show FVec Ideal S16384x1024 .f32 from m ((c : Thread nD τ).loc main_arg2)) (ix2 (tok t k) l)) :=
  congrArg (inv eps) (funext fun l => x_block m c t k l)

theorem normed_block (k : Fin 512) (l : Fin 1024) :
    k0_pay6 (F := Ideal) (iblk m c 2 t) (ix2 k l) = normed (m ((c : Thread nD τ).loc main_arg2)) (tok t k) l := by
  rw [normed_at]
  exact congrArg₂ (· * ·) (x_block m c t k l) (inv_block m c t k)

theorem scaled_block (k : Fin 512) (l : Fin 1024) :
    k0_pay9 (F := Ideal) (iblk m c 0 t) (iblk m c 5 t) (iblk m c 1 t) (iblk m c 6 t)
        (View.ld (iblk m c 4 t) (Rect.unit ![2, 0] ![1, 1024] inb_S8x1024_S1x1024_2_0)) (ix2 k l)
      = cot (m ((c : Thread nD τ).loc main_arg0)) (m ((c : Thread nD τ).loc main_arg1)) (m ((c : Thread nD τ).loc main_arg5))
        (m ((c : Thread nD τ).loc main_arg6)) (tok t k) l
        * (1 + (show FVec Ideal S8x1024 .f32 from m ((c : Thread nD τ).loc main_arg4)) (ix2 2 l)) := by
  rw [scaled_at]
  exact congrArg₂ (· * ·) (cot_block m c t k l) (congrArg (1 + ·) (scale_block m c t l))

/-- What the point's block of tokens gives to the accumulator. -/
theorem part_block (r : ℕ) (l : Fin 1024) :
    (if r = 0 then k0_pay7 (F := Ideal) (iblk m c 0 t) (iblk m c 5 t) (iblk m c 1 t) (iblk m c 6 t) (ix2 0 l)
      else if r = 1 then k0_pay8 (F := Ideal) (iblk m c 0 t) (iblk m c 5 t) (iblk m c 1 t) (iblk m c 6 t)
        (View.ld (iblk m c 4 t) (Rect.unit ![0, 0] ![1, 1024] inb_S8x1024_S1x1024_0_0)) (iblk m c 2 t) (ix2 0 l)
      else if r = 2 then ∑ k : Fin 512, k0_pay9 (F := Ideal) (iblk m c 0 t) (iblk m c 5 t) (iblk m c 1 t) (iblk m c 6 t)
          (View.ld (iblk m c 4 t) (Rect.unit ![2, 0] ![1, 1024] inb_S8x1024_S1x1024_2_0)) (ix2 k l)
            * k0_pay6 (F := Ideal) (iblk m c 2 t) (ix2 k l) else 0)
      = ∑ k : Fin 512, part (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6)) r l (tok t k) := by
  by_cases h0 : r = 0
  · simp only [part, if_pos h0]
    rw [shift_at]
    exact Finset.sum_congr rfl fun k _ => cot_block m c t k l
  · by_cases h1 : r = 1
    · simp only [part, if_neg h0, if_pos h1]
      rw [scale_at]
      exact Finset.sum_congr rfl fun k _ => congrArg₂ (· * ·) (cot_block m c t k l)
        (congrArg₂ (· * ·) (normed_block m c t k l) (gain_block m c t l))
    · by_cases h2 : r = 2
      · simp only [part, if_neg h0, if_neg h1, if_pos h2]
        exact Finset.sum_congr rfl fun k _ => congrArg₂ (· * ·) (scaled_block m c t k l) (normed_block m c t k l)
      · simp only [part, if_neg h0, if_neg h1, if_neg h2, Finset.sum_const_zero]

theorem through_block (j : S512x1024.Idx) (i : S16384x1024.Idx) (h0 : i 0 = tok t (j 0)) (h1 : i 1 = j 1)
    (y : EReal) (hy : (show FVec Ideal S512x1024 .f32 from iblk m c 3 t) j = y) :
    k0_pay1 (F := Ideal) (View.ld (iblk m c 4 t) (Rect.unit ![0, 0] ![1, 1024] inb_S8x1024_S1x1024_0_0)) (k0_pay5 (F := Ideal) (iblk m c 2 t))
      (k0_pay6 (F := Ideal) (iblk m c 2 t))
      (k0_pay9 (F := Ideal) (iblk m c 0 t) (iblk m c 5 t) (iblk m c 1 t) (iblk m c 6 t)
        (View.ld (iblk m c 4 t) (Rect.unit ![2, 0] ![1, 1024] inb_S8x1024_S1x1024_2_0))) (iblk m c 3 t) j
      = y + back eps (fun l => (show FVec Ideal S16384x1024 .f32 from m ((c : Thread nD τ).loc main_arg2)) (ix2 (i 0) l))
        (fun l => cot (m ((c : Thread nD τ).loc main_arg0)) (m ((c : Thread nD τ).loc main_arg1)) (m ((c : Thread nD τ).loc main_arg5))
        (m ((c : Thread nD τ).loc main_arg6)) (i 0) l
          * (1 + (show FVec Ideal S8x1024 .f32 from m ((c : Thread nD τ).loc main_arg4)) (ix2 2 l))
          * (show FVec Ideal S8x1024 .f32 from m ((c : Thread nD τ).loc main_arg4)) (ix2 0 l)) (i 1) := by
  rw [row_at, h0, h1]
  refine congrArg₂ (· + ·) hy ?_
  refine congrFun (congrArg₂ (back eps) (funext fun l => x_block m c t (j 0) l) (funext fun l => ?_)) (j 1)
  exact congrArg₂ (· * ·) (scaled_block m c t (j 0) l) (gain_block m c t l)

end Blocks

theorem first_at (c : Dev nD) (t : Fin cfg0.N) (j : S512x1024.Idx) : (outsAt0 m c t.val t.isLt).1 j
    = k0_pay1 (F := Ideal) (View.ld (iblk m c 4 t) (Rect.unit ![0, 0] ![1, 1024] inb_S8x1024_S1x1024_0_0)) (k0_pay5 (F := Ideal) (iblk m c 2 t))
      (k0_pay6 (F := Ideal) (iblk m c 2 t))
      (k0_pay9 (F := Ideal) (iblk m c 0 t) (iblk m c 5 t) (iblk m c 1 t) (iblk m c 6 t)
        (View.ld (iblk m c 4 t) (Rect.unit ![2, 0] ![1, 1024] inb_S8x1024_S1x1024_2_0))) (iblk m c 3 t) j := by
  by_cases h : t.val % 32 = 0
  · rw [outsAt0_A m c t h]
    frame_out
    rfl
  · rw [outsAt0_B m c t h]
    frame_out
    rfl

theorem final7 (c : Dev nD) : (dats m 0 c).arrAt 7 cfg0.N
    = through (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_covers 7 _ (by decide +kernel) fun t hf y => ?_
  have h0 : (show S16384x1024.Idx from ((cfg0.win 7).blk t).view.emb y) 0 = tok t (y 0) := by
    apply Fin.ext
    have e : (tok t (y 0) : ℕ) = t.val * 512 + (y 0 : ℕ) := rfl
    rw [e]
    blk_simp [idx t]
  have h1 : (show S16384x1024.Idx from ((cfg0.win 7).blk t).view.emb y) 1 = y 1 := by
    apply Fin.ext
    blk_simp [idx t]
  have hy : (show FVec Ideal S512x1024 .f32 from iblk m c 3 t) y
      = (show FVec Ideal S16384x1024 .f32 from m ((c : Thread nD τ).loc main_arg3)) (((cfg0.win 7).blk t).view.emb y) := by
    blk_point [iblk, V, idx t]
  have e := through_block m c t y _ h0 h1 _ hy
  blk_simp
  rw [after0_7, first_at]
  exact e

theorem final8 (c : Dev nD) : (dats m 0 c).arrAt 8 cfg0.N
    = sums (m ((c : Thread nD τ).loc main_arg0)) (m ((c : Thread nD τ).loc main_arg1)) (m ((c : Thread nD τ).loc main_arg2))
      (m ((c : Thread nD τ).loc main_arg4)) (m ((c : Thread nD τ).loc main_arg5)) (m ((c : Thread nD τ).loc main_arg6)) := by
  refine (dats m 0 c).arrAt_eq_of_covers 8 _ (by decide +kernel) fun t hf y => ?_
  have h := (flush0_8 t).mp hf
  have ht := point_lt t
  have h0 : (((cfg0.win 8).blk t).view.emb y 0 : ℕ) = y 0 := by blk_simp [idx t]
  have h1 : (show S8x1024.Idx from ((cfg0.win 8).blk t).view.emb y) 1 = y 1 := by
    apply Fin.ext
    blk_simp [idx t]
  have e := (Pipeline.eq_sum_fin_of_reset_step_apply_of_flush (fun n h => (outsAt0 m c n h).2) 32 (fun _ => (0 : EReal))
    (fun p j => ∑ k : Fin 512, part (m ((c : Thread nD τ).loc main_arg0)) (m ((c : Thread nD τ).loc main_arg1))
      (m ((c : Thread nD τ).loc main_arg2)) (m ((c : Thread nD τ).loc main_arg4)) (m ((c : Thread nD τ).loc main_arg5))
      (m ((c : Thread nD τ).loc main_arg6)) (j 0) (j 1) (tok p k))
    (fun t h j => by
      rw [outsAt0_A m c t h]
      frame_out
      rw [acc_at, zero_at]
      exact congrArg ((0 : EReal) + ·) (part_block m c t (j 0) (j 1)))
    (fun t h j => by
      rw [outsAt0_B m c t h]
      frame_out
      rw [acc_at]
      exact congrArg (HAdd.hAdd _) (part_block m c t (j 0) (j 1))) t h y).trans (zero_add _)
  blk_simp
  rw [after0_8]
  refine e.trans (Eq.trans ?_ (sums_at _ _ _ _ _ _ _ h0 h1).symm)
  refine Fin.sum_mul_add_congr fun s k hl => ?_
  refine congrArg _ (Fin.ext ?_)
  show (32 * (t.val / 32) + s.val) * 512 + k.val = s.val * 512 + k.val
  omega

end Cert.Norm

end
-- ==== Proof.NormRef.lean ====
/- The gradient through the norm and the modulation: what the reference computes, by entries. -/
module

public import proofs.«01_k».proof.Proof.NormRows
public import proofs.«01_k».proof.Proof.Gen.NormReferenceIdeal.Run
public import Idealize.ShloMosaic.Lib.Pipeline.ValueKit

@[expose] public section

set_option maxRecDepth 16384

noncomputable section

namespace Cert.Norm.Ref

open Idealize.ShloMosaic Idealize.ShloMosaic.TcCoe Idealize.SL.Sem
open Cert.NormReferenceIdeal Cert.NormReferenceIdeal.Gen

variable (P Q : FVec Ideal S16384x2816 .bf16) (X Y : FVec Ideal S16384x1024 .f32) (W : FVec Ideal S8x1024 .f32)
  (U V : FVec Ideal S2816x1024 .bf16)

/-- The cotangent of the modulated row: the two products' gradients, added. -/
def dh : FVec Ideal S16384x1024 .f32 :=
  addf (Host.dotGeneral dot_S16384x2816_S1024x2816_S16384x1024_1_1_0_0_n_n none (extf .f32 Q bitsLt_bf16_f32)
      (transpose S1024x2816 [1, 0] (extf .f32 V bitsLt_bf16_f32) transposes_S2816x1024_S1024x2816_1_0))
    (Host.dotGeneral dot_S16384x2816_S1024x2816_S16384x1024_1_1_0_0_n_n none (extf .f32 P bitsLt_bf16_f32)
      (transpose S1024x2816 [1, 0] (extf .f32 U bitsLt_bf16_f32) transposes_S2816x1024_S1024x2816_1_0))

/-- The rows' mean squares, and the small constant. -/
def sq : FVec Ideal S16384x1 .f32 :=
  addf (Host.divf (broadcastInDim S16384x1 ![0] bcast_S16384_S16384x1_0 (Host.reduceAdd (mulf X X) (constant S_ .f32 0x00000000#32)
      reducesTo_S16384x1024_S16384_d1 h_S_)) (broadcastInDim S16384x1 ![] bcast_S_S16384x1 (constant S_ .f32 0x44800000#32)))
    (broadcastInDim S16384x1 ![] bcast_S_S16384x1 (constant S_ .f32 0x358637BD#32))

/-- The normed rows. -/
def xn : FVec Ideal S16384x1024 .f32 := mulf X (broadcastInDim S16384x1024 ![0, 1] bcast_S16384x1_S16384x1024_0_1 (Host.rsqrt (sq X)))

/-- The norm's factors, on every token. -/
def gain : FVec Ideal S16384x1024 .f32 :=
  broadcastInDim S16384x1024 ![0, 1] bcast_S1x1024_S16384x1024_0_1 (broadcastInDim S1x1024 ![1] bcast_S1024_S1x1024_1
    (shapeCast _ (extractStridedSlice S1x1024 ![0, 0] W slices_S8x1024_S1x1024_0_0) shapeCasts_S1x1024_S1024))

/-- One and the modulation's scale, on every token. -/
def more : FVec Ideal S16384x1024 .f32 :=
  broadcastInDim S16384x1024 ![0, 1] bcast_S1x1024_S16384x1024_0_1 (broadcastInDim S1x1024 ![1] bcast_S1024_S1x1024_1
    (addf (broadcastInDim S1024 ![] bcast_S_S1024 (constant S_ .f32 0x3F800000#32))
      (shapeCast _ (extractStridedSlice S1x1024 ![2, 0] W slices_S8x1024_S1x1024_2_0) shapeCasts_S1x1024_S1024)))

/-- The cotangent of the row before the modulation. -/
def dy : FVec Ideal S16384x1024 .f32 := mulf (dh P Q U V) (more W)

/-- The cotangent of the normed row. -/
def dn : FVec Ideal S16384x1024 .f32 := mulf (dy P Q W U V) (gain W)

/-- Half the mean square's part, one number per row. -/
def half (d : FVec Ideal S16384x1024 .f32) : FVec Ideal S16384x1024 .f32 :=
  broadcastInDim S16384x1024 ![0] bcast_S16384_S16384x1024_0 (Host.reduceAdd (Host.divf (mulf (shapeCast _ (Host.reduceAdd (mulf X d)
      (constant S_ .f32 0x00000000#32) reducesTo_S16384x1024_S16384_d1 h_S_) shapeCasts_S16384_S16384x1)
        (mulf (broadcastInDim S16384x1 ![] bcast_S_S16384x1 (constant S_ .f32 0xBF000000#32)) (Host.divf (Host.rsqrt (sq X)) (sq X))))
      (broadcastInDim S16384x1 ![] bcast_S_S16384x1 (constant S_ .f32 0x44800000#32))) (constant S_ .f32 0x00000000#32)
    reducesTo_S16384x1_S16384_d1 h_S_)

/-- The sum over the tokens, as a row. -/
def total (f : FVec Ideal S16384x1024 .f32) : FVec Ideal S1x1024 .f32 :=
  broadcastInDim S1x1024 ![1] bcast_S1024_S1x1024_1 (Host.reduceAdd (shapeCast _ (Host.reduceAdd f (constant S_ .f32 0x00000000#32)
    reducesTo_S16384x1024_S1024_d0 h_S_) shapeCasts_S1024_S1x1024) (constant S_ .f32 0x00000000#32) reducesTo_S1x1024_S1024_d0 h_S_)

/-- Three rows and five of zeros. -/
def rows (a b c : FVec Ideal S1x1024 .f32) : FVec Ideal S8x1024 .f32 :=
  concatenate S8x1024 0 [⟨S3x1024, ((concatenate S3x1024 0 [⟨S1x1024, (a : (⟨S1x1024, .f32⟩ : BufTy).Contents (Elt Ideal))⟩,
    ⟨S1x1024, (b : (⟨S1x1024, .f32⟩ : BufTy).Contents (Elt Ideal))⟩, ⟨S1x1024, (c : (⟨S1x1024, .f32⟩ : BufTy).Contents (Elt Ideal))⟩]
      concatenates_S1x1024_S1x1024_S1x1024_S3x1024_d0 : (⟨S3x1024, .f32⟩ : BufTy).Contents (Elt Ideal)))⟩,
    ⟨S5x1024, (broadcastInDim S5x1024 ![] bcast_S_S5x1024 (constant S_ .f32 0x00000000#32))⟩] concatenates_S3x1024_S5x1024_S8x1024_d0

variable (m : (ℓ : Loc nD τ sig) → Buf (Elt Ideal) ℓ) (c : Dev nD)

theorem out0 : Cert.NormReferenceIdeal.Value.res_out0 m c
    = addf (m ((c : Thread nD τ).loc main_arg3)) (addf (addf
        (mulf (dn (m ((c : Thread nD τ).loc main_arg0)) (m ((c : Thread nD τ).loc main_arg1)) (m ((c : Thread nD τ).loc main_arg4))
          (m ((c : Thread nD τ).loc main_arg5)) (m ((c : Thread nD τ).loc main_arg6)))
          (broadcastInDim S16384x1024 ![0, 1] bcast_S16384x1_S16384x1024_0_1 (Host.rsqrt (sq (m ((c : Thread nD τ).loc main_arg2))))))
        (mulf (m ((c : Thread nD τ).loc main_arg2)) (half (m ((c : Thread nD τ).loc main_arg2))
          (dn (m ((c : Thread nD τ).loc main_arg0)) (m ((c : Thread nD τ).loc main_arg1)) (m ((c : Thread nD τ).loc main_arg4))
          (m ((c : Thread nD τ).loc main_arg5)) (m ((c : Thread nD τ).loc main_arg6))))))
        (mulf (half (m ((c : Thread nD τ).loc main_arg2))
          (dn (m ((c : Thread nD τ).loc main_arg0)) (m ((c : Thread nD τ).loc main_arg1)) (m ((c : Thread nD τ).loc main_arg4))
          (m ((c : Thread nD τ).loc main_arg5)) (m ((c : Thread nD τ).loc main_arg6)))) (m ((c : Thread nD τ).loc main_arg2)))) := rfl

theorem out1 : Cert.NormReferenceIdeal.Value.res_out1 m c
    = rows (total (dh (m ((c : Thread nD τ).loc main_arg0)) (m ((c : Thread nD τ).loc main_arg1)) (m ((c : Thread nD τ).loc main_arg5))
          (m ((c : Thread nD τ).loc main_arg6))))
        (total (mulf (mulf (xn (m ((c : Thread nD τ).loc main_arg2))) (gain (m ((c : Thread nD τ).loc main_arg4))))
          (dh (m ((c : Thread nD τ).loc main_arg0)) (m ((c : Thread nD τ).loc main_arg1)) (m ((c : Thread nD τ).loc main_arg5))
          (m ((c : Thread nD τ).loc main_arg6)))))
        (total (mulf (xn (m ((c : Thread nD τ).loc main_arg2)))
          (dy (m ((c : Thread nD τ).loc main_arg0)) (m ((c : Thread nD τ).loc main_arg1)) (m ((c : Thread nD τ).loc main_arg4))
          (m ((c : Thread nD τ).loc main_arg5)) (m ((c : Thread nD τ).loc main_arg6))))) := rfl

theorem dh_at (i : S16384x1024.Idx) :
    dh P Q U V i = ∑ k : Fin 2816, Q (ix2 (i 0) k) * V (ix2 k (i 1)) + ∑ k : Fin 2816, P (ix2 (i 0) k) * U (ix2 k (i 1)) := by
  pointwise [dh]

theorem sq_at (i : S16384x1.Idx) : sq X i = meanSq eps (fun j => X (ix2 (i 0) j)) := by
  pointwise [sq, meanSq, width, eps]

theorem xn_at (i : S16384x1024.Idx) : xn X i = X i * inv eps (fun j => X (ix2 (i 0) j)) := by
  have e : xn X i = X i * Ideal.rsqrt (sq X (ix2 (i 0) 0)) := by pointwise [xn]
  rw [e, sq_at]
  rfl

theorem gain_at (i : S16384x1024.Idx) : gain W i = W (ix2 0 (i 1)) := by
  pointwise [gain]

theorem more_at (i : S16384x1024.Idx) : more W i = 1 + W (ix2 2 (i 1)) := by
  pointwise [more]

theorem half_at (d : FVec Ideal S16384x1024 .f32) (i : S16384x1024.Idx) :
    half X d i = refHalf eps (fun j => X (ix2 (i 0) j)) (fun j => d (ix2 (i 0) j)) := by
  have e : half X d i = ∑ k : Fin 1, Ideal.div ((∑ j, X (ix2 (i 0) j) * d (ix2 (i 0) j))
      * (minusHalf * Ideal.div (Ideal.rsqrt (sq X (ix2 (i 0) k))) (sq X (ix2 (i 0) k)))) width := by
    pointwise [half, minusHalf, width]
  rw [e, Fin.sum_univ_one, sq_at]
  rfl

theorem total_at (f : FVec Ideal S16384x1024 .f32) (i : S1x1024.Idx) : total f i = ∑ t : Fin 16384, f (ix2 t (i 1)) := by
  have e : total f i = ∑ k : Fin 1, ∑ t : Fin 16384, f (ix2 t (i 1)) := by pointwise [total]
  rw [e, Fin.sum_univ_one]

theorem rows_at (a b c : FVec Ideal S1x1024 .f32) (i : S8x1024.Idx) : rows a b c i
    = if (i 0 : ℕ) = 0 then a (ix2 0 (i 1)) else if (i 0 : ℕ) = 1 then b (ix2 0 (i 1)) else if (i 0 : ℕ) = 2 then c (ix2 0 (i 1)) else 0 := by
  obtain ⟨r, q, rfl⟩ : ∃ (r : Fin 8) (q : Fin 1024), i = ix2 r q := ⟨i 0, i 1, by funext k; fin_cases k <;> rfl⟩
  pointwise [rows]
  fin_cases r <;> rfl

/-- The first result at an entry. -/
theorem out0_at (i : S16384x1024.Idx) : addf Y (addf (addf
      (mulf (dn P Q W U V) (broadcastInDim S16384x1024 ![0, 1] bcast_S16384x1_S16384x1024_0_1 (Host.rsqrt (sq X))))
      (mulf X (half X (dn P Q W U V)))) (mulf (half X (dn P Q W U V)) X)) i
    = Y i + refBack eps (fun j => X (ix2 (i 0) j)) (fun j => dn P Q W U V (ix2 (i 0) j)) (i 1) := by
  have e : broadcastInDim S16384x1024 ![0, 1] bcast_S16384x1_S16384x1024_0_1 (Host.rsqrt (sq X)) i = Ideal.rsqrt (sq X (ix2 (i 0) 0)) := by
    pointwise []
  have h : addf Y (addf (addf
      (mulf (dn P Q W U V) (broadcastInDim S16384x1024 ![0, 1] bcast_S16384x1_S16384x1024_0_1 (Host.rsqrt (sq X))))
      (mulf X (half X (dn P Q W U V)))) (mulf (half X (dn P Q W U V)) X)) i
    = Y i + (dn P Q W U V i * broadcastInDim S16384x1024 ![0, 1] bcast_S16384x1_S16384x1024_0_1 (Host.rsqrt (sq X)) i
      + X i * half X (dn P Q W U V) i + half X (dn P Q W U V) i * X i) := rfl
  rw [h, e, half_at, sq_at]
  obtain ⟨r, q, rfl⟩ : ∃ (r : Fin 16384) (q : Fin 1024), i = ix2 r q := ⟨i 0, i 1, by funext k; fin_cases k <;> rfl⟩
  rfl

end Cert.Norm.Ref

end
-- ==== Proof.Norm.lean ====
/- The gradient through the norm and the modulation: the kernel's results are the reference's. -/
module

public import proofs.«01_k».proof.Defs
public import proofs.«01_k».proof.Proof.NormArrays
public import proofs.«01_k».proof.Proof.NormRef
public import proofs.«01_k».proof.Proof.Real
public import proofs.«01_k».proof.Proof.Gen.NormKernel.Frame
public import Idealize.ShloMosaic.Lib.Quiescent

@[expose] public section

set_option maxRecDepth 16384

noncomputable section

namespace Cert.Norm

open Idealize.ShloMosaic Idealize.ShloMosaic.TcCoe Idealize.SL.Sem
open Cert.Gla (IsReal)
open Cert.NormKernelIdeal Cert.NormKernelIdeal.Gen

/-- The shape relations the precondition's text takes. -/
instance finiteFacts : Cert.Pre_finite_norm.Facts where
  bitsLt_bf16_f32 := by decide
  bcast_S_S16384x2816 := by decide
  reducesTo_S16384x2816_S_d0_1 := by decide
  h_S_ := by decide
  bcast_S_S16384x1024 := by decide
  reducesTo_S16384x1024_S_d0_1 := by decide
  bcast_S_S8x1024 := by decide
  reducesTo_S8x1024_S_d0_1 := by decide
  bcast_S_S2816x1024 := by decide
  reducesTo_S2816x1024_S_d0_1 := by decide

/-- What the precondition says: every entry of these arguments is a real number. -/
structure Fine (P Q : FVec Ideal S16384x2816 .bf16) (X : FVec Ideal S16384x1024 .f32) (W : FVec Ideal S8x1024 .f32)
    (U V : FVec Ideal S2816x1024 .bf16) : Prop where
  P : ∀ i, IsReal (P i)
  Q : ∀ i, IsReal (Q i)
  X : ∀ i, IsReal (X i)
  W : ∀ i, IsReal (W i)
  U : ∀ i, IsReal (U i)
  V : ∀ i, IsReal (V i)

theorem fine (m : (ℓ : Loc nD τ sig) → Buf (Elt Ideal) ℓ) (hm : Cert.Pre_NormKernelIdeal_finite_norm m) (c : Dev nD) :
    Fine (m ((c : Thread nD τ).loc main_arg0)) (m ((c : Thread nD τ).loc main_arg1)) (m ((c : Thread nD τ).loc main_arg2))
      (m ((c : Thread nD τ).loc main_arg4)) (m ((c : Thread nD τ).loc main_arg5)) (m ((c : Thread nD τ).loc main_arg6)) := by
  have h := congrFun (hm c) (fun i => i.elim0)
  unfold Cert.Pre_finite_norm.fn Cert.Pre_finite_norm.fn_part1 at h
  dsimp only at h
  simp only [andi, IntOp.andi_eq_one] at h
  obtain ⟨⟨⟨⟨⟨h0, h1⟩, h2⟩, h3⟩, h4⟩, h5⟩ := h
  exact ⟨fun i => Cert.Gla.real_of_reduce _ _ _ _ _ _ (fun _ => rfl) h0 i, fun i => Cert.Gla.real_of_reduce _ _ _ _ _ _ (fun _ => rfl) h1 i,
    fun i => Cert.Gla.real_of_reduce _ _ _ _ _ _ (fun _ => rfl) h2 i, fun i => Cert.Gla.real_of_reduce _ _ _ _ _ _ (fun _ => rfl) h3 i,
    fun i => Cert.Gla.real_of_reduce _ _ _ _ _ _ (fun _ => rfl) h4 i, fun i => Cert.Gla.real_of_reduce _ _ _ _ _ _ (fun _ => rfl) h5 i⟩

section
variable (P Q : FVec Ideal S16384x2816 .bf16) (X Y : FVec Ideal S16384x1024 .f32) (W : FVec Ideal S8x1024 .f32)
  (U V : FVec Ideal S2816x1024 .bf16)

/-- The reference's first result. -/
abbrev refThrough : FVec Ideal S16384x1024 .f32 :=
  addf Y (addf (addf (mulf (Ref.dn P Q W U V) (broadcastInDim Cert.NormReferenceIdeal.S16384x1024 ![0, 1]
      Cert.NormReferenceIdeal.Gen.bcast_S16384x1_S16384x1024_0_1 (Host.rsqrt (Ref.sq X))))
    (mulf X (Ref.half X (Ref.dn P Q W U V)))) (mulf (Ref.half X (Ref.dn P Q W U V)) X))

/-- The reference's second result. -/
abbrev refSums : FVec Ideal S8x1024 .f32 :=
  Ref.rows (Ref.total (Ref.dh P Q U V)) (Ref.total (mulf (mulf (Ref.xn X) (Ref.gain W)) (Ref.dh P Q U V)))
    (Ref.total (mulf (Ref.xn X) (Ref.dy P Q W U V)))

theorem dh_cot (t : Fin 16384) (l : Fin 1024) : Ref.dh P Q U V (ix2 t l) = cot P Q U V t l :=
  (Ref.dh_at P Q U V (ix2 t l)).trans (add_comm _ _)

theorem dy_cot (t : Fin 16384) (l : Fin 1024) : Ref.dy P Q W U V (ix2 t l) = cot P Q U V t l * (1 + W (ix2 2 l)) :=
  congrArg₂ (· * ·) (dh_cot P Q U V t l) (Ref.more_at W (ix2 t l))

theorem dn_cot (t : Fin 16384) (l : Fin 1024) : Ref.dn P Q W U V (ix2 t l) = cot P Q U V t l * (1 + W (ix2 2 l)) * W (ix2 0 l) :=
  congrArg₂ (· * ·) (dy_cot P Q W U V t l) (Ref.gain_at W (ix2 t l))

variable {P Q X W U V} in
theorem cot_real (h : Fine P Q X W U V) (t : Fin 16384) (l : Fin 1024) : IsReal (cot P Q U V t l) :=
  (IsReal.sum _ fun k => (h.P _).mul (h.U _)).add (IsReal.sum _ fun k => (h.Q _).mul (h.V _))

variable {P Q X W U V} in
theorem through_eq (h : Fine P Q X W U V) : through P Q X Y W U V = refThrough P Q X Y W U V := by
  funext i
  refine Eq.trans ?_ (Ref.out0_at P Q X Y W U V i).symm
  obtain ⟨e, he, hE⟩ := eps_eq
  refine congrArg (Y i + ·) ?_
  rw [hE]
  refine (back_eq he (x := fun l => X (ix2 (show Fin 16384 from i 0) l))
    (d := fun l => cot P Q U V (show Fin 16384 from i 0) l * (1 + W (ix2 2 l)) * W (ix2 0 l)) (fun j => h.X _)
    (fun j => ((cot_real h _ _).mul (IsReal.one.add (h.W _))).mul (h.W _)) _).trans ?_
  exact congrFun (congrArg (refBack e _) (funext fun l => (dn_cot P Q W U V (show Fin 16384 from i 0) l).symm)) (i 1)

theorem sums_eq : sums P Q X W U V = refSums P Q X W U V := by
  funext i
  refine Eq.trans ?_ (Ref.rows_at _ _ _ i).symm
  obtain ⟨r, l, rfl⟩ : ∃ (r : Fin 8) (l : Fin 1024), i = ix2 r l := ⟨i 0, i 1, by funext k; fin_cases k <;> rfl⟩
  show ∑ t : Fin 16384, part P Q X W U V r l t = if (r : ℕ) = 0 then _ else if (r : ℕ) = 1 then _ else if (r : ℕ) = 2 then _ else 0
  have hx : ∀ t : Fin 16384, Ref.xn X (ix2 t l) = normed X t l := fun t => Ref.xn_at X (ix2 t l)
  by_cases h0 : (r : ℕ) = 0
  · simp only [part, if_pos h0]
    refine Eq.trans ?_ (Ref.total_at _ _).symm
    exact Finset.sum_congr rfl fun t _ => (dh_cot P Q U V t l).symm
  · by_cases h1 : (r : ℕ) = 1
    · simp only [part, if_neg h0, if_pos h1]
      refine Eq.trans ?_ (Ref.total_at _ _).symm
      refine Finset.sum_congr rfl fun t _ => ?_
      refine Eq.trans ?_ (show Ref.xn X (ix2 t l) * Ref.gain W (ix2 t l) * Ref.dh P Q U V (ix2 t l) = _ from rfl)
      rw [dh_cot, hx, Ref.gain_at]
      exact mul_comm _ _
    · by_cases h2 : (r : ℕ) = 2
      · simp only [part, if_neg h0, if_neg h1, if_pos h2]
        refine Eq.trans ?_ (Ref.total_at _ _).symm
        refine Finset.sum_congr rfl fun t _ => ?_
        refine Eq.trans ?_ (show Ref.xn X (ix2 t l) * Ref.dy P Q W U V (ix2 t l) = _ from rfl)
        rw [dy_cot, hx]
        exact mul_comm _ _
      · simp only [part, if_neg h0, if_neg h1, if_neg h2, Finset.sum_const_zero]

end

theorem value : Cert.algebraic_NormKernelIdeal_NormReferenceIdeal_pre_finite_norm := by
  intro m g m' g' hm hargs
  refine ⟨fun c => refThrough (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)),
    fun c => refSums (m ((c : Thread nD τ).loc main_arg0)) (m ((c : Thread nD τ).loc main_arg1)) (m ((c : Thread nD τ).loc main_arg2))
      (m ((c : Thread nD τ).loc main_arg4)) (m ((c : Thread nD τ).loc main_arg5)) (m ((c : Thread nD τ).loc main_arg6)), ?_, ?_⟩
  · refine (θ_run _ _ _).mono (fun r h c => ?_) (Cert.NormKernelIdeal.Value.run_blocks m g)
    obtain ⟨h0, h1, ha⟩ := h c
    exact ⟨h0.trans ((final7 m c).trans (through_eq _ (fine m hm c))), h1.trans ((final8 m c).trans (sums_eq _ _ _ _ _ _)), ha⟩
  · refine (θ_run _ _ _).mono (fun r h c => ?_) (Cert.NormReferenceIdeal.Value.run m' g')
    obtain ⟨h0, h1, ha⟩ := h c
    obtain ⟨e0, e1, e2, e3, e4, e5, e6⟩ := hargs c
    have k0 := h0.trans (Ref.out0 m' c)
    have k1 := h1.trans (Ref.out1 m' c)
    rw [e0, e1, e2, e3, e4, e5, e6] at k0
    rw [e0, e1, e2, e4, e5, e6] at k1
    exact ⟨k0, k1, ha⟩

theorem frame_reference : Cert.quiescent_NormReferenceIdeal := fun m g _ =>
  (θ_run _ _ _).mono (fun r h => ⟨fun c => (h c).2.2, sem_eq_zero_of_no_sems rfl r.2⟩)
    (Cert.NormReferenceIdeal.Value.run m g)

end Cert.Norm

end
-- ==== Proof.OutGrad.lean ====
/- The output projection's weight gradient: the kernel adds up its blocks of tokens to the reference's product. -/
module

public import proofs.«01_k».proof.Defs
public import proofs.«01_k».proof.Proof.Gen.OutKernel.Frame
public import proofs.«01_k».proof.Proof.Gen.OutKernelIdeal.Value
public import proofs.«01_k».proof.Proof.Gen.OutReferenceIdeal.Run
public import Idealize.ShloMosaic.Lib.Quiescent
public import Idealize.ShloMosaic.Lib.Pipeline.ValueKit

@[expose] public section

set_option maxRecDepth 16384

noncomputable section

namespace Cert.OutGrad

open Idealize.ShloMosaic Idealize.ShloMosaic.TcCoe Idealize.SL.Sem
open Idealize.ShloMosaic.Pipeline (Dat)
open Cert.OutKernelIdeal Cert.OutKernelIdeal.Gen

variable (m : (ℓ : Loc nD τ sig) → Buf (Elt Ideal) ℓ)

/-- The reference's weight gradient of the arrays `A` (tokens by outputs of the transposed weight) and `B`. -/
abbrev grad (A : FVec Ideal S16384x1024 .bf16) (B : FVec Ideal S16384x1024 .bf16) : FVec Ideal S1024x1024 .f32 :=
  transpose S1024x1024 [1, 0]
    (Host.dotGeneral Cert.OutReferenceIdeal.dot_S16384x1024_S16384x1024_S1024x1024_0_0_1_1_n_n none
      (extf .f32 B Cert.OutReferenceIdeal.Gen.bitsLt_bf16_f32) (extf .f32 A Cert.OutReferenceIdeal.Gen.bitsLt_bf16_f32))
    Cert.OutReferenceIdeal.Gen.transposes_S1024x1024_S1024x1024_1_0

theorem zero_at (j : S1024x1024.Idx) : k0_pay1 (F := Ideal) j = 0 := by
  pointwise [k0_pay1]

theorem part_at (acc : Vec Ideal S1024x1024 .f32) (x : Vec Ideal S2048x1024 .bf16) (y : Vec Ideal S2048x1024 .bf16) (j : S1024x1024.Idx) :
    k0_pay2 (F := Ideal) acc x y j = acc j + ∑ k : Fin 2048, x (ix2 k (j 0)) * y (ix2 k (j 1)) := by
  pointwise [k0_pay2]

theorem kept_at (acc : Vec Ideal S1024x1024 .f32) (j : S1024x1024.Idx) : k0_pay3 (F := Ideal) acc j = acc j := by
  pointwise [k0_pay3]

theorem grad_at (A : FVec Ideal S16384x1024 .bf16) (B : FVec Ideal S16384x1024 .bf16) (j : S1024x1024.Idx) :
    grad A B j = ∑ l : Fin 16384, A (ix2 l (j 0)) * B (ix2 l (j 1)) := by
  pointwise [grad]
  exact Fin.sum_fin_congr fun k => mul_comm _ _

theorem idx : ∀ t : Fin cfg0.N, win0_0.index t = ![t.val % 8, t.val / 8] ∧ win0_1.index t = ![t.val % 8, 0]
    ∧ win0_2.index t = ![t.val / 8, 0] ∧ win0_3.index t = ![t.val / 8, 0] :=
  (by decide +kernel : ∀ t : Fin grid0.N, _)

/-- The first output's block after a run of eight token blocks: the sum of their parts. -/
theorem acc_sum (c : Dev nD) (t : Fin cfg0.N) (h : t.val % 8 = 8 - 1) (j : S1024x1024.Idx) :
    (outsAt0 m c t.val t.isLt).1 j
      = ∑ s : Fin 8, ∑ k : Fin 2048,
          (show FVec Ideal S2048x1024 .bf16 from iblk m c 0 ⟨8 * (t.val / 8) + s.val, Pipeline.run_point_lt_of_flush t h s⟩) (ix2 k (j 0))
            * (show FVec Ideal S2048x1024 .bf16 from iblk m c 1 ⟨8 * (t.val / 8) + s.val, Pipeline.run_point_lt_of_flush t h s⟩) (ix2 k (j 1)) := by
  refine (Pipeline.eq_sum_fin_of_reset_step_apply_of_flush (fun n h => (outsAt0 m c n h).1) 8 (fun _ => (0 : EReal))
    (fun p j => ∑ k : Fin 2048, (show FVec Ideal S2048x1024 .bf16 from iblk m c 0 p) (ix2 k (j 0))
      * (show FVec Ideal S2048x1024 .bf16 from iblk m c 1 p) (ix2 k (j 1)))
    (fun t h j => ?_) (fun t h j => ?_) t h j).trans (zero_add _)
  · rw [outsAt0_A m c t h (by omega)]
    frame_out
    rw [part_at, zero_at]
  · by_cases h1 : t.val % 8 = 7
    · rw [outsAt0_C m c t h h1]
      frame_out
      rw [part_at]
    · rw [outsAt0_B m c t h h1]
      frame_out
      rw [part_at]

theorem acc_eq (c : Dev nD) (t : Fin cfg0.N) (h : t.val % 8 = 8 - 1) (j : S1024x1024.Idx) (i : S1024x1024.Idx)
    (h0 : (i 0 : ℕ) = t.val / 8 * 1024 + (j 0 : ℕ)) (h1 : (i 1 : ℕ) = j 1) :
    (outsAt0 m c t.val t.isLt).1 j = grad (m ((c : Thread nD τ).loc main_arg0)) (m ((c : Thread nD τ).loc main_arg1)) i := by
  rw [acc_sum m c t h j, grad_at]
  refine Fin.sum_mul_add_congr fun s k hl => ?_
  have hs := idx ⟨_, Pipeline.run_point_lt_of_flush t h s⟩
  blk_point [iblk, V, hs]

theorem final2 (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  refine acc_eq m c t ((flush0_2 t).mp hf) y _ ?_ ?_ <;> blk_simp [idx t]

theorem final3 (c : Dev nD) : (dats m 0 c).arrAt 3 cfg0.N
    = truncf .bf16 (grad (m ((c : Thread nD τ).loc main_arg0)) (m ((c : Thread nD τ).loc main_arg1))) Cert.OutReferenceIdeal.Gen.bitsLt_bf16_f32 := by
  refine (dats m 0 c).arrAt_eq_of_covers 3 _ (by decide +kernel) fun t hf y => ?_
  have h := (flush0_3 t).mp hf
  blk_simp
  have e := acc_eq m c t h y (((cfg0.win 3).blk t).view.emb y) (by blk_simp [idx t]) (by blk_simp [idx t])
  refine Eq.trans ?_ e
  rw [after0_3]
  rw [outsAt0_C m c t (by omega) h]
  frame_out
  rw [kept_at]

theorem value : Cert.algebraic_OutKernelIdeal_OutReferenceIdeal := by
  intro m g m' g' _ hargs
  refine ⟨fun c => grad (m ((c : Thread nD τ).loc main_arg0)) (m ((c : Thread nD τ).loc main_arg1)),
    fun c => truncf .bf16 (grad (m ((c : Thread nD τ).loc main_arg0)) (m ((c : Thread nD τ).loc main_arg1)))
      Cert.OutReferenceIdeal.Gen.bitsLt_bf16_f32, ?_, ?_⟩
  · refine (θ_run _ _ _).mono (fun r h c => ?_) (Cert.OutKernelIdeal.Value.run_blocks m g)
    obtain ⟨h2, h3, ha, hb⟩ := h c
    exact ⟨h2.trans (final2 m c), h3.trans (final3 m c), ha, hb⟩
  · refine (θ_run _ _ _).mono (fun r h c => ?_) (Cert.OutReferenceIdeal.Value.run m' g')
    obtain ⟨h5, h6, ha, hb⟩ := h c
    obtain ⟨e0, e1⟩ := hargs c
    rw [e0, e1] at h5 h6
    exact ⟨h5, h6, ha, hb⟩

theorem frame_reference : Cert.quiescent_OutReferenceIdeal := fun m g _ =>
  (θ_run _ _ _).mono (fun r h => ⟨fun c => (h c).2.2, sem_eq_zero_of_no_sems rfl r.2⟩)
    (Cert.OutReferenceIdeal.Value.run m g)

end Cert.OutGrad

end
-- ==== Proof.InGrad.lean ====
/- The gradient of the input projection: the kernel starts from the given block and adds up its blocks of tokens to the
   reference's product. -/
module

public import proofs.«01_k».proof.Defs
public import proofs.«01_k».proof.Proof.Gen.InKernel.Frame
public import proofs.«01_k».proof.Proof.Gen.InKernelIdeal.Value
public import proofs.«01_k».proof.Proof.Gen.InReferenceIdeal.Run
public import Idealize.ShloMosaic.Lib.Quiescent
public import Idealize.ShloMosaic.Lib.Pipeline.ValueKit

@[expose] public section

set_option maxRecDepth 16384

noncomputable section

namespace Cert.InGrad

open Idealize.ShloMosaic Idealize.ShloMosaic.TcCoe Idealize.SL.Sem
open Idealize.ShloMosaic.Pipeline (Dat)
open Cert.InKernelIdeal Cert.InKernelIdeal.Gen

variable (m : (ℓ : Loc nD τ sig) → Buf (Elt Ideal) ℓ)

/-- The product of the arrays `A` (tokens by outputs) and `B` over the tokens. -/
abbrev prod (A : FVec Ideal S16384x2688 .bf16) (B : FVec Ideal S16384x1024 .bf16) : FVec Ideal S2688x1024 .f32 :=
  transpose S2688x1024 [1, 0]
    (Host.dotGeneral Cert.InReferenceIdeal.dot_S16384x1024_S16384x2688_S1024x2688_0_0_1_1_n_n none
      (extf .f32 B Cert.InReferenceIdeal.Gen.bitsLt_bf16_f32) (extf .f32 A Cert.InReferenceIdeal.Gen.bitsLt_bf16_f32))
    Cert.InReferenceIdeal.Gen.transposes_S1024x2688_S2688x1024_1_0

/-- The reference's gradient: what is given, and the product added to it. -/
abbrev grad (A : FVec Ideal S16384x2688 .bf16) (B : FVec Ideal S16384x1024 .bf16) (C : FVec Ideal S2688x1024 .f32) :
    FVec Ideal S2688x1024 .f32 :=
  addf C (prod A B)

theorem part_at (acc : Vec Ideal S896x1024 .f32) (x : Vec Ideal S2048x896 .bf16) (y : Vec Ideal S2048x1024 .bf16) (j : S896x1024.Idx) :
    k0_pay1 (F := Ideal) acc x y j = acc j + ∑ k : Fin 2048, x (ix2 k (j 0)) * y (ix2 k (j 1)) := by
  pointwise [k0_pay1]

theorem kept_at (acc : Vec Ideal S896x1024 .f32) (j : S896x1024.Idx) : k0_pay2 (F := Ideal) acc j = acc j := by
  pointwise [k0_pay2]

theorem prod_at (A : FVec Ideal S16384x2688 .bf16) (B : FVec Ideal S16384x1024 .bf16) (j : S2688x1024.Idx) :
    prod A B j = ∑ l : Fin 16384, A (ix2 l (j 0)) * B (ix2 l (j 1)) := by
  pointwise [prod]
  exact Fin.sum_fin_congr fun k => mul_comm _ _

theorem idx : ∀ t : Fin cfg0.N, win0_0.index t = ![t.val % 8, t.val / 8] ∧ win0_1.index t = ![t.val % 8, 0]
    ∧ win0_2.index t = ![t.val / 8, 0] ∧ win0_3.index t = ![t.val / 8, 0] ∧ win0_4.index t = ![t.val / 8, 0] :=
  (by decide +kernel : ∀ t : Fin grid0.N, _)

/-- The sum's part at one block of tokens. -/
abbrev part (c : Dev nD) (p : Fin cfg0.N) (j : S896x1024.Idx) : EReal :=
  ∑ k : Fin 2048, (show FVec Ideal S2048x896 .bf16 from iblk m c 0 p) (ix2 k (j 0))
    * (show FVec Ideal S2048x1024 .bf16 from iblk m c 1 p) (ix2 k (j 1))

/-- What is given at one block, added at a run's first point only. -/
abbrev given (c : Dev nD) (p : Fin cfg0.N) (j : S896x1024.Idx) : EReal :=
  if p.val % 8 = 0 then (show FVec Ideal S896x1024 .f32 from iblk m c 2 p) j else 0

/-- The first output's block after a run of eight token blocks: what is given and the sum of their parts. -/
theorem acc_sum (c : Dev nD) (t : Fin cfg0.N) (h : t.val % 8 = 8 - 1) (j : S896x1024.Idx) :
    (outsAt0 m c t.val t.isLt).1 j
      = ∑ s : Fin 8, (given m c ⟨8 * (t.val / 8) + s.val, Pipeline.run_point_lt_of_flush t h s⟩ j
          + part m c ⟨8 * (t.val / 8) + s.val, Pipeline.run_point_lt_of_flush t h s⟩ j) := by
  refine (Pipeline.eq_sum_fin_of_reset_step_apply_of_flush (fun n h => (outsAt0 m c n h).1) 8 (fun _ => (0 : EReal))
    (fun p j => given m c p j + part m c p j)
    (fun t h j => ?_) (fun t h j => ?_) t h j).trans (zero_add _)
  · rw [outsAt0_A m c t h (by omega), zero_add, given, if_pos h]
    frame_out
    rw [part_at]
  · rw [given, if_neg h, zero_add]
    by_cases h1 : t.val % 8 = 7
    · rw [outsAt0_C m c t h h1]
      frame_out
      rw [part_at]
    · rw [outsAt0_B m c t h h1]
      frame_out
      rw [part_at]

theorem acc_eq (c : Dev nD) (t : Fin cfg0.N) (h : t.val % 8 = 8 - 1) (j : S896x1024.Idx) (i : S2688x1024.Idx)
    (h0 : (i 0 : ℕ) = t.val / 8 * 896 + (j 0 : ℕ)) (h1 : (i 1 : ℕ) = j 1) :
    (outsAt0 m c t.val t.isLt).1 j = grad (m ((c : Thread nD τ).loc main_arg0)) (m ((c : Thread nD τ).loc main_arg1))
      (m ((c : Thread nD τ).loc main_arg2)) i := by
  rw [acc_sum m c t h j, Finset.sum_add_distrib]
  refine (congrArg₂ (fun a b : EReal => a + b) ?_ ?_ : _ = (show FVec Ideal S2688x1024 .f32 from m ((c : Thread nD τ).loc main_arg2)) i
    + prod (m ((c : Thread nD τ).loc main_arg0)) (m ((c : Thread nD τ).loc main_arg1)) i)
  · have hs := idx ⟨_, Pipeline.run_point_lt_of_flush t h 0⟩
    refine ((Finset.sum_eq_single (0 : Fin 8) (fun s _ hs => if_neg ?_) (fun h => absurd (Finset.mem_univ _) h)).trans
      (if_pos ?_)).trans ?_
    · have := s.isLt
      have : s.val ≠ 0 := fun e => hs (Fin.ext e)
      dsimp only
      omega
    · dsimp only
      simp
    · blk_point [iblk, V, hs]
  · rw [prod_at]
    refine Fin.sum_mul_add_congr fun s k hl => ?_
    have hs := idx ⟨_, Pipeline.run_point_lt_of_flush t h s⟩
    blk_point [iblk, V, hs]

theorem final3 (c : Dev nD) : (dats m 0 c).arrAt 3 cfg0.N
    = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine acc_eq m c t ((flush0_3 t).mp hf) y _ ?_ ?_ <;> blk_simp [idx t]

theorem final4 (c : Dev nD) : (dats m 0 c).arrAt 4 cfg0.N
    = truncf .bf16 (grad (m ((c : Thread nD τ).loc main_arg0)) (m ((c : Thread nD τ).loc main_arg1)) (m ((c : Thread nD τ).loc main_arg2))) Cert.InReferenceIdeal.Gen.bitsLt_bf16_f32 := by
  refine (dats m 0 c).arrAt_eq_of_covers 4 _ (by decide +kernel) fun t hf y => ?_
  have h := (flush0_4 t).mp hf
  blk_simp
  have e := acc_eq m c t h y (((cfg0.win 4).blk t).view.emb y) (by blk_simp [idx t]) (by blk_simp [idx t])
  refine Eq.trans ?_ e
  rw [after0_4]
  rw [outsAt0_C m c t (by omega) h]
  frame_out
  rw [kept_at]

theorem value : Cert.algebraic_InKernelIdeal_InReferenceIdeal := by
  intro m g m' g' _ hargs
  refine ⟨fun c => grad (m ((c : Thread nD τ).loc main_arg0)) (m ((c : Thread nD τ).loc main_arg1)) (m ((c : Thread nD τ).loc main_arg2)),
    fun c => truncf .bf16 (grad (m ((c : Thread nD τ).loc main_arg0)) (m ((c : Thread nD τ).loc main_arg1)) (m ((c : Thread nD τ).loc main_arg2)))
      Cert.InReferenceIdeal.Gen.bitsLt_bf16_f32, ?_, ?_⟩
  · refine (θ_run _ _ _).mono (fun r h c => ?_) (Cert.InKernelIdeal.Value.run_blocks m g)
    obtain ⟨h2, h3, ha, hb, hc⟩ := h c
    exact ⟨h2.trans (final3 m c), h3.trans (final4 m c), ha, hb, hc⟩
  · refine (θ_run _ _ _).mono (fun r h c => ?_) (Cert.InReferenceIdeal.Value.run m' g')
    obtain ⟨h5, h6, ha, hb, hc⟩ := h c
    obtain ⟨e0, e1, e2⟩ := hargs c
    rw [e0, e1, e2] at h5 h6
    exact ⟨h5, h6, ha, hb, hc⟩

theorem frame_reference : Cert.quiescent_InReferenceIdeal := fun m g _ =>
  (θ_run _ _ _).mono (fun r h => ⟨fun c => (h c).2.2, sem_eq_zero_of_no_sems rfl r.2⟩)
    (Cert.InReferenceIdeal.Value.run m g)

end Cert.InGrad

end
-- ==== Proof.lean ====
/- The proof of the claims. -/
module

public import proofs.«01_k».proof.Defs
public import proofs.«01_k».proof.Proof.Value
public import proofs.«01_k».proof.Proof.Grad
public import proofs.«01_k».proof.Proof.Ffn
public import proofs.«01_k».proof.Proof.Norm
public import proofs.«01_k».proof.Proof.OutGrad
public import proofs.«01_k».proof.Proof.InGrad
public import proofs.«01_k».proof.Proof.Gen.GradKernel.Frame
public import proofs.«01_k».proof.Proof.Gen.GradKernelIdeal.Frame
public import proofs.«01_k».proof.Proof.Gen.FfnKernel.Frame
public import proofs.«01_k».proof.Proof.Gen.FfnKernelIdeal.Frame
public import proofs.«01_k».proof.Proof.Gen.NormKernel.Frame
public import proofs.«01_k».proof.Proof.Gen.NormKernelIdeal.Frame
public import proofs.«01_k».proof.Proof.Gen.NormKernelIdeal.Value
public import proofs.«01_k».proof.Proof.Gen.NormReferenceIdeal.Run
public import proofs.«01_k».proof.Proof.Gen.OutKernel.Frame
public import proofs.«01_k».proof.Proof.Gen.OutKernelIdeal.Frame
public import proofs.«01_k».proof.Proof.Gen.InKernel.Frame
public import proofs.«01_k».proof.Proof.Gen.InKernelIdeal.Frame

@[expose] public section

noncomputable section

namespace Cert.Proof

theorem claim : Cert.Claim := ⟨Cert.Kernel.Gen.facts, Cert.KernelIdeal.Gen.facts, Cert.ReferenceIdeal.Gen.facts,
  Cert.GradKernel.Gen.facts, Cert.GradKernelIdeal.Gen.facts, Cert.GradReferenceIdeal.Gen.facts,
  Cert.FfnKernel.Gen.facts, Cert.FfnKernelIdeal.Gen.facts, Cert.FfnReferenceIdeal.Gen.facts,
  Cert.NormKernel.Gen.facts, Cert.NormKernelIdeal.Gen.facts, Cert.NormReferenceIdeal.Gen.facts,
  Cert.OutKernel.Gen.facts, Cert.OutKernelIdeal.Gen.facts, Cert.OutReferenceIdeal.Gen.facts,
  Cert.InKernel.Gen.facts, Cert.InKernelIdeal.Gen.facts, Cert.InReferenceIdeal.Gen.facts,
  Cert.Gla.finiteFacts, Cert.Ffn.facts, Cert.Norm.finiteFacts,
  Cert.Gla.frame_kernel, Cert.Gla.frame_ideal, fun m g _ => Cert.Gla.frame_ideal m g trivial, Cert.Gla.frame_reference,
  fun m g _ => Cert.Gla.frame_reference m g trivial,
  fun m g _ => Cert.GradKernel.Gen.frame m g, fun m g _ => Cert.GradKernelIdeal.Gen.frame m g, Cert.Grad.frame_reference,
  fun m g _ => Cert.FfnKernel.Gen.frame m g, fun m g _ => Cert.FfnKernelIdeal.Gen.frame m g,
  fun m g _ => Cert.FfnKernelIdeal.Gen.frame m g, Cert.Ffn.frame_reference, fun m g _ => Cert.Ffn.frame_reference m g trivial,
  fun m g _ => Cert.NormKernel.Gen.frame m g, fun m g _ => Cert.NormKernelIdeal.Gen.frame m g,
  fun m g _ => Cert.NormKernelIdeal.Gen.frame m g, Cert.Norm.frame_reference, fun m g _ => Cert.Norm.frame_reference m g trivial,
  fun m g _ => Cert.OutKernel.Gen.frame m g, fun m g _ => Cert.OutKernelIdeal.Gen.frame m g, Cert.OutGrad.frame_reference,
  fun m g _ => Cert.InKernel.Gen.frame m g, fun m g _ => Cert.InKernelIdeal.Gen.frame m g, Cert.InGrad.frame_reference,
  Cert.Gla.kept_preserves, Cert.Gla.value, trivial, Cert.Grad.value, trivial, Cert.Ffn.value, trivial, Cert.Norm.value,
  trivial, Cert.OutGrad.value,
  trivial, Cert.InGrad.value⟩

end Cert.Proof

end
